-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_pool_rows_finite [hPre_pool_rows_finite : Cert.Pre_pool_rows_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_pool_rows_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_pool_rows_finite [hPre_pool_rows_finite : Cert.Pre_pool_rows_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_pool_rows_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_pool_rows_finite [hKernel8Ideal : Cert.Kernel8Ideal.Facts] [hPre_pool_rows_finite : Cert.Pre_pool_rows_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_pool_rows_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_pool_rows_finite [hReference8Ideal : Cert.Reference8Ideal.Facts] [hPre_pool_rows_finite : Cert.Pre_pool_rows_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_pool_rows_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_on_projected [hKernelIdeal : Cert.KernelIdeal.Facts] [hReferenceIdeal : Cert.ReferenceIdeal.Facts] [hOn_projected : Cert.On_projected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 6144]⟩ : Shape).Idx, (Cert.On_projected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v17_0) i = v0 c i)
          ∧ (∀ i : (⟨2, ![8192, 4096]⟩ : Shape).Idx, (Cert.On_projected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v17_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 6144]⟩ : Shape).Idx, (Cert.On_projected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v57) i = v0 c i)
          ∧ (∀ i : (⟨2, ![8192, 4096]⟩ : Shape).Idx, (Cert.On_projected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v61) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_on_projected_sample [hKernel6Ideal : Cert.Kernel6Ideal.Facts] [hReference6Ideal : Cert.Reference6Ideal.Facts] [hOn_projected_sample : Cert.On_projected_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![32, 6144]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 i = 1#1 → r.2.mem ((c.tc : Thread Cert.Kernel6Ideal.nD Cert.Kernel6Ideal.τ).loc Cert.Kernel6Ideal.main_v18_0) i = v0 c i)
          ∧ (∀ i : (⟨2, ![32, 4096]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 i = 1#1 → r.2.mem ((c.tc : Thread Cert.Kernel6Ideal.nD Cert.Kernel6Ideal.τ).loc Cert.Kernel6Ideal.main_v18_1) i = v1 c i)
          ∧ (∀ i : (⟨2, ![2048, 6144]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 i = 1#1 → r.2.mem ((c.tc : Thread Cert.Kernel6Ideal.nD Cert.Kernel6Ideal.τ).loc Cert.Kernel6Ideal.main_v18_2) i = v2 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![32, 6144]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 i = 1#1 → r.2.mem ((c.tc : Thread Cert.Reference6Ideal.nD Cert.Reference6Ideal.τ).loc Cert.Reference6Ideal.main_v57) i = v0 c i)
          ∧ (∀ i : (⟨2, ![32, 4096]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 i = 1#1 → r.2.mem ((c.tc : Thread Cert.Reference6Ideal.nD Cert.Reference6Ideal.τ).loc Cert.Reference6Ideal.main_v61) i = v1 c i)
          ∧ (∀ i : (⟨2, ![2048, 6144]⟩ : Shape).Idx, (Cert.On_projected_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 i = 1#1 → r.2.mem ((c.tc : Thread Cert.Reference6Ideal.nD Cert.Reference6Ideal.τ).loc Cert.Reference6Ideal.main_v63) i = v2 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_pool_rows_finite [hKernel8Ideal : Cert.Kernel8Ideal.Facts] [hReference8Ideal : Cert.Reference8Ideal.Facts] [hPre_pool_rows_finite : Cert.Pre_pool_rows_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_pool_rows_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v13)) (v1 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13) = v0 c
          ∧ r.2.mem ((c.tc : Thread Cert.Kernel8Ideal.nD Cert.Kernel8Ideal.τ).loc Cert.Kernel8Ideal.main_v9) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_v86) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_pool_rows_finite : Cert.Pre_pool_rows_finite.Facts) (hOn_projected : Cert.On_projected.Facts) (hOn_projected_sample : Cert.On_projected_sample.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_pool_rows_finite (hKernel8Ideal := hKernel8Ideal) (hPre_pool_rows_finite := hPre_pool_rows_finite)
    ∧ quiescent_Reference8Ideal (hReference8Ideal := hReference8Ideal)
    ∧ quiescent_Reference8Ideal_pre_pool_rows_finite (hReference8Ideal := hReference8Ideal) (hPre_pool_rows_finite := hPre_pool_rows_finite)
    ∧ preserves_Kernel_KernelIdeal
    ∧ algebraic_KernelIdeal_ReferenceIdeal_on_projected (hKernelIdeal := hKernelIdeal) (hReferenceIdeal := hReferenceIdeal) (hOn_projected := hOn_projected)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_projected_sample (hKernel6Ideal := hKernel6Ideal) (hReference6Ideal := hReference6Ideal) (hOn_projected_sample := hOn_projected_sample)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_pool_rows_finite (hKernel8Ideal := hKernel8Ideal) (hReference8Ideal := hReference8Ideal) (hPre_pool_rows_finite := hPre_pool_rows_finite)
-- ==== On_projected.lean ====
abbrev S1x8192x2048 : Shape := ⟨3, ![1, 8192, 2048]⟩
abbrev S2x2048 : Shape := ⟨2, ![2, 2048]⟩
abbrev S2048x6144 : Shape := ⟨2, ![2048, 6144]⟩
abbrev S1x128 : Shape := ⟨2, ![1, 128]⟩
abbrev S8192x4096 : Shape := ⟨2, ![8192, 4096]⟩
abbrev S_ : Shape := ⟨0, ![]⟩
abbrev S8192x6144 : Shape := ⟨2, ![8192, 6144]⟩

class Facts : Prop where
  bcast_S_S8192x6144 : S_.BroadcastsInDim S8192x6144 (![] : Fin 0 → Fin S8192x6144.rank)
  bcast_S_S8192x4096 : S_.BroadcastsInDim S8192x4096 (![] : Fin 0 → Fin S8192x4096.rank)

variable [Facts]

def fn {F : FTy → Type} [FloatOps F] (main_arg0 : FVec F S1x8192x2048 .f32) (main_arg1 : FVec F S2x2048 .f32) (main_arg2 : FVec F S2048x6144 .bf16) (main_arg3 : FVec F S1x128 .f32) (main_arg4 : FVec F S1x128 .f32) : IVec S8192x6144 1 × IVec S8192x4096 1 :=
  let main_v0 : IVec S8192x4096 32 := iotaInDim S8192x4096 32 1
  let main_c : IVec S_ 1 := constantI S_ 1 1#1
  let main_v1 : IVec S8192x6144 1 := broadcastInDim S8192x6144 ![] bcast_S_S8192x6144 main_c
  let main_c_0 : IVec S_ 32 := constantI S_ 32 3072#32
  let main_v2 : IVec S8192x4096 32 := broadcastInDim S8192x4096 ![] bcast_S_S8192x4096 main_c_0
  let main_v3 : IVec S8192x4096 1 := cmpi .slt main_v0 main_v2
  (main_v1, main_v3)
-- ==== On_projected_sample.lean ====
abbrev S32x1x2048 : Shape := ⟨3, ![32, 1, 2048]⟩
abbrev S2x2048 : Shape := ⟨2, ![2, 2048]⟩
abbrev S1x2048x6144 : Shape := ⟨3, ![1, 2048, 6144]⟩
abbrev S1x128 : Shape := ⟨2, ![1, 128]⟩
abbrev S32x4096 : Shape := ⟨2, ![32, 4096]⟩
abbrev S_ : Shape := ⟨0, ![]⟩
abbrev S32x6144 : Shape := ⟨2, ![32, 6144]⟩
abbrev S2048x6144 : Shape := ⟨2, ![2048, 6144]⟩

class Facts : Prop where
  bcast_S_S32x6144 : S_.BroadcastsInDim S32x6144 (![] : Fin 0 → Fin S32x6144.rank)
  bcast_S_S32x4096 : S_.BroadcastsInDim S32x4096 (![] : Fin 0 → Fin S32x4096.rank)
  bcast_S_S2048x6144 : S_.BroadcastsInDim S2048x6144 (![] : Fin 0 → Fin S2048x6144.rank)

variable [Facts]

def fn {F : FTy → Type} [FloatOps F] (main_arg0 : FVec F S32x1x2048 .f32) (main_arg1 : FVec F S2x2048 .f32) (main_arg2 : FVec F S1x2048x6144 .f32) (main_arg3 : FVec F S1x128 .f32) (main_arg4 : FVec F S1x128 .f32) : IVec S32x6144 1 × IVec S32x4096 1 × IVec S2048x6144 1 :=
  let main_v0 : IVec S32x4096 32 := iotaInDim S32x4096 32 1
  let main_c : IVec S_ 1 := constantI S_ 1 1#1
  let main_v1 : IVec S32x6144 1 := broadcastInDim S32x6144 ![] bcast_S_S32x6144 main_c
  let main_c_0 : IVec S_ 32 := constantI S_ 32 3072#32
  let main_v2 : IVec S32x4096 32 := broadcastInDim S32x4096 ![] bcast_S_S32x4096 main_c_0
  let main_v3 : IVec S32x4096 1 := cmpi .slt main_v0 main_v2
  let main_c_1 : IVec S_ 1 := constantI S_ 1 1#1
  let main_v4 : IVec S2048x6144 1 := broadcastInDim S2048x6144 ![] bcast_S_S2048x6144 main_c_1
  (main_v1, main_v3, main_v4)
-- ==== Pre_pool_rows_finite.lean ====
abbrev S32x6144 : Shape := ⟨2, ![32, 6144]⟩
abbrev S32x1024 : Shape := ⟨2, ![32, 1024]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S32x15x1024 : Shape := ⟨3, ![32, 15, 1024]⟩
abbrev S32x1x1024 : Shape := ⟨3, ![32, 1, 1024]⟩
abbrev S32x16x1024 : Shape := ⟨3, ![32, 16, 1024]⟩
abbrev S_ : Shape := ⟨0, ![]⟩

class Facts : Prop where
  shapeCasts_S1x32x15x1024_S32x15x1024 : S1x32x15x1024.ShapeCasts S32x15x1024
  slices_S32x6144_S32x1024_0_3072 : S32x6144.Slices ![0, 3072] S32x1024
  bcast_S32x1024_S32x1x1024_0_2 : S32x1024.BroadcastsInDim S32x1x1024 (![0, 2] : Fin 2 → Fin S32x1x1024.rank)
  concatenates_S32x15x1024_S32x1x1024_S32x16x1024_d1 : Shape.Concatenates [S32x15x1024, S32x1x1024] S32x16x1024 1
  bcast_S_S32x16x1024 : S_.BroadcastsInDim S32x16x1024 (![] : Fin 0 → Fin S32x16x1024.rank)

variable [Facts]

def fn {F : FTy → Type} [FloatOps F] (main_arg0 : FVec F S32x6144 .f32) (main_arg1 : FVec F S32x1024 .f32) (main_arg2 : FVec F S1x32x15x1024 .f32) (main_arg3 : FVec F S1x4x256x256 .f32) (main_arg4 : FVec F S1x1024 .f32) : IVec S32x16x1024 1 :=
  let main_v0 : FVec F S32x15x1024 .f32 := shapeCast S32x15x1024 main_arg2 shapeCasts_S1x32x15x1024_S32x15x1024
  let main_v1 : FVec F S32x1024 .f32 := (extractStridedSlice S32x1024 ![0, 3072] · slices_S32x6144_S32x1024_0_3072) main_arg0
  let main_v2 : FVec F S32x1x1024 .f32 := broadcastInDim S32x1x1024 ![0, 2] bcast_S32x1024_S32x1x1024_0_2 main_v1
  let main_v3 : FVec F S32x16x1024 .f32 := (fun a b => concatenate S32x16x1024 1 [⟨S32x15x1024, a⟩, ⟨S32x1x1024, b⟩] concatenates_S32x15x1024_S32x1x1024_S32x16x1024_d1) main_v0 main_v2
  let main_v4 : FVec F S32x16x1024 .f32 := Host.absf main_v3
  let main_cst : FVec F S_ .f32 := constant S_ .f32 0x7F800000#32
  let main_v5 : FVec F S32x16x1024 .f32 := broadcastInDim S32x16x1024 ![] bcast_S_S32x16x1024 main_cst
  let main_v6 : IVec S32x16x1024 1 := cmpf .olt main_v4 main_v5
  main_v6
-- ==== Kernel.lean ====
abbrev S1x8192x2048 : Shape := ⟨3, ![1, 8192, 2048]⟩
abbrev S2x2048 : Shape := ⟨2, ![2, 2048]⟩
abbrev S2048x6144 : Shape := ⟨2, ![2048, 6144]⟩
abbrev S1x128 : Shape := ⟨2, ![1, 128]⟩
abbrev S128 : Shape := ⟨1, ![128]⟩
abbrev S_ : Shape := ⟨0, ![]⟩
abbrev S8x128 : Shape := ⟨2, ![8, 128]⟩
abbrev S1024 : Shape := ⟨1, ![1024]⟩
abbrev S4096 : Shape := ⟨1, ![4096]⟩
abbrev S6144 : Shape := ⟨1, ![6144]⟩
abbrev S8192x2048 : Shape := ⟨2, ![8192, 2048]⟩
abbrev S1x2048 : Shape := ⟨2, ![1, 2048]⟩
abbrev S2048 : Shape := ⟨1, ![2048]⟩
abbrev S1x6144 : Shape := ⟨2, ![1, 6144]⟩
abbrev S8192x6144 : Shape := ⟨2, ![8192, 6144]⟩
abbrev S8192x4096 : Shape := ⟨2, ![8192, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024x1 : Shape := ⟨2, ![1024, 1]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 26
  | .vmem => 12
  | .smem => 0
  | _ => 0

abbrev bufTy : (tb : Table) → Fin (tcTables nBuf tb) → BufTy
  | .hbm, ⟨0, _⟩ => ⟨S1x8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S8x128, .f32⟩
  | .hbm, ⟨11, _⟩ => ⟨S1024, .f32⟩
  | .hbm, ⟨12, _⟩ => ⟨S128, .f32⟩
  | .hbm, ⟨13, _⟩ => ⟨S1x128, .f32⟩
  | .hbm, ⟨14, _⟩ => ⟨S8x128, .f32⟩
  | .hbm, ⟨15, _⟩ => ⟨S1024, .f32⟩
  | .hbm, ⟨16, _⟩ => ⟨S_, .f32⟩
  | .hbm, ⟨17, _⟩ => ⟨S4096, .f32⟩
  | .hbm, ⟨18, _⟩ => ⟨S6144, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S1x6144, .f32⟩
  | .hbm, ⟨24, _⟩ => ⟨S8192x6144, .f32⟩
  | .hbm, ⟨25, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x8192x2048 : Shape := ⟨3, ![1, 8192, 2048]⟩
abbrev S2x2048 : Shape := ⟨2, ![2, 2048]⟩
abbrev S2048x6144 : Shape := ⟨2, ![2048, 6144]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x6144 : Shape := ⟨3, ![1, 8192, 6144]⟩
abbrev S1x8192x1024 : Shape := ⟨3, ![1, 8192, 1024]⟩
abbrev S1x8192x8x128 : Shape := ⟨4, ![1, 8192, 8, 128]⟩
abbrev S128 : Shape := ⟨1, ![128]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩
abbrev S8192x6144 : Shape := ⟨2, ![8192, 6144]⟩
abbrev S1x8192x4096 : Shape := ⟨3, ![1, 8192, 4096]⟩
abbrev S8192x4096 : Shape := ⟨2, ![8192, 4096]⟩

abbrev nBuf : Space → Nat
  | .hbm => 78
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S1x2048, .f32⟩
  | .hbm, ⟨6, _⟩ => ⟨S2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S2048x6144, .f32⟩
  | .hbm, ⟨24, _⟩ => ⟨S1x8192x6144, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x2048, .f32⟩
  | .hbm, ⟨30, _⟩ => ⟨S1x8192x8x128, .f32⟩
  | .hbm, ⟨31, _⟩ => ⟨S128, .f32⟩
  | .hbm, ⟨32, _⟩ => ⟨S1x8192x8x128, .f32⟩
  | .hbm, ⟨33, _⟩ => ⟨S_, .f32⟩
  | .hbm, ⟨34, _⟩ => ⟨S1x8192x8, .f32⟩
  | .hbm, ⟨35, _⟩ => ⟨S1x8192x8x1, .f32⟩
  | .hbm, ⟨36, _⟩ => ⟨S_, .f32⟩
  | .hbm, ⟨37, _⟩ => ⟨S1x8192x8x1, .f32⟩
  | .hbm, ⟨38, _⟩ => ⟨S1x8192x8x1, .f32⟩
  | .hbm, ⟨39, _⟩ => ⟨S_, .f32⟩
  | .hbm, ⟨40, _⟩ => ⟨S1x8192x8x1, .f32⟩
  | .hbm, ⟨41, _⟩ => ⟨S1x8192x8x1, .f32⟩
  | .hbm, ⟨42, _⟩ => ⟨S1x8192x8x1, .f32⟩
  | .hbm, ⟨43, _⟩ => ⟨S1x8192x8x128, .f32⟩
  | .hbm, ⟨44, _⟩ => ⟨S1x8192x8x128, .f32⟩
  | .hbm, ⟨45, _⟩ => ⟨S1x1x1x128, .f32⟩
  | .hbm, ⟨46, _⟩ => ⟨S1x8192x8x128, .f32⟩
  | .hbm, ⟨47, _⟩ => ⟨S1x8192x8x128, .f32⟩
  | .hbm, ⟨48, _⟩ => ⟨S1x8192x8x128, .f32⟩
  | .hbm, ⟨49, _⟩ => ⟨S128, .f32⟩
  | .hbm, ⟨50, _⟩ => ⟨S1x8192x8x128, .f32⟩
  | .hbm, ⟨51, _⟩ => ⟨S_, .f32⟩
  | .hbm, ⟨52, _⟩ => ⟨S1x8192x8, .f32⟩
  | .hbm, ⟨53, _⟩ => ⟨S1x8192x8x1, .f32⟩
  | .hbm, ⟨54, _⟩ => ⟨S_, .f32⟩
  | .hbm, ⟨55, _⟩ => ⟨S1x8192x8x1, .f32⟩
  | .hbm, ⟨56, _⟩ => ⟨S1x8192x8x1, .f32⟩
  | .hbm, ⟨57, _⟩ => ⟨S_, .f32⟩
  | .hbm, ⟨58, _⟩ => ⟨S1x8192x8x1, .f32⟩
  | .hbm, ⟨59, _⟩ => ⟨S1x8192x8x1, .f32⟩
  | .hbm, ⟨60, _⟩ => ⟨S1x8192x8x1, .f32⟩
  | .hbm, ⟨61, _⟩ => ⟨S1x8192x8x128, .f32⟩
  | .hbm, ⟨62, _⟩ => ⟨S1x8192x8x128, .f32⟩
  | .hbm, ⟨63, _⟩ => ⟨S1x1x1x128, .f32⟩
  | .hbm, ⟨64, _⟩ => ⟨S1x8192x8x128, .f32⟩
  | .hbm, ⟨65, _⟩ => ⟨S1x8192x8x128, .f32⟩
  | .hbm, ⟨66, _⟩ => ⟨S_, .f32⟩
  | .hbm, ⟨67, _⟩ => ⟨S1x8192x8x128, .f32⟩
  | .hbm, ⟨68, _⟩ => ⟨S1x8192x8x128, .f32⟩
  | .hbm, ⟨69, _⟩ => ⟨S1x8192x1024, .f32⟩
  | .hbm, ⟨70, _⟩ => ⟨S1x8192x1024, .f32⟩
  | .hbm, ⟨71, _⟩ => ⟨S1x8192x6144, .f32⟩
  | .hbm, ⟨72, _⟩ => ⟨S8192x6144, .f32⟩
  | .hbm, ⟨73, _⟩ => ⟨S_, .f32⟩
  | .hbm, ⟨74, _⟩ => ⟨S1x8192x1024, .f32⟩
  | .hbm, ⟨75, _⟩ => ⟨S1x8192x4096, .f32⟩
  | .hbm, ⟨76, _⟩ => ⟨S8192x4096, .f32⟩
  | .hbm, ⟨77, _⟩ => ⟨S8192x4096, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel2.lean ====
abbrev S8192x2048 : Shape := ⟨2, ![8192, 2048]⟩
abbrev S2x2048 : Shape := ⟨2, ![2, 2048]⟩
abbrev S2048x6144 : Shape := ⟨2, ![2048, 6144]⟩
abbrev S1x2048 : Shape := ⟨2, ![1, 2048]⟩
abbrev S2048 : Shape := ⟨1, ![2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S256x2048 : Shape := ⟨2, ![256, 2048]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2x2048 : Shape := ⟨2, ![2, 2048]⟩
abbrev S2048x6144 : Shape := ⟨2, ![2048, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x6144, .f32⟩
  | .hbm, ⟨22, _⟩ => ⟨S8192x6144, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x6144 : Shape := ⟨2, ![8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S128x2048 : Shape := ⟨2, ![128, 2048]⟩
abbrev S512x2048 : Shape := ⟨2, ![512, 2048]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩

abbrev nBuf : Space → Nat
  | .hbm => 11
  | .vmem => 12
  | .smem => 0
  | _ => 0

abbrev bufTy : (tb : Table) → Fin (tcTables nBuf tb) → BufTy
  | .hbm, ⟨0, _⟩ => ⟨S8192x6144, .f32⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S1x2048, .f32⟩
  | .hbm, ⟨8, _⟩ => ⟨S128x8, .f32⟩
  | .hbm, ⟨9, _⟩ => ⟨S8192x2048, .bf16⟩
  | .hbm, ⟨10, _⟩ => ⟨S128x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S8x128x128, .f32⟩
  | .local _ .vmem, ⟨8, _⟩ => ⟨S128x8, .f32⟩
  | .local _ .vmem, ⟨9, _⟩ => ⟨S512x2048, .bf16⟩
  | .local _ .vmem, ⟨10, _⟩ => ⟨S512x2048, .bf16⟩
  | .local _ .vmem, ⟨11, _⟩ => ⟨S128x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8192x6144 : Shape := ⟨2, ![8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x128x128 : Shape := ⟨3, ![8, 128, 128]⟩
abbrev S8x128 : Shape := ⟨2, ![8, 128]⟩
abbrev S64x128x8x256 : Shape := ⟨4, ![64, 128, 8, 256]⟩
abbrev S128x128 : Shape := ⟨2, ![128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S128x2048 : Shape := ⟨2, ![128, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8x128x128, .f32⟩
  | .hbm, ⟨25, _⟩ => ⟨S8x128, .f32⟩
  | .hbm, ⟨26, _⟩ => ⟨S64x128x8x256, .f32⟩
  | .hbm, ⟨27, _⟩ => ⟨S_, .i1⟩
  | .hbm, ⟨28, _⟩ => ⟨S128x128, .i1⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S_, .i32⟩
  | .hbm, ⟨39, _⟩ => ⟨S_, .f32⟩
  | .hbm, ⟨40, _⟩ => ⟨S8x128x128, .i1⟩
  | .hbm, ⟨41, _⟩ => ⟨S8x128x128, .f32⟩
  | .hbm, ⟨42, _⟩ => ⟨S8x128x128, .f32⟩
  | .hbm, ⟨43, _⟩ => ⟨S8x64x256x128, .f32⟩
  | .hbm, ⟨44, _⟩ => ⟨S64x128x8x256, .f32⟩
  | .hbm, ⟨45, _⟩ => ⟨S128x8, .f32⟩
  | .hbm, ⟨46, _⟩ => ⟨S128x8x1, .f32⟩
  | .hbm, ⟨47, _⟩ => ⟨S1x128x8x1, .f32⟩
  | .hbm, ⟨48, _⟩ => ⟨S64x128x8x256, .f32⟩
  | .hbm, ⟨49, _⟩ => ⟨S64x128x8x256, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .bf16⟩
  | .hbm, ⟨63, _⟩ => ⟨S128x2048, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v21 : Ref sig .tc := ⟨.hbm, 37, rfl⟩
abbrev main_c_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== Kernel5.lean ====
abbrev S32x6144 : Shape := ⟨2, ![32, 6144]⟩
abbrev S1x2048 : Shape := ⟨2, ![1, 2048]⟩
abbrev S1x8x128x128 : Shape := ⟨4, ![1, 8, 128, 128]⟩
abbrev S1x8x128 : Shape := ⟨3, ![1, 8, 128]⟩
abbrev S32x2048 : Shape := ⟨2, ![32, 2048]⟩
abbrev S2048 : Shape := ⟨1, ![2048]⟩
abbrev S8x128x128 : Shape := ⟨3, ![8, 128, 128]⟩
abbrev S8x128 : Shape := ⟨2, ![8, 128]⟩
abbrev S8x1x1 : Shape := ⟨3, ![8, 1, 1]⟩
abbrev S8 : Shape := ⟨1, ![8]⟩
abbrev S8x256 : Shape := ⟨2, ![8, 256]⟩
abbrev S8x1 : Shape := ⟨2, ![8, 1]⟩
abbrev S32 : Shape := ⟨1, ![32]⟩
abbrev S32x1 : Shape := ⟨2, ![32, 1]⟩

abbrev nBuf : Space → Nat
  | .hbm => 23
  | .vmem => 8
  | .smem => 0
  | _ => 0

abbrev bufTy : (tb : Table) → Fin (tcTables nBuf tb) → BufTy
  | .hbm, ⟨0, _⟩ => ⟨S32x6144, .f32⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S32x2048, .f32⟩
  | .hbm, ⟨5, _⟩ => ⟨S32x2048, .f32⟩
  | .hbm, ⟨6, _⟩ => ⟨S32x2048, .f32⟩
  | .hbm, ⟨7, _⟩ => ⟨S2048, .f32⟩
  | .hbm, ⟨8, _⟩ => ⟨S8x128x128, .f32⟩
  | .hbm, ⟨9, _⟩ => ⟨S8x128, .f32⟩
  | .hbm, ⟨10, _⟩ => ⟨S8x1x1, .f32⟩
  | .hbm, ⟨11, _⟩ => ⟨S8, .f32⟩
  | .hbm, ⟨12, _⟩ => ⟨S8x256, .f32⟩
  | .hbm, ⟨13, _⟩ => ⟨S2048, .f32⟩
  | .hbm, ⟨14, _⟩ => ⟨S1x2048, .f32⟩
  | .hbm, ⟨15, _⟩ => ⟨S8x1, .f32⟩
  | .hbm, ⟨16, _⟩ => ⟨S8, .f32⟩
  | .hbm, ⟨17, _⟩ => ⟨S8x256, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S32x2048, .bf16⟩
  | .hbm, ⟨22, _⟩ => ⟨S32x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S32x2048, .bf16⟩
  | .local _ .vmem, ⟨7, _⟩ => ⟨S32x2048, .f32⟩
  | _, _ => ⟨S32x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference5Ideal.lean ====
abbrev S32x6144 : Shape := ⟨2, ![32, 6144]⟩
abbrev S1x2048 : Shape := ⟨2, ![1, 2048]⟩
abbrev S1x8x128x128 : Shape := ⟨4, ![1, 8, 128, 128]⟩
abbrev S1x8x128 : Shape := ⟨3, ![1, 8, 128]⟩
abbrev S32x1x6144 : Shape := ⟨3, ![32, 1, 6144]⟩
abbrev S32x1x2048 : Shape := ⟨3, ![32, 1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S8x128x128 : Shape := ⟨3, ![8, 128, 128]⟩
abbrev S8x128 : Shape := ⟨2, ![8, 128]⟩
abbrev S32x128x2048 : Shape := ⟨3, ![32, 128, 2048]⟩
abbrev S32x1x128x8x256 : Shape := ⟨5, ![32, 1, 128, 8, 256]⟩
abbrev S128x128 : Shape := ⟨2, ![128, 128]⟩
abbrev S8x32x1x256x128 : Shape := ⟨5, ![8, 32, 1, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S32x2048 : Shape := ⟨2, ![32, 2048]⟩

abbrev nBuf : Space → Nat
  | .hbm => 70
  | .vmem => 0
  | .smem => 0
  | _ => 0

abbrev bufTy : (tb : Table) → Fin (tcTables nBuf tb) → BufTy
  | .hbm, ⟨0, _⟩ => ⟨S32x6144, .f32⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S32x1x6144, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S2048, .f32⟩
  | .hbm, ⟨9, _⟩ => ⟨S32x1x2048, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x2048, .f32⟩
  | .hbm, ⟨21, _⟩ => ⟨S32x1x2048, .f32⟩
  | .hbm, ⟨22, _⟩ => ⟨S1x1x2048, .f32⟩
  | .hbm, ⟨23, _⟩ => ⟨S32x1x2048, .f32⟩
  | .hbm, ⟨24, _⟩ => ⟨S32x1x2048, .f32⟩
  | .hbm, ⟨25, _⟩ => ⟨S8x128x128, .f32⟩
  | .hbm, ⟨26, _⟩ => ⟨S8x128, .f32⟩
  | .hbm, ⟨27, _⟩ => ⟨S_, .i32⟩
  | .hbm, ⟨28, _⟩ => ⟨S_, .f32⟩
  | .hbm, ⟨29, _⟩ => ⟨S32x128x2048, .f32⟩
  | .hbm, ⟨30, _⟩ => ⟨S32x1x128x8x256, .f32⟩
  | .hbm, ⟨31, _⟩ => ⟨S_, .i1⟩
  | .hbm, ⟨32, _⟩ => ⟨S128x128, .i1⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .i1⟩
  | .hbm, ⟨40, _⟩ => ⟨S128x128, .i1⟩
  | .hbm, ⟨41, _⟩ => ⟨S128x128, .i1⟩
  | .hbm, ⟨42, _⟩ => ⟨S_, .i32⟩
  | .hbm, ⟨43, _⟩ => ⟨S_, .f32⟩
  | .hbm, ⟨44, _⟩ => ⟨S8x128x128, .i1⟩
  | .hbm, ⟨45, _⟩ => ⟨S8x128x128, .f32⟩
  | .hbm, ⟨46, _⟩ => ⟨S8x128x128, .f32⟩
  | .hbm, ⟨47, _⟩ => ⟨S8x32x1x256x128, .f32⟩
  | .hbm, ⟨48, _⟩ => ⟨S32x1x128x8x256, .f32⟩
  | .hbm, ⟨49, _⟩ => ⟨S128x8, .f32⟩
  | .hbm, ⟨50, _⟩ => ⟨S128x8x1, .f32⟩
  | .hbm, ⟨51, _⟩ => ⟨S1x1x128x8x1, .f32⟩
  | .hbm, ⟨52, _⟩ => ⟨S32x1x128x8x256, .f32⟩
  | .hbm, ⟨53, _⟩ => ⟨S32x1x128x8x256, .f32⟩
  | .hbm, ⟨54, _⟩ => ⟨S32x128x2048, .f32⟩
  | .hbm, ⟨55, _⟩ => ⟨S32x1x2048, .f32⟩
  | .hbm, ⟨56, _⟩ => ⟨S32x1x2048, .f32⟩
  | .hbm, ⟨57, _⟩ => ⟨S32x1x2048, .f32⟩
  | .hbm, ⟨58, _⟩ => ⟨S32x1x2048, .f32⟩
  | .hbm, ⟨59, _⟩ => ⟨S_, .f32⟩
  | .hbm, ⟨60, _⟩ => ⟨S32x1x2048, .f32⟩
  | .hbm, ⟨61, _⟩ => ⟨S32x1x2048, .f32⟩
  | .hbm, ⟨62, _⟩ => ⟨S_, .f32⟩
  | .hbm, ⟨63, _⟩ => ⟨S32x1x2048, .f32⟩
  | .hbm, ⟨64, _⟩ => ⟨S32x1x2048, .f32⟩
  | .hbm, ⟨65, _⟩ => ⟨S32x1x2048, .f32⟩
  | .hbm, ⟨66, _⟩ => ⟨S32x1x2048, .f32⟩
  | .hbm, ⟨67, _⟩ => ⟨S32x2048, .f32⟩
  | .hbm, ⟨68, _⟩ => ⟨S32x2048, .bf16⟩
  | .hbm, ⟨69, _⟩ => ⟨S32x2048, .f32⟩
  | _, _ => ⟨S32x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_0 : Ref sig .tc := ⟨.hbm, 39, rfl⟩
abbrev main_call1_v5 : Ref sig .tc := ⟨.hbm, 40, rfl⟩
abbrev main_v23 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Kernel6.lean ====
abbrev S32x1x2048 : Shape := ⟨3, ![32, 1, 2048]⟩
abbrev S2x2048 : Shape := ⟨2, ![2, 2048]⟩
abbrev S1x2048x6144 : Shape := ⟨3, ![1, 2048, 6144]⟩
abbrev S1x128 : Shape := ⟨2, ![1, 128]⟩
abbrev S128 : Shape := ⟨1, ![128]⟩
abbrev S_ : Shape := ⟨0, ![]⟩
abbrev S8x128 : Shape := ⟨2, ![8, 128]⟩
abbrev S1024 : Shape := ⟨1, ![1024]⟩
abbrev S4096 : Shape := ⟨1, ![4096]⟩
abbrev S6144 : Shape := ⟨1, ![6144]⟩
abbrev S32x2048 : Shape := ⟨2, ![32, 2048]⟩
abbrev S1x2048 : Shape := ⟨2, ![1, 2048]⟩
abbrev S2048 : Shape := ⟨1, ![2048]⟩
abbrev S2048x6144 : Shape := ⟨2, ![2048, 6144]⟩
abbrev S1x6144 : Shape := ⟨2, ![1, 6144]⟩
abbrev S32x6144 : Shape := ⟨2, ![32, 6144]⟩
abbrev S32x4096 : Shape := ⟨2, ![32, 4096]⟩
abbrev S2048x1024 : Shape := ⟨2, ![2048, 1024]⟩
abbrev S1x1024 : Shape := ⟨2, ![1, 1024]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩

abbrev nBuf : Space → Nat
  | .hbm => 28
  | .vmem => 13
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S1x2048x6144, .f32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S8x128, .f32⟩
  | .hbm, ⟨11, _⟩ => ⟨S1024, .f32⟩
  | .hbm, ⟨12, _⟩ => ⟨S128, .f32⟩
  | .hbm, ⟨13, _⟩ => ⟨S1x128, .f32⟩
  | .hbm, ⟨14, _⟩ => ⟨S8x128, .f32⟩
  | .hbm, ⟨15, _⟩ => ⟨S1024, .f32⟩
  | .hbm, ⟨16, _⟩ => ⟨S_, .f32⟩
  | .hbm, ⟨17, _⟩ => ⟨S4096, .f32⟩
  | .hbm, ⟨18, _⟩ => ⟨S6144, .f32⟩
  | .hbm, ⟨19, _⟩ => ⟨S32x2048, .f32⟩
  | .hbm, ⟨20, _⟩ => ⟨S1x2048, .f32⟩
  | .hbm, ⟨21, _⟩ => ⟨S2048, .f32⟩
  | .hbm, ⟨22, _⟩ => ⟨S2048x6144, .f32⟩
  | .hbm, ⟨23, _⟩ => ⟨S1x2048, .f32⟩
  | .hbm, ⟨24, _⟩ => ⟨S1x6144, .f32⟩
  | .hbm, ⟨25, _⟩ => ⟨S32x6144, .f32⟩
  | .hbm, ⟨26, _⟩ => ⟨S32x4096, .bf16⟩
  | .hbm, ⟨27, _⟩ => ⟨S2048x6144, .bf16⟩
  | .local _ .vmem, ⟨0, _⟩ => ⟨S32x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .bf16⟩
  | .local _ .vmem, ⟨9, _⟩ => ⟨S32x1024, .bf16⟩
  | .local _ .vmem, ⟨10, _⟩ => ⟨S2048x1024, .bf16⟩
  | .local _ .vmem, ⟨11, _⟩ => ⟨S2048x1024, .bf16⟩
  | .local _ .vmem, ⟨12, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference6Ideal.lean ====
abbrev S32x1x2048 : Shape := ⟨3, ![32, 1, 2048]⟩
abbrev S2x2048 : Shape := ⟨2, ![2, 2048]⟩
abbrev S1x2048x6144 : Shape := ⟨3, ![1, 2048, 6144]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x6144 : Shape := ⟨2, ![2048, 6144]⟩
abbrev S32x1x6144 : Shape := ⟨3, ![32, 1, 6144]⟩
abbrev S32x1x1024 : Shape := ⟨3, ![32, 1, 1024]⟩
abbrev S32x1x8x128 : Shape := ⟨4, ![32, 1, 8, 128]⟩
abbrev S128 : Shape := ⟨1, ![128]⟩
abbrev S32x1x8 : Shape := ⟨3, ![32, 1, 8]⟩
abbrev S32x1x8x1 : Shape := ⟨4, ![32, 1, 8, 1]⟩
abbrev S1x1x1x128 : Shape := ⟨4, ![1, 1, 1, 128]⟩
abbrev S32x6144 : Shape := ⟨2, ![32, 6144]⟩
abbrev S32x1x4096 : Shape := ⟨3, ![32, 1, 4096]⟩
abbrev S32x4096 : Shape := ⟨2, ![32, 4096]⟩

abbrev nBuf : Space → Nat
  | .hbm => 80
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2x2048, .f32⟩
  | .hbm, ⟨2, _⟩ => ⟨S1x2048x6144, .f32⟩
  | .hbm, ⟨3, _⟩ => ⟨S1x128, .f32⟩
  | .hbm, ⟨4, _⟩ => ⟨S1x128, .f32⟩
  | .hbm, ⟨5, _⟩ => ⟨S1x2048, .f32⟩
  | .hbm, ⟨6, _⟩ => ⟨S2048, .f32⟩
  | .hbm, ⟨7, _⟩ => ⟨S32x1x2048, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S1x1x2048, .f32⟩
  | .hbm, ⟨21, _⟩ => ⟨S32x1x2048, .f32⟩
  | .hbm, ⟨22, _⟩ => ⟨S32x1x2048, .f32⟩
  | .hbm, ⟨23, _⟩ => ⟨S2048x6144, .f32⟩
  | .hbm, ⟨24, _⟩ => ⟨S32x1x6144, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x2048, .f32⟩
  | .hbm, ⟨30, _⟩ => ⟨S32x1x8x128, .f32⟩
  | .hbm, ⟨31, _⟩ => ⟨S128, .f32⟩
  | .hbm, ⟨32, _⟩ => ⟨S32x1x8x128, .f32⟩
  | .hbm, ⟨33, _⟩ => ⟨S_, .f32⟩
  | .hbm, ⟨34, _⟩ => ⟨S32x1x8, .f32⟩
  | .hbm, ⟨35, _⟩ => ⟨S32x1x8x1, .f32⟩
  | .hbm, ⟨36, _⟩ => ⟨S_, .f32⟩
  | .hbm, ⟨37, _⟩ => ⟨S32x1x8x1, .f32⟩
  | .hbm, ⟨38, _⟩ => ⟨S32x1x8x1, .f32⟩
  | .hbm, ⟨39, _⟩ => ⟨S_, .f32⟩
  | .hbm, ⟨40, _⟩ => ⟨S32x1x8x1, .f32⟩
  | .hbm, ⟨41, _⟩ => ⟨S32x1x8x1, .f32⟩
  | .hbm, ⟨42, _⟩ => ⟨S32x1x8x1, .f32⟩
  | .hbm, ⟨43, _⟩ => ⟨S32x1x8x128, .f32⟩
  | .hbm, ⟨44, _⟩ => ⟨S32x1x8x128, .f32⟩
  | .hbm, ⟨45, _⟩ => ⟨S1x1x1x128, .f32⟩
  | .hbm, ⟨46, _⟩ => ⟨S32x1x8x128, .f32⟩
  | .hbm, ⟨47, _⟩ => ⟨S32x1x8x128, .f32⟩
  | .hbm, ⟨48, _⟩ => ⟨S32x1x8x128, .f32⟩
  | .hbm, ⟨49, _⟩ => ⟨S128, .f32⟩
  | .hbm, ⟨50, _⟩ => ⟨S32x1x8x128, .f32⟩
  | .hbm, ⟨51, _⟩ => ⟨S_, .f32⟩
  | .hbm, ⟨52, _⟩ => ⟨S32x1x8, .f32⟩
  | .hbm, ⟨53, _⟩ => ⟨S32x1x8x1, .f32⟩
  | .hbm, ⟨54, _⟩ => ⟨S_, .f32⟩
  | .hbm, ⟨55, _⟩ => ⟨S32x1x8x1, .f32⟩
  | .hbm, ⟨56, _⟩ => ⟨S32x1x8x1, .f32⟩
  | .hbm, ⟨57, _⟩ => ⟨S_, .f32⟩
  | .hbm, ⟨58, _⟩ => ⟨S32x1x8x1, .f32⟩
  | .hbm, ⟨59, _⟩ => ⟨S32x1x8x1, .f32⟩
  | .hbm, ⟨60, _⟩ => ⟨S32x1x8x1, .f32⟩
  | .hbm, ⟨61, _⟩ => ⟨S32x1x8x128, .f32⟩
  | .hbm, ⟨62, _⟩ => ⟨S32x1x8x128, .f32⟩
  | .hbm, ⟨63, _⟩ => ⟨S1x1x1x128, .f32⟩
  | .hbm, ⟨64, _⟩ => ⟨S32x1x8x128, .f32⟩
  | .hbm, ⟨65, _⟩ => ⟨S32x1x8x128, .f32⟩
  | .hbm, ⟨66, _⟩ => ⟨S_, .f32⟩
  | .hbm, ⟨67, _⟩ => ⟨S32x1x8x128, .f32⟩
  | .hbm, ⟨68, _⟩ => ⟨S32x1x8x128, .f32⟩
  | .hbm, ⟨69, _⟩ => ⟨S32x1x1024, .f32⟩
  | .hbm, ⟨70, _⟩ => ⟨S32x1x1024, .f32⟩
  | .hbm, ⟨71, _⟩ => ⟨S32x1x6144, .f32⟩
  | .hbm, ⟨72, _⟩ => ⟨S32x6144, .f32⟩
  | .hbm, ⟨73, _⟩ => ⟨S_, .f32⟩
  | .hbm, ⟨74, _⟩ => ⟨S32x1x1024, .f32⟩
  | .hbm, ⟨75, _⟩ => ⟨S32x1x4096, .f32⟩
  | .hbm, ⟨76, _⟩ => ⟨S32x4096, .f32⟩
  | .hbm, ⟨77, _⟩ => ⟨S32x4096, .bf16⟩
  | .hbm, ⟨78, _⟩ => ⟨S2048x6144, .f32⟩
  | .hbm, ⟨79, _⟩ => ⟨S2048x6144, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel7.lean ====
abbrev S32x2048 : Shape := ⟨2, ![32, 2048]⟩
abbrev S1x2048x2048 : Shape := ⟨3, ![1, 2048, 2048]⟩
abbrev S2048x2048 : Shape := ⟨2, ![2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S32x2048, .bf16⟩
  | .hbm, ⟨1, _⟩ => ⟨S1x2048x2048, .f32⟩
  | .hbm, ⟨2, _⟩ => ⟨S32x2048, .f32⟩
  | .hbm, ⟨3, _⟩ => ⟨S2048x2048, .f32⟩
  | .hbm, ⟨4, _⟩ => ⟨S32x2048, .f32⟩
  | .hbm, ⟨5, _⟩ => ⟨S2048x2048, .bf16⟩
  | .local _ .vmem, ⟨0, _⟩ => ⟨S32x2048, .bf16⟩
  | .local _ .vmem, ⟨1, _⟩ => ⟨S2048x2048, .f32⟩
  | .local _ .vmem, ⟨2, _⟩ => ⟨S32x2048, .f32⟩
  | .local _ .vmem, ⟨3, _⟩ => ⟨S32x2048, .f32⟩
  | .local _ .vmem, ⟨4, _⟩ => ⟨S2048x2048, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]
-- ==== Reference7Ideal.lean ====
abbrev S32x2048 : Shape := ⟨2, ![32, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S1x2048x2048, .f32⟩
  | .hbm, ⟨2, _⟩ => ⟨S32x2048, .f32⟩
  | .hbm, ⟨3, _⟩ => ⟨S32x2048, .f32⟩
  | .hbm, ⟨4, _⟩ => ⟨S2048x2048, .f32⟩
  | .hbm, ⟨5, _⟩ => ⟨S32x2048, .f32⟩
  | .hbm, ⟨6, _⟩ => ⟨S32x2048, .f32⟩
  | .hbm, ⟨7, _⟩ => ⟨S2048x2048, .f32⟩
  | .hbm, ⟨8, _⟩ => ⟨S2048x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S32x6144 : Shape := ⟨2, ![32, 6144]⟩
abbrev S32x1024 : Shape := ⟨2, ![32, 1024]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S4x256x256 : Shape := ⟨3, ![4, 256, 256]⟩
abbrev S32x15x1024 : Shape := ⟨3, ![32, 15, 1024]⟩
abbrev S15x32x1024 : Shape := ⟨3, ![15, 32, 1024]⟩
abbrev S32x14x1024 : Shape := ⟨3, ![32, 14, 1024]⟩
abbrev S32x1x1024 : Shape := ⟨3, ![32, 1, 1024]⟩
abbrev S32x2048 : Shape := ⟨2, ![32, 2048]⟩
abbrev S1024 : Shape := ⟨1, ![1024]⟩
abbrev S32x256 : Shape := ⟨2, ![32, 256]⟩
abbrev S1x32x256 : Shape := ⟨3, ![1, 32, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 19
  | .vmem => 7
  | .smem => 0
  | _ => 0

abbrev bufTy : (tb : Table) → Fin (tcTables nBuf tb) → BufTy
  | .hbm, ⟨0, _⟩ => ⟨S32x6144, .f32⟩
  | .hbm, ⟨1, _⟩ => ⟨S32x1024, .f32⟩
  | .hbm, ⟨2, _⟩ => ⟨S1x32x15x1024, .f32⟩
  | .hbm, ⟨3, _⟩ => ⟨S1x4x256x256, .f32⟩
  | .hbm, ⟨4, _⟩ => ⟨S1x1024, .f32⟩
  | .hbm, ⟨5, _⟩ => ⟨S4x256x256, .f32⟩
  | .hbm, ⟨6, _⟩ => ⟨S4x256x256, .bf16⟩
  | .hbm, ⟨7, _⟩ => ⟨S32x1024, .f32⟩
  | .hbm, ⟨8, _⟩ => ⟨S32x15x1024, .f32⟩
  | .hbm, ⟨9, _⟩ => ⟨S15x32x1024, .f32⟩
  | .hbm, ⟨10, _⟩ => ⟨S32x15x1024, .f32⟩
  | .hbm, ⟨11, _⟩ => ⟨S32x14x1024, .f32⟩
  | .hbm, ⟨12, _⟩ => ⟨S32x1x1024, .f32⟩
  | .hbm, ⟨13, _⟩ => ⟨S32x15x1024, .f32⟩
  | .hbm, ⟨14, _⟩ => ⟨S1x32x15x1024, .f32⟩
  | .hbm, ⟨15, _⟩ => ⟨S32x2048, .f32⟩
  | .hbm, ⟨16, _⟩ => ⟨S1024, .f32⟩
  | .hbm, ⟨17, _⟩ => ⟨S1x1024, .f32⟩
  | .hbm, ⟨18, _⟩ => ⟨S32x2048, .bf16⟩
  | .local _ .vmem, ⟨0, _⟩ => ⟨S32x1024, .f32⟩
  | .local _ .vmem, ⟨1, _⟩ => ⟨S15x32x1024, .f32⟩
  | .local _ .vmem, ⟨2, _⟩ => ⟨S32x1024, .f32⟩
  | .local _ .vmem, ⟨3, _⟩ => ⟨S32x2048, .f32⟩
  | .local _ .vmem, ⟨4, _⟩ => ⟨S4x256x256, .bf16⟩
  | .local _ .vmem, ⟨5, _⟩ => ⟨S1x1024, .f32⟩
  | .local _ .vmem, ⟨6, _⟩ => ⟨S32x2048, .bf16⟩
  | _, _ => ⟨S32x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference8Ideal.lean ====
abbrev S32x6144 : Shape := ⟨2, ![32, 6144]⟩
abbrev S32x1024 : Shape := ⟨2, ![32, 1024]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S32x3072 : Shape := ⟨2, ![32, 3072]⟩
abbrev S32x1x3072 : Shape := ⟨3, ![32, 1, 3072]⟩
abbrev S32x1x1024 : Shape := ⟨3, ![32, 1, 1024]⟩
abbrev S32x1x2048 : Shape := ⟨3, ![32, 1, 2048]⟩
abbrev S32x15x1024 : Shape := ⟨3, ![32, 15, 1024]⟩
abbrev S4x256x256 : Shape := ⟨3, ![4, 256, 256]⟩
abbrev S1024 : Shape := ⟨1, ![1024]⟩
abbrev S32x16x1024 : Shape := ⟨3, ![32, 16, 1024]⟩
abbrev S_ : Shape := ⟨0, ![]⟩
abbrev S32x17x1024 : Shape := ⟨3, ![32, 17, 1024]⟩
abbrev S1 : Shape := ⟨1, ![1]⟩
abbrev S32x1x256 : Shape := ⟨3, ![32, 1, 256]⟩
abbrev S1x1x1 : Shape := ⟨3, ![1, 1, 1]⟩
abbrev S32x1x1x256 : Shape := ⟨4, ![32, 1, 1, 256]⟩
abbrev S32x1x4x256 : Shape := ⟨4, ![32, 1, 4, 256]⟩
abbrev S4x256x32x1 : Shape := ⟨4, ![4, 256, 32, 1]⟩
abbrev S1x1x1024 : Shape := ⟨3, ![1, 1, 1024]⟩
abbrev S32x2048 : Shape := ⟨2, ![32, 2048]⟩

abbrev nBuf : Space → Nat
  | .hbm => 112
  | .vmem => 0
  | .smem => 0
  | _ => 0

abbrev bufTy : (tb : Table) → Fin (tcTables nBuf tb) → BufTy
  | .hbm, ⟨0, _⟩ => ⟨S32x6144, .f32⟩
  | .hbm, ⟨1, _⟩ => ⟨S32x1024, .f32⟩
  | .hbm, ⟨2, _⟩ => ⟨S1x32x15x1024, .f32⟩
  | .hbm, ⟨3, _⟩ => ⟨S1x4x256x256, .f32⟩
  | .hbm, ⟨4, _⟩ => ⟨S1x1024, .f32⟩
  | .hbm, ⟨5, _⟩ => ⟨S32x3072, .f32⟩
  | .hbm, ⟨6, _⟩ => ⟨S32x1x3072, .f32⟩
  | .hbm, ⟨7, _⟩ => ⟨S32x1x1024, .f32⟩
  | .hbm, ⟨8, _⟩ => ⟨S32x1x2048, .f32⟩
  | .hbm, ⟨9, _⟩ => ⟨S32x15x1024, .f32⟩
  | .hbm, ⟨10, _⟩ => ⟨S4x256x256, .f32⟩
  | .hbm, ⟨11, _⟩ => ⟨S1024, .f32⟩
  | .hbm, ⟨12, _⟩ => ⟨S32x16x1024, .f32⟩
  | .hbm, ⟨13, _⟩ => ⟨S_, .f32⟩
  | .hbm, ⟨14, _⟩ => ⟨S_, .f32⟩
  | .hbm, ⟨15, _⟩ => ⟨S32x16x1024, .f32⟩
  | .hbm, ⟨16, _⟩ => ⟨S32x1x1024, .f32⟩
  | .hbm, ⟨17, _⟩ => ⟨S_, .f32⟩
  | .hbm, ⟨18, _⟩ => ⟨S32x1x1024, .f32⟩
  | .hbm, ⟨19, _⟩ => ⟨S32x17x1024, .f32⟩
  | .hbm, ⟨20, _⟩ => ⟨S32x1x1024, .f32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S32x1x256, .f32⟩
  | .hbm, ⟨26, _⟩ => ⟨S32x1x256, .f32⟩
  | .hbm, ⟨27, _⟩ => ⟨S32x1x256, .f32⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .f32⟩
  | .hbm, ⟨35, _⟩ => ⟨S1x1x1, .f32⟩
  | .hbm, ⟨36, _⟩ => ⟨S32x1x256, .f32⟩
  | .hbm, ⟨37, _⟩ => ⟨S32x1x256, .f32⟩
  | .hbm, ⟨38, _⟩ => ⟨S32x1x256, .f32⟩
  | .hbm, ⟨39, _⟩ => ⟨S32x1x256, .f32⟩
  | .hbm, ⟨40, _⟩ => ⟨S32x1x256, .f32⟩
  | .hbm, ⟨41, _⟩ => ⟨S32x1x256, .f32⟩
  | .hbm, ⟨42, _⟩ => ⟨S32x1x256, .f32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S1x1x1, .f32⟩
  | .hbm, ⟨51, _⟩ => ⟨S32x1x256, .f32⟩
  | .hbm, ⟨52, _⟩ => ⟨S32x1x256, .f32⟩
  | .hbm, ⟨53, _⟩ => ⟨S32x1x256, .f32⟩
  | .hbm, ⟨54, _⟩ => ⟨S32x1x256, .f32⟩
  | .hbm, ⟨55, _⟩ => ⟨S32x1x256, .f32⟩
  | .hbm, ⟨56, _⟩ => ⟨S32x1x256, .f32⟩
  | .hbm, ⟨57, _⟩ => ⟨S32x1x256, .f32⟩
  | .hbm, ⟨58, _⟩ => ⟨S_, .i32⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i32⟩
  | .hbm, ⟨64, _⟩ => ⟨S1, .f32⟩
  | .hbm, ⟨65, _⟩ => ⟨S1x1x1, .f32⟩
  | .hbm, ⟨66, _⟩ => ⟨S32x1x256, .f32⟩
  | .hbm, ⟨67, _⟩ => ⟨S32x1x256, .f32⟩
  | .hbm, ⟨68, _⟩ => ⟨S32x1x256, .f32⟩
  | .hbm, ⟨69, _⟩ => ⟨S32x1x256, .f32⟩
  | .hbm, ⟨70, _⟩ => ⟨S32x1x256, .f32⟩
  | .hbm, ⟨71, _⟩ => ⟨S32x1x256, .f32⟩
  | .hbm, ⟨72, _⟩ => ⟨S32x1x256, .f32⟩
  | .hbm, ⟨73, _⟩ => ⟨S_, .i32⟩
  | .hbm, ⟨74, _⟩ => ⟨S1, .i32⟩
  | .hbm, ⟨75, _⟩ => ⟨S1, .i32⟩
  | .hbm, ⟨76, _⟩ => ⟨S_, .i32⟩
  | .hbm, ⟨77, _⟩ => ⟨S1, .i32⟩
  | .hbm, ⟨78, _⟩ => ⟨S1, .i32⟩
  | .hbm, ⟨79, _⟩ => ⟨S1, .f32⟩
  | .hbm, ⟨80, _⟩ => ⟨S1x1x1, .f32⟩
  | .hbm, ⟨81, _⟩ => ⟨S32x1x256, .f32⟩
  | .hbm, ⟨82, _⟩ => ⟨S32x1x256, .f32⟩
  | .hbm, ⟨83, _⟩ => ⟨S32x1x256, .f32⟩
  | .hbm, ⟨84, _⟩ => ⟨S32x1x256, .f32⟩
  | .hbm, ⟨85, _⟩ => ⟨S32x1x1x256, .f32⟩
  | .hbm, ⟨86, _⟩ => ⟨S32x1x1x256, .f32⟩
  | .hbm, ⟨87, _⟩ => ⟨S32x1x1x256, .f32⟩
  | .hbm, ⟨88, _⟩ => ⟨S32x1x1x256, .f32⟩
  | .hbm, ⟨89, _⟩ => ⟨S32x1x4x256, .f32⟩
  | .hbm, ⟨90, _⟩ => ⟨S4x256x32x1, .f32⟩
  | .hbm, ⟨91, _⟩ => ⟨S32x1x4x256, .f32⟩
  | .hbm, ⟨92, _⟩ => ⟨S32x1x1024, .f32⟩
  | .hbm, ⟨93, _⟩ => ⟨S1x1x1024, .f32⟩
  | .hbm, ⟨94, _⟩ => ⟨S32x1x1024, .f32⟩
  | .hbm, ⟨95, _⟩ => ⟨S32x1x1024, .f32⟩
  | .hbm, ⟨96, _⟩ => ⟨S32x15x1024, .f32⟩
  | .hbm, ⟨97, _⟩ => ⟨S32x1x1024, .f32⟩
  | .hbm, ⟨98, _⟩ => ⟨S32x1x2048, .f32⟩
  | .hbm, ⟨99, _⟩ => ⟨S32x1x2048, .f32⟩
  | .hbm, ⟨100, _⟩ => ⟨S32x1x2048, .f32⟩
  | .hbm, ⟨101, _⟩ => ⟨S_, .f32⟩
  | .hbm, ⟨102, _⟩ => ⟨S32x1x2048, .f32⟩
  | .hbm, ⟨103, _⟩ => ⟨S32x1x2048, .f32⟩
  | .hbm, ⟨104, _⟩ => ⟨S_, .f32⟩
  | .hbm, ⟨105, _⟩ => ⟨S32x1x2048, .f32⟩
  | .hbm, ⟨106, _⟩ => ⟨S32x1x2048, .f32⟩
  | .hbm, ⟨107, _⟩ => ⟨S32x1x2048, .f32⟩
  | .hbm, ⟨108, _⟩ => ⟨S32x1x2048, .f32⟩
  | .hbm, ⟨109, _⟩ => ⟨S32x2048, .f32⟩
  | .hbm, ⟨110, _⟩ => ⟨S32x2048, .bf16⟩
  | .hbm, ⟨111, _⟩ => ⟨S1x32x15x1024, .f32⟩
  | _, _ => ⟨S32x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Proof.InProj.Chunk.lean ====
/-
  One row chunk of the input projection, as the body computes it, and its reading at an index over the extended reals.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.InProj

open Cert.KernelIdeal Cert.KernelIdeal.Gen

variable {F : FTy → Type} [FloatOps F]

/-- Columns `o … o+127` of a row chunk, each row scaled by one over its root mean square where the bit is set. -/
def head (b : BitVec 1) (z : FVec F S256x1024 .f32) (o : Nat) (h : S256x1024.Slices ![0, o] S256x128) : FVec F S256x128 .f32 :=
  mulf (extractStridedSlice S256x128 ![0, o] z h)
    (broadcastTo S256x128
      (Scalar.select b
        (rsqrt (addf
          (divf (shapeCast S256x1 (multiReduction .add [1] S256
              (mulf (extractStridedSlice S256x128 ![0, o] z h) (extractStridedSlice S256x128 ![0, o] z h))
              0x00000000#32 reduces_S256x128_S256 (.inl rfl) rfl) shapeCasts_S256_S256x1)
            (broadcast S256x1 (Scalar.ofBits .f32 0x43000000#32)))
          (broadcast S256x1 (Scalar.ofBits .f32 0x358637BD#32))))
        (broadcast S256x1 (Scalar.ofBits .f32 0x3F800000#32)))
      broadcasts_S256x1_S256x128)

/-- The eight heads of a row chunk side by side, times the row of column gains. -/
def chunk (b : BitVec 1) (z : FVec F S256x1024 .f32) (g : Vec F S1x1024 .f32) : FVec F S256x1024 .f32 :=
  mulf (concatenate S256x1024 1
      [⟨S256x128, head b z 0 slices_S256x1024_o0_0_S256x128⟩, ⟨S256x128, head b z 128 slices_S256x1024_o0_128_S256x128⟩,
       ⟨S256x128, head b z 256 slices_S256x1024_o0_256_S256x128⟩, ⟨S256x128, head b z 384 slices_S256x1024_o0_384_S256x128⟩,
       ⟨S256x128, head b z 512 slices_S256x1024_o0_512_S256x128⟩, ⟨S256x128, head b z 640 slices_S256x1024_o0_640_S256x128⟩,
       ⟨S256x128, head b z 768 slices_S256x1024_o0_768_S256x128⟩, ⟨S256x128, head b z 896 slices_S256x1024_o0_896_S256x128⟩]
      concatenates_S256x128_S256x128_S256x128_S256x128_S256x128_S256x128_S256x128_S256x128_S256x1024_d1)
    (broadcastTo S256x1024 (shapeCast S1x1024 g shapeCasts_S1x1024_S1x1024) broadcasts_S1x1024_S256x1024)

/-- The product of a chunk of rows with the block of weights. -/
def prod (w : Vec F S2048x1024 .bf16) (h : Vec F S256x2048 .bf16) : FVec F S256x1024 .f32 :=
  matmul dot_S256x2048_S2048x1024_S256x1024_1_0_0_1_n_n none h w (constant S256x1024 .f32 0x00000000#32)

/-- The bit that says column block `j` is one of those whose heads are normalised. -/
def bit (i : grid0.Coords) : BitVec 1 := Scalar.cmpi .slt (BitVec.ofNat 32 (i 1).val) 2#32

theorem hbit (i : grid0.Coords) : Scalar.cmpi .slt (BitVec.ofNat 32 (i 1).val) 2#32 = bit i := rfl

theorem hz : (![0, 0] : Fin 2 → Nat) = fun _ => 0 := funext fun a => by fin_cases a <;> rfl

/-- Column `x` of the head that column `c` of a block belongs to. -/
def hd (c : Fin 1024) (x : Fin 128) : Fin 1024 := ⟨c.val / 128 * 128 + x.val, by have := c.isLt; have := x.isLt; omega⟩

/-- What a row's head is scaled by: one over the root of its mean square plus the small constant, where the bit is set. -/
def scale (b : BitVec 1) (z : Fin 128 → EReal) : EReal :=
  Scalar.select b (Ideal.rsqrt (Ideal.div (∑ x, z x * z x) (Ideal.ofBits FTy.f32 0x43000000#32) + Ideal.ofBits FTy.f32 0x358637BD#32)) 1

theorem head_apply (b : BitVec 1) (z : FVec Ideal S256x1024 .f32) (o : Nat) (h) (r : Fin 256) (l : Fin 128) (c : Fin 1024)
    (hc : c.val = o + l.val) (ho : c.val / 128 * 128 = o) :
    head b z o h (ix2 r l) = z (ix2 r c) * scale b fun x => z (ix2 r (hd c x)) := by
  subst ho
  have hl : (⟨c.val / 128 * 128 + l.val, by have := c.isLt; omega⟩ : Fin 1024) = c := Fin.ext hc.symm
  pointwise [head, scale]
  rw [hl]
  rfl

theorem chunk_apply (b : BitVec 1) (z : FVec Ideal S256x1024 .f32) (g : Vec Ideal S1x1024 .f32) (r : Fin 256) (c : Fin 1024) :
    chunk b z g (ix2 r c) = z (ix2 r c) * (scale b fun x => z (ix2 r (hd c x))) * g (ix2 0 c) := by
  have := c.isLt
  pointwise [chunk]
  refine congrArg (· * g (ix2 0 c)) ?_
  split_ifs <;> exact head_apply b z _ _ r _ c (by dsimp only; omega) (by omega)

theorem prod_apply (w : Vec Ideal S2048x1024 .bf16) (h : Vec Ideal S256x2048 .bf16) (r : Fin 256) (c : Fin 1024) :
    prod w h (ix2 r c) = ∑ k : Fin 2048, h (ix2 r k) * w (ix2 k c) := by
  pointwise [prod]

/-- Element `(r, c)` of the product of the normalised rows `h` with the block of weights `w`. -/
def zAt (h : Vec Ideal S1024x2048 .bf16) (w : Vec Ideal S2048x1024 .bf16) (r c : Fin 1024) : EReal :=
  ∑ k : Fin 2048, h (ix2 r k) * w (ix2 k c)

/-- Element `(r, c)` of the block a grid point computes. -/
def blockAt (b : BitVec 1) (h : Vec Ideal S1024x2048 .bf16) (w : Vec Ideal S2048x1024 .bf16) (g : Vec Ideal S1x1024 .f32) (r c : Fin 1024) : EReal :=
  zAt h w r c * (scale b fun x => zAt h w r (hd c x)) * g (ix2 0 c)

/-- The four row chunks of a block, as the body stores them: the last one first. -/
def pieces (b : BitVec 1) (h : Vec F S1024x2048 .bf16) (w : Vec F S2048x1024 .bf16) (g : Vec F S1x1024 .f32) : List (View.Piece (Elt F) S1024x1024 .f32) :=
  [⟨Rect.unit ![768, 0] ![256, 1024] inb_S1024x1024_S256x1024_768_0, chunk b (prod w (View.ld h (Rect.unit ![768, 0] S256x2048.size inb_S1024x2048_S256x2048_768_0))) g⟩,
   ⟨Rect.unit ![512, 0] ![256, 1024] inb_S1024x1024_S256x1024_512_0, chunk b (prod w (View.ld h (Rect.unit ![512, 0] S256x2048.size inb_S1024x2048_S256x2048_512_0))) g⟩,
   ⟨Rect.unit ![256, 0] ![256, 1024] inb_S1024x1024_S256x1024_256_0, chunk b (prod w (View.ld h (Rect.unit ![256, 0] S256x2048.size inb_S1024x2048_S256x2048_256_0))) g⟩,
   ⟨Rect.unit ![0, 0] ![256, 1024] inb_S1024x1024_S256x1024_0_0, chunk b (prod w (View.ld h (Rect.unit ![0, 0] S256x2048.size inb_S1024x2048_S256x2048_0_0))) g⟩]

/-- The same chunks rounded to bf16. -/
def piecesB (b : BitVec 1) (h : Vec F S1024x2048 .bf16) (w : Vec F S2048x1024 .bf16) (g : Vec F S1x1024 .f32) : List (View.Piece (Elt F) S1024x1024 .bf16) :=
  [⟨Rect.unit ![768, 0] ![256, 1024] inb_S1024x1024_S256x1024_768_0, truncf .bf16 (chunk b (prod w (View.ld h (Rect.unit ![768, 0] S256x2048.size inb_S1024x2048_S256x2048_768_0))) g) bitsLt_bf16_f32⟩,
   ⟨Rect.unit ![512, 0] ![256, 1024] inb_S1024x1024_S256x1024_512_0, truncf .bf16 (chunk b (prod w (View.ld h (Rect.unit ![512, 0] S256x2048.size inb_S1024x2048_S256x2048_512_0))) g) bitsLt_bf16_f32⟩,
   ⟨Rect.unit ![256, 0] ![256, 1024] inb_S1024x1024_S256x1024_256_0, truncf .bf16 (chunk b (prod w (View.ld h (Rect.unit ![256, 0] S256x2048.size inb_S1024x2048_S256x2048_256_0))) g) bitsLt_bf16_f32⟩,
   ⟨Rect.unit ![0, 0] ![256, 1024] inb_S1024x1024_S256x1024_0_0, truncf .bf16 (chunk b (prod w (View.ld h (Rect.unit ![0, 0] S256x2048.size inb_S1024x2048_S256x2048_0_0))) g) bitsLt_bf16_f32⟩]

theorem piece_apply (o : Nat) (ho : o + 256 ≤ 1024) (inb inb') (b : BitVec 1) (h : Vec Ideal S1024x2048 .bf16) (w : Vec Ideal S2048x1024 .bf16) (g : Vec Ideal S1x1024 .f32)
    (x : (Rect.unit (s := S1024x1024) ![o, 0] ![256, 1024] inb').shape.Idx) :
    chunk b (prod w (View.ld h (Rect.unit (s := S1024x2048) ![o, 0] S256x2048.size inb))) g x
      = blockAt b h w g (((Rect.unit (s := S1024x1024) ![o, 0] ![256, 1024] inb').emb x) 0) (((Rect.unit (s := S1024x1024) ![o, 0] ![256, 1024] inb').emb x) 1) := by
  obtain ⟨r, c, rfl⟩ : ∃ (r : Fin 256) (c : Fin 1024), x = ix2 r c := ⟨x 0, x 1, eq_ix2 x⟩
  have hr : ((Rect.unit (s := S1024x1024) ![o, 0] ![256, 1024] inb').emb (ix2 r c)) 0 = (⟨o + r.val, by have := r.isLt; omega⟩ : Fin 1024) := Fin.ext (by show o + 1 * r.val = _; dsimp only; omega)
  have hc : ((Rect.unit (s := S1024x1024) ![o, 0] ![256, 1024] inb').emb (ix2 r c)) 1 = c := Fin.ext (by show 0 + 1 * c.val = _; omega)
  have hz : ∀ c' : Fin 1024, prod w (View.ld h (Rect.unit (s := S1024x2048) ![o, 0] S256x2048.size inb)) (ix2 r c') = zAt h w ⟨o + r.val, by have := r.isLt; omega⟩ c' := fun c' => by
    rw [prod_apply]
    unfold zAt
    refine Finset.sum_congr rfl fun k _ => ?_
    pointwise
  rw [hr, hc]
  refine (chunk_apply b _ g r c).trans ?_
  simp only [hz]
  rfl

theorem cover_pieces (b : BitVec 1) (h : Vec F S1024x2048 .bf16) (w : Vec F S2048x1024 .bf16) (g : Vec F S1x1024 .f32) (y : S1024x1024.Idx) :
    ∃ p ∈ pieces b h w g, y ∈ p.1.set :=
  View.cover_of_tiledL (pieces b h w g) S256x1024.size (by sl_kernel_rfl) y

theorem cover_piecesB (b : BitVec 1) (h : Vec F S1024x2048 .bf16) (w : Vec F S2048x1024 .bf16) (g : Vec F S1x1024 .f32) (y : S1024x1024.Idx) :
    ∃ p ∈ piecesB b h w g, y ∈ p.1.set :=
  View.cover_of_tiledL (piecesB b h w g) S256x1024.size (by sl_kernel_rfl) y

theorem canon_pieces (b : BitVec 1) (h : Vec Ideal S1024x2048 .bf16) (w : Vec Ideal S2048x1024 .bf16) (g : Vec Ideal S1x1024 .f32) (y : S1024x1024.Idx) :
    View.canon (pieces b h w g) y = blockAt b h w g (y 0) (y 1) := by
  refine View.canon_apply_of_pieces (fun y => blockAt b h w g (y 0) (y 1)) _ ?_ y (cover_pieces b h w g y)
  intro p hp
  simp only [pieces, List.mem_cons, List.not_mem_nil, or_false] at hp
  rcases hp with rfl | rfl | rfl | rfl <;> dsimp only <;> intro x <;> exact piece_apply _ (by decide) _ _ b h w g x

theorem canon_piecesB (b : BitVec 1) (h : Vec Ideal S1024x2048 .bf16) (w : Vec Ideal S2048x1024 .bf16) (g : Vec Ideal S1x1024 .f32) (y : S1024x1024.Idx) :
    View.canon (piecesB b h w g) y = blockAt b h w g (y 0) (y 1) := by
  refine View.canon_apply_of_pieces (Val := Elt Ideal) (e := .bf16) (fun y => blockAt b h w g (y 0) (y 1)) _ ?_ y (cover_piecesB b h w g y)
  intro p hp
  simp only [piecesB, List.mem_cons, List.not_mem_nil, or_false] at hp
  rcases hp with rfl | rfl | rfl | rfl <;> dsimp only <;> intro x <;> exact piece_apply _ (by decide) _ _ b h w g x

/-- The stored rows from 0 on are `chunk`. -/
theorem chunk_0 (i : grid0.Coords) (w : Vec F S2048x1024 .bf16) (h : Vec F S256x2048 .bf16) (g : Vec F S1x1024 .f32) :
    k0_pay13 (k0_pay4 w h) (bit i) (k0_pay5 i w h) (k0_pay6 i w h) (k0_pay9 (bit i) (k0_pay7 w h) (k0_pay8 w h)) (k0_pay10 (k0_pay4 w h) (bit i)) (k0_pay11 (k0_pay4 w h) (bit i)) (k0_pay12 (k0_pay4 w h) (bit i)) g
      = chunk (bit i) (prod w h) g := by
  simp only [k0_pay13, k0_pay4, k0_pay5, k0_pay6, k0_pay7, k0_pay8, k0_pay9, k0_pay10, k0_pay11, k0_pay12, chunk, head, prod, bit]

theorem chunkB_0 (i : grid0.Coords) (w : Vec F S2048x1024 .bf16) (h : Vec F S256x2048 .bf16) (g : Vec F S1x1024 .f32) :
    k0_pay14 (k0_pay4 w h) (bit i) (k0_pay5 i w h) (k0_pay6 i w h) (k0_pay9 (bit i) (k0_pay7 w h) (k0_pay8 w h)) (k0_pay10 (k0_pay4 w h) (bit i)) (k0_pay11 (k0_pay4 w h) (bit i)) (k0_pay12 (k0_pay4 w h) (bit i)) g
      = truncf .bf16 (chunk (bit i) (prod w h) g) bitsLt_bf16_f32 := by
  rw [← chunk_0]
  rfl

/-- The stored rows from 256 on are `chunk`. -/
theorem chunk_256 (i : grid0.Coords) (w : Vec F S2048x1024 .bf16) (h : Vec F S256x2048 .bf16) (g : Vec F S1x1024 .f32) :
    k0_pay29 (bit i) (k0_pay18 (bit i) (k0_pay16 w h) (k0_pay17 w h)) (k0_pay19 (k0_pay15 w h) (bit i)) (k0_pay20 (k0_pay15 w h) (bit i)) (k0_pay23 (bit i) (k0_pay21 (k0_pay15 w h)) (k0_pay22 (k0_pay15 w h))) (k0_pay24 (k0_pay15 w h) (bit i)) (k0_pay25 (k0_pay15 w h) (bit i)) (k0_pay26 (k0_pay15 w h) (bit i)) (k0_pay27 (k0_pay15 w h)) (k0_pay28 (k0_pay15 w h)) g
      = chunk (bit i) (prod w h) g := by
  simp only [k0_pay29, k0_pay15, k0_pay16, k0_pay17, k0_pay18, k0_pay19, k0_pay20, k0_pay21, k0_pay22, k0_pay23, k0_pay24, k0_pay25, k0_pay26, k0_pay27, k0_pay28, chunk, head, prod, bit]

theorem chunkB_256 (i : grid0.Coords) (w : Vec F S2048x1024 .bf16) (h : Vec F S256x2048 .bf16) (g : Vec F S1x1024 .f32) :
    k0_pay30 (bit i) (k0_pay18 (bit i) (k0_pay16 w h) (k0_pay17 w h)) (k0_pay19 (k0_pay15 w h) (bit i)) (k0_pay20 (k0_pay15 w h) (bit i)) (k0_pay23 (bit i) (k0_pay21 (k0_pay15 w h)) (k0_pay22 (k0_pay15 w h))) (k0_pay24 (k0_pay15 w h) (bit i)) (k0_pay25 (k0_pay15 w h) (bit i)) (k0_pay26 (k0_pay15 w h) (bit i)) (k0_pay27 (k0_pay15 w h)) (k0_pay28 (k0_pay15 w h)) g
      = truncf .bf16 (chunk (bit i) (prod w h) g) bitsLt_bf16_f32 := by
  rw [← chunk_256]
  rfl

/-- The stored rows from 512 on are `chunk`. -/
theorem chunk_512 (i : grid0.Coords) (w : Vec F S2048x1024 .bf16) (h : Vec F S256x2048 .bf16) (g : Vec F S1x1024 .f32) :
    k0_pay41 (k0_pay31 w h) (bit i) (k0_pay32 (BitVec.ofNat 32 (i 1).val) w h) (k0_pay36 (bit i) (k0_pay33 w h) (k0_pay34 w h) k0_pay35) (k0_pay37 (k0_pay31 w h) (bit i)) (k0_pay38 (k0_pay31 w h) (bit i)) (k0_pay39 (k0_pay31 w h)) (k0_pay40 (k0_pay31 w h) (bit i)) g
      = chunk (bit i) (prod w h) g := by
  simp only [k0_pay41, k0_pay31, k0_pay32, k0_pay33, k0_pay34, k0_pay35, k0_pay36, k0_pay37, k0_pay38, k0_pay39, k0_pay40, chunk, head, prod, bit]

theorem chunkB_512 (i : grid0.Coords) (w : Vec F S2048x1024 .bf16) (h : Vec F S256x2048 .bf16) (g : Vec F S1x1024 .f32) :
    k0_pay42 (k0_pay41 (k0_pay31 w h) (bit i) (k0_pay32 (BitVec.ofNat 32 (i 1).val) w h) (k0_pay36 (bit i) (k0_pay33 w h) (k0_pay34 w h) k0_pay35) (k0_pay37 (k0_pay31 w h) (bit i)) (k0_pay38 (k0_pay31 w h) (bit i)) (k0_pay39 (k0_pay31 w h)) (k0_pay40 (k0_pay31 w h) (bit i)) g)
      = truncf .bf16 (chunk (bit i) (prod w h) g) bitsLt_bf16_f32 := by
  rw [← chunk_512]
  rfl

/-- The stored rows from 768 on are `chunk`. -/
theorem chunk_768 (i : grid0.Coords) (w : Vec F S2048x1024 .bf16) (h : Vec F S256x2048 .bf16) (g : Vec F S1x1024 .f32) :
    k0_pay1 (k0_pay43 w h) (bit i) (k0_pay44 (BitVec.ofNat 32 (i 1).val) w h) (k0_pay45 (BitVec.ofNat 32 (i 1).val) w h) (k0_pay48 (bit i) (k0_pay46 w h) (k0_pay47 w h)) (k0_pay49 (k0_pay43 w h) (bit i)) (k0_pay50 (k0_pay43 w h) (bit i)) (k0_pay51 (k0_pay43 w h) (bit i)) (k0_pay52 (k0_pay43 w h)) (k0_pay53 (k0_pay43 w h)) g
      = chunk (bit i) (prod w h) g := by
  simp only [k0_pay1, k0_pay43, k0_pay44, k0_pay45, k0_pay46, k0_pay47, k0_pay48, k0_pay49, k0_pay50, k0_pay51, k0_pay52, k0_pay53, chunk, head, prod, bit]

theorem chunkB_768 (i : grid0.Coords) (w : Vec F S2048x1024 .bf16) (h : Vec F S256x2048 .bf16) (g : Vec F S1x1024 .f32) :
    k0_pay2 (k0_pay43 w h) (bit i) (k0_pay44 (BitVec.ofNat 32 (i 1).val) w h) (k0_pay45 (BitVec.ofNat 32 (i 1).val) w h) (k0_pay48 (bit i) (k0_pay46 w h) (k0_pay47 w h)) (k0_pay49 (k0_pay43 w h) (bit i)) (k0_pay50 (k0_pay43 w h) (bit i)) (k0_pay51 (k0_pay43 w h) (bit i)) (k0_pay52 (k0_pay43 w h)) (k0_pay53 (k0_pay43 w h)) g
      = truncf .bf16 (chunk (bit i) (prod w h) g) bitsLt_bf16_f32 := by
  rw [← chunk_768]
  rfl

end Cert.KernelIdeal.InProj
-- ==== Proof.InProj.Block.lean ====
/-
  What a grid point of the input projection leaves in its output blocks and in its scratch.
-/
module

public import proofs.«01_k».proof.Proof.InProj.Chunk
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.InProj

open Cert.KernelIdeal Cert.KernelIdeal.Gen

variable {F : FTy → Type} [FloatOps F]

/-- A load from a buffer whose one covering store put `w` there loads from `w`. -/
theorem readCov_whole {S : Shape} {e : EltTy} {κ : Kind} {sp : Space} (v : View sig κ sp S e) {off : Fin S.rank → Nat} (h : off = fun _ => 0)
    (inb : ∀ a, off a + S.size a ≤ S.size a) (w : S.Idx → Elt F e) (R : Rect S) :
    v.readCov (Val := Elt F) [⟨Rect.unit off S.size inb, w⟩] R = View.ld w R := by
  rw [View.readCov_eq_canon_ld _ _ _ (fun y => ⟨_, List.mem_singleton_self _, View.mem_set_unit_zero h inb y⟩), View.canon_unit_zero h]

set_option maxHeartbeats 1000000 in
theorem out_B_4 (c : Dev nD) (i : grid0.Coords) (a2 h2 a3 h3 a4 h4 a5 h5 a6 h6 a7 h7 a8 h8) (hc : ¬cond0_0 i) (x0 x1 x2 x3 xs0) :
    out0_B_4 (F := F) c i a2 h2 a3 h3 a4 h4 a5 h5 a6 h6 a7 h7 a8 h8 hc x0 x1 x2 x3 xs0 = View.canon (pieces (bit i) xs0 x2 x3) := by
  unfold out0_B_4
  rw [View.read_writes_eq_canon _ _ _ (cover0_B_4 c i a2 h2 a3 h3 a4 h4 a5 h5 a6 h6 a7 h7 a8 h8 hc x0 x1 x2 x3 xs0)]
  unfold kernelRun0_B
  dsimp only
  sl_unfold_words
  simp only [View.readAt_eq_ld, h4.read_unread, h5.read_unread, h8.read_unread, View.ld_unit_zero (S := S2048x1024) hz, View.ld_unit_zero (S := S1x1024) hz]
  simp only [hbit]
  rw [chunk_768, chunk_512, chunk_256, chunk_0]
  exact rfl

set_option maxHeartbeats 1000000 in
theorem out_B_5 (c : Dev nD) (i : grid0.Coords) (a2 h2 a3 h3 a4 h4 a5 h5 a6 h6 a7 h7 a8 h8) (hc : ¬cond0_0 i) (x0 x1 x2 x3 xs0) :
    out0_B_5 (F := F) c i a2 h2 a3 h3 a4 h4 a5 h5 a6 h6 a7 h7 a8 h8 hc x0 x1 x2 x3 xs0 = View.canon (piecesB (bit i) xs0 x2 x3) := by
  unfold out0_B_5
  rw [View.read_writes_eq_canon _ _ _ (cover0_B_5 c i a2 h2 a3 h3 a4 h4 a5 h5 a6 h6 a7 h7 a8 h8 hc x0 x1 x2 x3 xs0)]
  unfold kernelRun0_B
  dsimp only
  sl_unfold_words
  simp only [View.readAt_eq_ld, h4.read_unread, h5.read_unread, h8.read_unread, View.ld_unit_zero (S := S2048x1024) hz, View.ld_unit_zero (S := S1x1024) hz]
  simp only [hbit]
  rw [chunkB_768, chunkB_512, chunkB_256, chunkB_0]
  rfl

/-- What the first point of a row of blocks leaves in the scratch: the row block's normalised rows. -/
theorem sout_A (c : Dev nD) (i : grid0.Coords) (a2 h2 a3 h3 a4 h4 a5 h5 a6 h6 a7 h7 a8 h8) (hc : cond0_0 i) (x0 x1 x2 x3) :
    sout0_A_0 (F := F) c i a2 h2 a3 h3 a4 h4 a5 h5 a6 h6 a7 h7 a8 h8 hc x0 x1 x2 x3 = k0_pay3 x0 x1 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

set_option maxHeartbeats 1000000 in
theorem out_A_4 (c : Dev nD) (i : grid0.Coords) (a2 h2 a3 h3 a4 h4 a5 h5 a6 h6 a7 h7 a8 h8) (hc : cond0_0 i) (x0 x1 x2 x3) :
    out0_A_4 (F := F) c i a2 h2 a3 h3 a4 h4 a5 h5 a6 h6 a7 h7 a8 h8 hc x0 x1 x2 x3 = View.canon (pieces (bit i) (k0_pay3 x0 x1) x2 x3) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  simp only [View.readAt_eq_ld, h2.read_unread, h3.read_unread, h4.read_unread, h5.read_unread, View.ld_unit_zero (S := S2048x1024) hz, View.ld_unit_zero (S := S1x1024) hz, View.ld_unit_zero (S := S1024x2048) hz, View.ld_unit_zero (S := S1x2048) hz]
  have hld : ∀ (w : Vec F S1024x2048 .bf16) (R : Rect S1024x2048), a8.view.readCov (Val := Elt F) [⟨Rect.unit ![0, 0] ![1024, 2048] inb_S1024x2048_S1024x2048_0_0, w⟩] R = View.ld w R := fun w R =>
    readCov_whole (S := S1024x2048) a8.view hz inb_S1024x2048_S1024x2048_0_0 w R
  simp only [hld]
  simp only [hbit]
  rw [chunk_768, chunk_512, chunk_256, chunk_0]
  exact rfl

set_option maxHeartbeats 1000000 in
theorem out_A_5 (c : Dev nD) (i : grid0.Coords) (a2 h2 a3 h3 a4 h4 a5 h5 a6 h6 a7 h7 a8 h8) (hc : cond0_0 i) (x0 x1 x2 x3) :
    out0_A_5 (F := F) c i a2 h2 a3 h3 a4 h4 a5 h5 a6 h6 a7 h7 a8 h8 hc x0 x1 x2 x3 = View.canon (piecesB (bit i) (k0_pay3 x0 x1) x2 x3) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  simp only [View.readAt_eq_ld, h2.read_unread, h3.read_unread, h4.read_unread, h5.read_unread, View.ld_unit_zero (S := S2048x1024) hz, View.ld_unit_zero (S := S1x1024) hz, View.ld_unit_zero (S := S1024x2048) hz, View.ld_unit_zero (S := S1x2048) hz]
  have hld : ∀ (w : Vec F S1024x2048 .bf16) (R : Rect S1024x2048), a8.view.readCov (Val := Elt F) [⟨Rect.unit ![0, 0] ![1024, 2048] inb_S1024x2048_S1024x2048_0_0, w⟩] R = View.ld w R := fun w R =>
    readCov_whole (S := S1024x2048) a8.view hz inb_S1024x2048_S1024x2048_0_0 w R
  simp only [hld]
  simp only [hbit]
  rw [chunkB_768, chunkB_512, chunkB_256, chunkB_0]
  rfl

end Cert.KernelIdeal.InProj
-- ==== Proof.InProj.Array.lean ====
/-
  The blocks of the input projection's two results, element by element, from the arrays its windows read.
-/
module

public import proofs.«01_k».proof.Proof.InProj.Block
public import proofs.«01_k».proof.Proof.Gen.KernelIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.InProj

open Cert.KernelIdeal Cert.KernelIdeal.Gen

variable (m : (ℓ : Loc nD τ sig) → Buf (Elt Ideal) ℓ)

/-- The activations, the gain, the weights and the column gains as the windows read them. -/
abbrev xA (c : Dev nD) : Vec Ideal S8192x2048 .f32 := V m c main_v12
abbrev gA (c : Dev nD) : Vec Ideal S1x2048 .f32 := V m c main_v15
abbrev wA (c : Dev nD) : Vec Ideal S2048x6144 .bf16 := V m c main_arg2
abbrev cA (c : Dev nD) : Vec Ideal S1x6144 .f32 := V m c main_v16

/-- Element `k` of a row after the root mean square norm with gain `g`. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay3_apply (x : Vec Ideal S1024x2048 .f32) (g : Vec Ideal S1x2048 .f32) (r : Fin 1024) (k : Fin 2048) :
    k0_pay3 x g (ix2 r k) = normed (fun l => x (ix2 r l)) (fun l => g (ix2 0 l)) k := by
  pointwise [k0_pay3, normed]

theorem index0 : ∀ t : Fin cfg0.N, win0_0.index t 0 = t.val / 6 ∧ win0_0.index t 1 = 0 := (by decide +kernel : ∀ t : Fin grid0.N, win0_0.index t 0 = t.val / 6 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = t.val % 6 := (by decide +kernel : ∀ t : Fin grid0.N, win0_2.index t 0 = 0 ∧ win0_2.index t 1 = t.val % 6)
theorem index3 : ∀ t : Fin cfg0.N, win0_3.index t 0 = 0 ∧ win0_3.index t 1 = t.val % 6 := (by decide +kernel : ∀ t : Fin grid0.N, win0_3.index t 0 = 0 ∧ win0_3.index t 1 = t.val % 6)
theorem index4 : ∀ t : Fin cfg0.N, win0_4.index t 0 = t.val / 6 ∧ win0_4.index t 1 = t.val % 6 := (by decide +kernel : ∀ t : Fin grid0.N, win0_4.index t 0 = t.val / 6 ∧ win0_4.index t 1 = t.val % 6)
theorem index5 : ∀ t : Fin cfg0.N, win0_5.index t 0 = t.val / 6 ∧ win0_5.index t 1 = min (t.val % 6) 3 := (by decide +kernel : ∀ t : Fin grid0.N, win0_5.index t 0 = t.val / 6 ∧ win0_5.index t 1 = min (t.val % 6) 3)
theorem flush5 : ∀ t : Fin cfg0.N, (cfg0.win 5).flush t = true ↔ (t.val % 6 < 3 ∨ t.val % 6 = 5) := (by decide +kernel : ∀ t : Fin grid0.N, (cfg0.win 5).flush t = true ↔ (t.val % 6 < 3 ∨ t.val % 6 = 5))
theorem coord1 : ∀ t : Fin cfg0.N, (grid0.coords t 1).val = t.val % 6 := (by decide +kernel : ∀ t : Fin grid0.N, (grid0.coords t 1).val = t.val % 6)

theorem lt48 (t : Fin cfg0.N) : t.val < 48 := by have h : cfg0.N = 48 := N_0; have := t.isLt; omega

/-- Row `r` of the point's row block, as a row of the whole array. -/
def rowOf (t : Fin cfg0.N) (r : Fin 1024) : Fin 8192 := ⟨t.val / 6 * 1024 + r.val, by have := lt48 t; have := r.isLt; omega⟩
/-- Column `x` of the point's column block, as a column of the whole array. -/
def colOf (t : Fin cfg0.N) (x : Fin 1024) : Fin 6144 := ⟨t.val % 6 * 1024 + x.val, by have := lt48 t; have := x.isLt; omega⟩

theorem iblk0_apply (c : Dev nD) (t : Fin cfg0.N) (r : Fin 1024) (k : Fin 2048) : (iblk m c 0 t : Vec Ideal S1024x2048 .f32) (ix2 r k) = xA m c (ix2 (rowOf t r) k) := by
  have hi := index0 t
  unfold iblk
  rw [View.read_apply]
  show V m c main_v12 _ = V m c main_v12 _
  congr 1
  funext a
  apply Fin.ext
  match a with
  | ⟨0, _⟩ => show win0_0.index t 0 * 1024 + 1 * r.val = t.val / 6 * 1024 + r.val; rw [hi.1]; omega
  | ⟨1, _⟩ => show win0_0.index t 1 * 2048 + 1 * k.val = k.val; rw [hi.2]; omega

theorem iblk1_apply (c : Dev nD) (t : Fin cfg0.N) (k : Fin 2048) : (iblk m c 1 t : Vec Ideal S1x2048 .f32) (ix2 0 k) = gA m c (ix2 0 k) := by
  have hi := index1 t
  unfold iblk
  rw [View.read_apply]
  show V m c main_v15 _ = V m c main_v15 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem iblk2_apply (c : Dev nD) (t : Fin cfg0.N) (k : Fin 2048) (x : Fin 1024) : (iblk m c 2 t : Vec Ideal S2048x1024 .bf16) (ix2 k x) = wA m c (ix2 k (colOf t x)) := by
  have hi := index2 t
  unfold iblk
  rw [View.read_apply]
  show V m c main_arg2 _ = V m c main_arg2 _
  congr 1
  funext a
  apply Fin.ext
  match a with
  | ⟨0, _⟩ => show win0_2.index t 0 * 2048 + 1 * k.val = k.val; rw [hi.1]; omega
  | ⟨1, _⟩ => show win0_2.index t 1 * 1024 + 1 * x.val = t.val % 6 * 1024 + x.val; rw [hi.2]; omega

theorem iblk3_apply (c : Dev nD) (t : Fin cfg0.N) (x : Fin 1024) : (iblk m c 3 t : Vec Ideal S1x1024 .f32) (ix2 0 x) = cA m c (ix2 0 (colOf t x)) := by
  have hi := index3 t
  unfold iblk
  rw [View.read_apply]
  show V m c main_v16 _ = V m c main_v16 _
  congr 1
  funext a
  apply Fin.ext
  match a with
  | ⟨0, _⟩ => show win0_3.index t 0 * 1 + 1 * 0 = 0; rw [hi.1]
  | ⟨1, _⟩ => show win0_3.index t 1 * 1024 + 1 * x.val = t.val % 6 * 1024 + x.val; rw [hi.2]; omega

/-- The scratch after point `t` holds the normalised rows of the point's row block. -/
theorem scratch_apply (c : Dev nD) : ∀ (n : ℕ) (hn : n < cfg0.N) (r : Fin 1024) (k : Fin 2048),
    (outsAt0 m c n hn).2.2 (ix2 r k) = normed (fun l => xA m c (ix2 (rowOf ⟨n, hn⟩ r) l)) (fun l => gA m c (ix2 0 l)) k := by
  intro n
  induction n with
  | zero =>
    intro hn r k
    have h := congrArg (fun p => p.2.2 (ix2 r k)) (outsAt0_A m c ⟨0, hn⟩ rfl)
    refine h.trans ?_
    dsimp only
    rw [sout_A, pay3_apply]
    simp only [iblk0_apply, iblk1_apply]
  | succ n ih =>
    intro hn r k
    by_cases h0 : (n + 1) % 6 = 0
    · have h := congrArg (fun p => p.2.2 (ix2 r k)) (outsAt0_A m c ⟨n + 1, hn⟩ h0)
      refine h.trans ?_
      dsimp only
      rw [sout_A, pay3_apply]
      simp only [iblk0_apply, iblk1_apply]
    · have h := congrArg (fun p => p.2.2 (ix2 r k)) (outsAt0_B m c ⟨n + 1, hn⟩ h0)
      refine h.trans ?_
      dsimp only [sout0_B_0]
      refine (ih (Nat.lt_of_succ_lt hn) r k).trans ?_
      have hr : rowOf ⟨n, Nat.lt_of_succ_lt hn⟩ r = rowOf ⟨n + 1, hn⟩ r := Fin.ext (by show n / 6 * 1024 + _ = (n + 1) / 6 * 1024 + _; omega)
      rw [hr]

/-- Element `(R, C)` of the product of the normalised rows with the weights. -/
def zOf (c : Dev nD) (R : Fin 8192) (C : Fin 6144) : EReal :=
  ∑ k : Fin 2048, normed (fun l => xA m c (ix2 R l)) (fun l => gA m c (ix2 0 l)) k * wA m c (ix2 k C)

/-- Column `x` of the head that column `C` belongs to. -/
def hdOf (C : Fin 6144) (x : Fin 128) : Fin 6144 := ⟨C.val / 128 * 128 + x.val, by have := C.isLt; have := x.isLt; omega⟩

/-- Whether a column's head is normalised. -/
def bitOf (C : Fin 6144) : BitVec 1 := Scalar.cmpi .slt (BitVec.ofNat 32 (C.val / 1024)) 2#32

/-- Element `(R, C)` of the projection. -/
def outOf (c : Dev nD) (R : Fin 8192) (C : Fin 6144) : EReal :=
  zOf m c R C * (scale (bitOf C) fun x => zOf m c R (hdOf C x)) * cA m c (ix2 0 C)

/-- A point's block is the projection at the block's rows and columns, whichever of the two cases runs. -/
theorem blockAt_eq (c : Dev nD) (t : Fin cfg0.N) (h : Vec Ideal S1024x2048 .bf16)
    (hh : ∀ r k, h (ix2 r k) = normed (fun l => xA m c (ix2 (rowOf t r) l)) (fun l => gA m c (ix2 0 l)) k) (r x : Fin 1024) :
    blockAt (bit (grid0.coords t)) h (iblk m c 2 t) (iblk m c 3 t) r x = outOf m c (rowOf t r) (colOf t x) := by
  have hzz : ∀ r x, zAt h (iblk m c 2 t) r x = zOf m c (rowOf t r) (colOf t x) := fun r x => by
    unfold zAt zOf
    refine Finset.sum_congr rfl fun k _ => ?_
    rw [hh, iblk2_apply]
  have hb : bit (grid0.coords t) = bitOf (colOf t x) := by
    unfold bit bitOf
    rw [coord1]
    have : (colOf t x).val / 1024 = t.val % 6 := by show (t.val % 6 * 1024 + x.val) / 1024 = _; have := x.isLt; omega
    rw [this]
  have hhd : ∀ y, colOf t (hd x y) = hdOf (colOf t x) y := fun y => Fin.ext (by
    show t.val % 6 * 1024 + (x.val / 128 * 128 + y.val) = (t.val % 6 * 1024 + x.val) / 128 * 128 + y.val
    omega)
  unfold blockAt outOf
  simp only [hzz, hhd, hb, iblk3_apply]

theorem outs4_apply (c : Dev nD) (t : Fin cfg0.N) (r x : Fin 1024) :
    (outsAt0 m c t.val t.isLt).1 (ix2 r x) = outOf m c (rowOf t r) (colOf t x) := by
  by_cases h0 : t.val % 6 = 0
  · rw [outsAt0_A m c t h0]
    dsimp only
    rw [out_A_4, canon_pieces]
    refine blockAt_eq m c t _ (fun r k => ?_) r x
    rw [pay3_apply]
    simp only [iblk0_apply, iblk1_apply]
  · rw [outsAt0_B m c t h0]
    dsimp only
    rw [out_B_4, canon_pieces]
    refine blockAt_eq m c t _ (fun r k => ?_) r x
    rw [scratch_apply]
    have hr : rowOf ⟨t.val - 1, Nat.lt_of_le_of_lt (Nat.sub_le _ _) t.isLt⟩ r = rowOf t r := Fin.ext (by show (t.val - 1) / 6 * 1024 + _ = t.val / 6 * 1024 + _; omega)
    rw [hr]

theorem outs5_apply (c : Dev nD) (t : Fin cfg0.N) (r x : Fin 1024) :
    (outsAt0 m c t.val t.isLt).2.1 (ix2 r x) = outOf m c (rowOf t r) (colOf t x) := by
  by_cases h0 : t.val % 6 = 0
  · rw [outsAt0_A m c t h0]
    dsimp only
    rw [out_A_5, canon_piecesB]
    refine blockAt_eq m c t _ (fun r k => ?_) r x
    rw [pay3_apply]
    simp only [iblk0_apply, iblk1_apply]
  · rw [outsAt0_B m c t h0]
    dsimp only
    rw [out_B_5, canon_piecesB]
    refine blockAt_eq m c t _ (fun r k => ?_) r x
    rw [scratch_apply]
    have hr : rowOf ⟨t.val - 1, Nat.lt_of_le_of_lt (Nat.sub_le _ _) t.isLt⟩ r = rowOf t r := Fin.ext (by show (t.val - 1) / 6 * 1024 + _ = t.val / 6 * 1024 + _; omega)
    rw [hr]

end Cert.KernelIdeal.InProj
-- ==== Proof.InProj.Final.lean ====
/-
  The two result arrays of the input projection: the blocks the grid points leave, put together.
-/
module

public import proofs.«01_k».proof.Proof.InProj.Array
public import proofs.«01_k».proof.Proof.Gen.KernelIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.InProj

open Cert.KernelIdeal Cert.KernelIdeal.Gen

variable (m : (ℓ : Loc nD τ sig) → Buf (Elt Ideal) ℓ)

/-- The first result. -/
def G4 (c : Dev nD) : Buf (Elt Ideal) ((c : Thread nD τ).loc main_v17_0) := fun j : S8192x6144.Idx => outOf m c (j 0) (j 1)

/-- The second result: its last column block holds what the last point of the row wrote. -/
def G5 (c : Dev nD) : Buf (Elt Ideal) ((c : Thread nD τ).loc main_v17_1) := fun j : S8192x4096.Idx =>
  outOf m c (j 0) (if (j 1).val < 3072 then ⟨(j 1).val, by have : (j 1).val < 4096 := (j 1).isLt; omega⟩ else ⟨(j 1).val + 2048, by have : (j 1).val < 4096 := (j 1).isLt; omega⟩)

theorem G5_lt (c : Dev nD) (R : Fin 8192) (C : Fin 4096) (h : C.val < 3072) : (G5 m c : Vec Ideal S8192x4096 .bf16) (ix2 R C) = outOf m c R ⟨C.val, by omega⟩ := by
  show outOf m c R (if C.val < 3072 then _ else _) = _
  rw [if_pos h]
  rfl

theorem flushed4_eq (c : Dev nD) (t : Fin cfg0.N) (_ : (cfg0.win 4).flush t = true) :
    (dats m 0 c).flushed 4 t = ((cfg0.win 4).blk t).view.read (Elt Ideal) (G4 m c) := by
  have hi := index4 t
  have ho := outs4_apply m c t
  rw [Value.flushed4]
  generalize (outsAt0 m c t.val t.isLt).1 = o at ho
  funext j
  rw [View.read_apply]
  have hj : o j = outOf m c (rowOf t (j 0)) (colOf t (j 1)) := (congrArg o (eq_ix2 (n0 := 1024) (n1 := 1024) j)).trans (ho (j 0) (j 1))
  refine hj.trans ?_
  unfold G4
  refine congrArg₂ (outOf m c) (Fin.ext ?_) (Fin.ext ?_)
  · show t.val / 6 * 1024 + (j 0).val = win0_4.index t 0 * 1024 + 1 * (j 0).val; rw [hi.1]; omega
  · show t.val % 6 * 1024 + (j 1).val = win0_4.index t 1 * 1024 + 1 * (j 1).val; rw [hi.2]; omega

theorem flushed5_eq (c : Dev nD) (t : Fin cfg0.N) (hf : (cfg0.win 5).flush t = true) :
    (dats m 0 c).flushed 5 t = ((cfg0.win 5).blk t).view.read (Elt Ideal) (G5 m c) := by
  have hi := index5 t
  have h5 := (flush5 t).mp hf
  have ho := outs5_apply m c t
  rw [Value.flushed5]
  generalize (outsAt0 m c t.val t.isLt).2.1 = o at ho
  funext j
  rw [View.read_apply]
  have hj : o j = outOf m c (rowOf t (j 0)) (colOf t (j 1)) := (congrArg o (eq_ix2 (n0 := 1024) (n1 := 1024) j)).trans (ho (j 0) (j 1))
  refine hj.trans ?_
  have hx : (j 1).val < 1024 := (j 1).isLt
  unfold G5
  have hc : ((((cfg0.win 5).blk t).view.emb j) (1 : Fin 2)).val = min (t.val % 6) 3 * 1024 + (j 1).val := by
    show win0_5.index t 1 * 1024 + 1 * (j 1).val = _; rw [hi.2]; omega
  refine congrArg₂ (outOf m c) (Fin.ext ?_) (Fin.ext ?_)
  · show t.val / 6 * 1024 + (j 0).val = win0_5.index t 0 * 1024 + 1 * (j 0).val; rw [hi.1]; omega
  · rcases h5 with h | h
    · rw [if_pos (by rw [hc]; omega)]
      show t.val % 6 * 1024 + (j 1).val = _
      rw [hc]; omega
    · rw [if_neg (by rw [hc]; omega)]
      show t.val % 6 * 1024 + (j 1).val = _ + 2048
      rw [hc]; omega

theorem mem4 (t : Fin cfg0.N) (i : S8192x6144.Idx) : i ∈ ((cfg0.win 4).blk t).view.set ↔ ∀ a, win0_4.index t a * 1024 ≤ (i a).val ∧ (i a).val < win0_4.index t a * 1024 + 1024 := by
  show i ∈ ((View.whole main_v17_0).slice (win0_4.rect t)).set ↔ _
  rw [View.set_slice_whole, Rect.mem_set_unit]
  constructor <;> intro h a <;> have := h a <;> fin_cases a <;> exact this

theorem mem5 (t : Fin cfg0.N) (i : S8192x4096.Idx) : i ∈ ((cfg0.win 5).blk t).view.set ↔ ∀ a, win0_5.index t a * 1024 ≤ (i a).val ∧ (i a).val < win0_5.index t a * 1024 + 1024 := by
  show i ∈ ((View.whole main_v17_1).slice (win0_5.rect t)).set ↔ _
  rw [View.set_slice_whole, Rect.mem_set_unit]
  constructor <;> intro h a <;> have := h a <;> fin_cases a <;> exact this

theorem cover4 (i : S8192x6144.Idx) : ∃ t : Fin cfg0.N, (cfg0.win 4).flush t = true ∧ i ∈ ((cfg0.win 4).blk t).view.set := by
  have h0 : (i 0 : Nat) < 8192 := (i 0).isLt
  have h1 : (i 1 : Nat) < 6144 := (i 1).isLt
  have hN : cfg0.N = 48 := N_0
  obtain ⟨t, ht⟩ : ∃ t : Fin cfg0.N, t.val = (i 0 : Nat) / 1024 * 6 + (i 1 : Nat) / 1024 := ⟨⟨(i 0 : Nat) / 1024 * 6 + (i 1 : Nat) / 1024, by omega⟩, rfl⟩
  have hi := index4 t
  refine ⟨t, flush0_4 t, (mem4 t i).mpr fun a => ?_⟩
  match a with
  | ⟨0, _⟩ => show win0_4.index t 0 * 1024 ≤ (i 0).val ∧ (i 0).val < win0_4.index t 0 * 1024 + 1024; rw [hi.1]; omega
  | ⟨1, _⟩ => show win0_4.index t 1 * 1024 ≤ (i 1).val ∧ (i 1).val < win0_4.index t 1 * 1024 + 1024; rw [hi.2]; omega

theorem cover5 (i : S8192x4096.Idx) : ∃ t : Fin cfg0.N, (cfg0.win 5).flush t = true ∧ i ∈ ((cfg0.win 5).blk t).view.set := by
  have h0 : (i 0 : Nat) < 8192 := (i 0).isLt
  have h1 : (i 1 : Nat) < 4096 := (i 1).isLt
  have hN : cfg0.N = 48 := N_0
  obtain ⟨q, hq⟩ : ∃ q : Nat, q < 6 ∧ (q < 3 ∨ q = 5) ∧ min q 3 = (i 1 : Nat) / 1024 := by
    by_cases h : (i 1 : Nat) / 1024 < 3
    · exact ⟨_, by omega, Or.inl h, by omega⟩
    · exact ⟨5, by omega, Or.inr rfl, by omega⟩
  obtain ⟨t, ht⟩ : ∃ t : Fin cfg0.N, t.val = (i 0 : Nat) / 1024 * 6 + q := ⟨⟨(i 0 : Nat) / 1024 * 6 + q, by omega⟩, rfl⟩
  have hi := index5 t
  refine ⟨t, (flush5 t).mpr (by omega), (mem5 t i).mpr fun a => ?_⟩
  match a with
  | ⟨0, _⟩ => show win0_5.index t 0 * 1024 ≤ (i 0).val ∧ (i 0).val < win0_5.index t 0 * 1024 + 1024; rw [hi.1]; omega
  | ⟨1, _⟩ => show win0_5.index t 1 * 1024 ≤ (i 1).val ∧ (i 1).val < win0_5.index t 1 * 1024 + 1024; rw [hi.2]; omega

theorem final4 (c : Dev nD) : (dats m 0 c).arrAt 4 cfg0.N = G4 m c := (dats m 0 c).arrAt_eq_of_cover 4 (G4 m c) (flushed4_eq m c) cover4
theorem final5 (c : Dev nD) : (dats m 0 c).arrAt 5 cfg0.N = G5 m c := (dats m 0 c).arrAt_eq_of_cover 5 (G5 m c) (flushed5_eq m c) cover5

end Cert.KernelIdeal.InProj
-- ==== Proof.InProj.Host.lean ====
/-
  The arrays the windows of the input projection read, element by element, from the arguments: reshapes of the
  activations and of the gain, and the row of column gains.
-/
module

public import proofs.«01_k».proof.Proof.Gen.KernelIdeal.Frame
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.InProj

open Cert.KernelIdeal Cert.KernelIdeal.Gen

variable (m : (ℓ : Loc nD τ sig) → Buf (Elt Ideal) ℓ) (c : Dev nD)

/-- Argument `b` as launched. -/
abbrev arg (b : Ref sig .tc) : Buf (Elt Ideal) ((c : Thread nD τ).loc b) := m ((c : Thread nD τ).loc b)

/-- The flattened activations at an index. -/
theorem flat_apply (a : Vec Ideal S1x8192x2048 .f32) (r : Fin 8192) (k : Fin 2048) : shapeCast S8192x2048 a shapeCasts_S1x8192x2048_S8192x2048 (ix2 r k) = a (ix3 0 r k) := by
  pointwise []

theorem V_x (r : Fin 8192) (k : Fin 2048) : (V m c main_v12 : Vec Ideal S8192x2048 .f32) (ix2 r k) = (arg m c main_arg0 : Vec Ideal S1x8192x2048 .f32) (ix3 0 r k) := by
  have h : (V m c main_v12 : Vec Ideal S8192x2048 .f32) = shapeCast S8192x2048 (arg m c main_arg0 : Vec Ideal S1x8192x2048 .f32) shapeCasts_S1x8192x2048_S8192x2048 := by
    unfold_abbrev_sides
    after_results
    rfl
  rw [h]
  exact flat_apply _ r k

theorem V_w : V m c main_arg2 = arg m c main_arg2 := by
  unfold_abbrev_sides
  after_results

theorem V_g (k : Fin 2048) : (V m c main_v15 : Vec Ideal S1x2048 .f32) (ix2 0 k) = (arg m c main_arg1 : Vec Ideal S2x2048 .f32) (ix2 0 k) := by
  have h : (V m c main_v15 : Vec Ideal S1x2048 .f32) = shapeCast S1x2048 (shapeCast S2048 (extractStridedSlice S1x2048 ![0, 0] (arg m c main_arg1 : Vec Ideal S2x2048 .f32) slices_S2x2048_S1x2048_0_0) shapeCasts_S1x2048_S2048) shapeCasts_S2048_S1x2048 := by
    unfold_abbrev_sides
    after_results
    rfl
  rw [h]
  generalize (arg m c main_arg1 : Vec Ideal S2x2048 .f32) = a
  pointwise []

/-- The column gain of column `C`: the query's gain times the query scale, the key's gain, then ones. -/
def colGain (q k : Fin 128 → EReal) (C : Fin 6144) : EReal :=
  if C.val < 1024 then q ⟨C.val % 128, by omega⟩ * Ideal.ofBits FTy.f32 0x3E0293EE#32 else if C.val < 2048 then k ⟨C.val % 128, by omega⟩ else 1

/-- The row of column gains. -/
def gainRow (q k : Vec Ideal S1x128 .f32) : Vec Ideal S1x6144 .f32 :=
  have q0 : Vec Ideal S128 .f32 := shapeCast S128 q shapeCasts_S1x128_S128
  have cst : Vec Ideal S_ .f32 := constant (F := Ideal) S_ .f32 0x3E0293EE#32
  have q1 : Vec Ideal S128 .f32 := broadcastInDim S128 ![] bcast_S_S128 cst
  have q2 : Vec Ideal S128 .f32 := mulf (F := Ideal) (φ := .f32) q0 q1
  have q3 : Vec Ideal S1x128 .f32 := shapeCast S1x128 q2 shapeCasts_S128_S1x128
  have q4 : Vec Ideal S8x128 .f32 := broadcastInDim S8x128 ![0, 1] bcast_S1x128_S8x128_0_1 q3
  have q5 : Vec Ideal S1024 .f32 := shapeCast S1024 q4 shapeCasts_S8x128_S1024
  have k0 : Vec Ideal S128 .f32 := shapeCast S128 k shapeCasts_S1x128_S128
  have k1 : Vec Ideal S1x128 .f32 := shapeCast S1x128 k0 shapeCasts_S128_S1x128
  have k2 : Vec Ideal S8x128 .f32 := broadcastInDim S8x128 ![0, 1] bcast_S1x128_S8x128_0_1 k1
  have k3 : Vec Ideal S1024 .f32 := shapeCast S1024 k2 shapeCasts_S8x128_S1024
  have one : Vec Ideal S_ .f32 := constant (F := Ideal) S_ .f32 0x3F800000#32
  have ones : Vec Ideal S4096 .f32 := broadcastInDim S4096 ![] bcast_S_S4096 one
  have row : Vec Ideal S6144 .f32 := concatenate S6144 0 [⟨S1024, q5⟩, ⟨S1024, k3⟩, ⟨S4096, ones⟩] concatenates_S1024_S1024_S4096_S6144_d0
  shapeCast S1x6144 row shapeCasts_S6144_S1x6144

theorem gainRow_apply (q k : Vec Ideal S1x128 .f32) (C : Fin 6144) : gainRow q k (ix2 0 C) = colGain (fun d => q (ix2 0 d)) (fun d => k (ix2 0 d)) C := by
  pointwise [gainRow, colGain]
  by_cases h1 : C.val < 1024
  · rw [dif_pos h1, if_pos h1]
  rw [dif_neg h1, if_neg h1]
  by_cases h2 : C.val < 2048
  · have e : (C.val - 1024) % 128 = C.val % 128 := by omega
    rw [dif_pos (by omega), if_pos h2]
    simp only [e]
  · rw [dif_neg (by omega), if_neg h2]

theorem V_c (C : Fin 6144) : (V m c main_v16 : Vec Ideal S1x6144 .f32) (ix2 0 C)
    = colGain (fun d => (arg m c main_arg3 : Vec Ideal S1x128 .f32) (ix2 0 d)) (fun d => (arg m c main_arg4 : Vec Ideal S1x128 .f32) (ix2 0 d)) C := by
  have h : (V m c main_v16 : Vec Ideal S1x6144 .f32) = gainRow (arg m c main_arg3) (arg m c main_arg4) := by
    unfold_abbrev_sides
    after_results
    dsimp only [Matrix.cons_val]
    simp only [↓ StableHlo.readResult, ↓ StableHlo.readPieces, -eq_self]
    rfl
  rw [h, gainRow_apply]

end Cert.KernelIdeal.InProj
-- ==== Proof.InProj.Ref.lean ====
/-
  The reference's results, element by element.
-/
module

public import proofs.«01_k».proof.Proof.Gen.ReferenceIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.InProj

open Cert.ReferenceIdeal Cert.ReferenceIdeal.Gen Cert.ReferenceIdeal.Read

variable (x : Vec Ideal S1x8192x2048 .f32) (g : Vec Ideal S2x2048 .f32) (w : Vec Ideal S2048x6144 .bf16) (q k : Vec Ideal S1x128 .f32)

/-- Element `(R, C)` of the projection before the heads are normalised. -/
def zRef (R : Fin 8192) (C : Fin 6144) : EReal := val_main_v16 (F := Ideal) x g w (ix3 0 R C)

theorem zRef_eq (R : Fin 8192) (C : Fin 6144) : zRef x g w R C
    = ∑ j : Fin 2048, (x (ix3 0 R j) * Ideal.rsqrt (Ideal.div (∑ l : Fin 2048, x (ix3 0 R l) * x (ix3 0 R l)) (Ideal.ofBits FTy.f32 0x45000000#32) + Ideal.ofBits FTy.f32 0x358637BD#32) * g (ix2 0 j)) * w (ix2 j C) := by
  pointwise [zRef, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- One normalised head at a column: the head's values `z` times its root mean square factor and the gain. -/
def headOut (z : Fin 128 → EReal) (d : Fin 128) (g : EReal) : EReal :=
  z d * Ideal.rsqrt (Ideal.div (∑ y, z y * z y) (Ideal.ofBits FTy.f32 0x43000000#32) + Ideal.ofBits FTy.f32 0x358637BD#32) * g

theorem z_fold (R : Fin 8192) (C : Fin 6144) : val_main_v16 (F := Ideal) x g w (ix3 0 R C) = zRef x g w R C := rfl

/-- The query columns. -/
theorem q_eq (R : Fin 8192) (h : Fin 8) (d : Fin 128) : val_main_v53 (F := Ideal) x g w q (ix4 0 R h d)
    = headOut (fun y => zRef x g w R ⟨h.val * 128 + y.val, by omega⟩) d (q (ix2 0 d)) * Ideal.ofBits FTy.f32 0x3E0293EE#32 := by
  pointwise [val_main_v53, val_main_v52, val_main_v36, val_main_v35, val_main_v34, val_main_v33, val_main_v32, val_main_v31, val_main_v30, val_main_v29, val_main_v28, val_main_v27, val_main_v26, val_main_v25, val_main_v24, val_main_v23, val_main_v22, val_main_v17, val_main_cst_8, val_main_cst_2, val_main_cst_3, val_main_cst_4]
  simp only [z_fold]
  rfl

/-- The key columns. -/
theorem k_eq (R : Fin 8192) (h : Fin 8) (d : Fin 128) : val_main_v51 (F := Ideal) x g w k (ix4 0 R h d)
    = headOut (fun y => zRef x g w R ⟨1024 + (h.val * 128 + y.val), by omega⟩) d (k (ix2 0 d)) := by
  pointwise [val_main_v51, val_main_v50, val_main_v49, val_main_v48, val_main_v47, val_main_v46, val_main_v45, val_main_v44, val_main_v43, val_main_v42, val_main_v41, val_main_v40, val_main_v39, val_main_v38, val_main_v37, val_main_v18, val_main_cst_5, val_main_cst_6, val_main_cst_7]
  simp only [z_fold]
  rfl

/-- Element `(R, C)` of the reference's projection. -/
def refOut (R : Fin 8192) (C : Fin 6144) : EReal :=
  if C.val < 1024 then headOut (fun y => zRef x g w R ⟨C.val / 128 * 128 + y.val, by omega⟩) ⟨C.val % 128, by omega⟩ (q (ix2 0 ⟨C.val % 128, by omega⟩)) * Ideal.ofBits FTy.f32 0x3E0293EE#32
  else if C.val < 2048 then headOut (fun y => zRef x g w R ⟨C.val / 128 * 128 + y.val, by omega⟩) ⟨C.val % 128, by omega⟩ (k (ix2 0 ⟨C.val % 128, by omega⟩))
  else zRef x g w R C

theorem ref57 (R : Fin 8192) (C : Fin 6144) : val_main_v57 (F := Ideal) x g w q k (ix2 R C) = refOut x g w q k R C := by
  pointwise [val_main_v57, val_main_v56, val_main_v55, val_main_v54, val_main_v19, val_main_v20, val_main_v21]
  simp only [z_fold, q_eq, k_eq]
  unfold refOut
  by_cases h1 : C.val < 1024
  · rw [dif_pos h1, if_pos h1]
  rw [dif_neg h1, if_neg h1]
  by_cases h2 : C.val < 2048
  · rw [dif_pos (by omega), if_pos h2]
    have e : ∀ y : Fin 128, 1024 + ((C.val - 1024) / 128 * 128 + y.val) = C.val / 128 * 128 + y.val := fun y => by omega
    have e' : (C.val - 1024) % 128 = C.val % 128 := by omega
    simp only [e, e']
  rw [dif_neg (by omega), if_neg h2]
  by_cases h3 : C.val < 3072
  · rw [dif_pos (by omega)]; exact congrArg (zRef x g w R) (Fin.ext (by dsimp only; omega))
  rw [dif_neg (by omega)]
  by_cases h4 : C.val < 4096
  · rw [dif_pos (by omega)]; exact congrArg (zRef x g w R) (Fin.ext (by dsimp only; omega))
  rw [dif_neg (by omega)]; exact congrArg (zRef x g w R) (Fin.ext (by dsimp only; omega))

theorem ref61 (R : Fin 8192) (C : Fin 4096) (hC : C.val < 3072) : val_main_v61 (F := Ideal) x g w q k (ix2 R C) = refOut x g w q k R ⟨C.val, by omega⟩ := by
  pointwise [val_main_v61, val_main_v60, val_main_v59, val_main_v55, val_main_v54, val_main_v19, val_main_v58]
  simp only [z_fold, q_eq, k_eq]
  unfold refOut
  dsimp only
  by_cases h1 : C.val < 1024
  · rw [dif_pos h1, if_pos h1]
  rw [dif_neg h1, if_neg h1]
  by_cases h2 : C.val < 2048
  · rw [dif_pos (by omega), if_pos h2]
    have e : ∀ y : Fin 128, 1024 + ((C.val - 1024) / 128 * 128 + y.val) = C.val / 128 * 128 + y.val := fun y => by omega
    have e' : (C.val - 1024) % 128 = C.val % 128 := by omega
    simp only [e, e']
  rw [dif_neg (by omega), if_neg h2, dif_pos (by omega)]; exact congrArg (zRef x g w R) (Fin.ext (by dsimp only; omega))

end Cert.ReferenceIdeal.InProj
-- ==== Proof.InProj.Tie.lean ====
/-
  The kernel's two results and the reference's are the same function of the arguments, and the claims about values.
-/
module

public import proofs.«01_k».proof.Defs
public import proofs.«01_k».proof.Proof.InProj.Final
public import proofs.«01_k».proof.Proof.InProj.Host
public import proofs.«01_k».proof.Proof.InProj.Ref
public import proofs.«01_k».proof.Proof.Gen.On_projected

@[expose] public section

set_option maxRecDepth 16384

noncomputable section

open Idealize.ShloMosaic Idealize.ShloMosaic.TcCoe Idealize.SL.Sem

namespace Cert.InProj

open Cert.KernelIdeal Cert.KernelIdeal.Gen Cert.KernelIdeal.InProj Cert.ReferenceIdeal.InProj

theorem bitOf_lt (C : Fin 6144) (h : C.val < 2048) : bitOf C = 1#1 := by
  have : C.val / 1024 = 0 ∨ C.val / 1024 = 1 := by omega
  unfold bitOf
  rcases this with e | e <;> rw [e] <;> decide

theorem bitOf_ge (C : Fin 6144) (h : ¬ C.val < 2048) : bitOf C = 0#1 := by
  have : C.val / 1024 = 2 ∨ C.val / 1024 = 3 ∨ C.val / 1024 = 4 ∨ C.val / 1024 = 5 := by omega
  unfold bitOf
  rcases this with e | e | e | e <;> rw [e] <;> decide

variable (m : (ℓ : Loc nD τ sig) → Buf (Elt Ideal) ℓ) (c : Dev nD)

theorem z_tie (R : Fin 8192) (C : Fin 6144) : zOf m c R C = zRef (arg m c main_arg0) (arg m c main_arg1) (arg m c main_arg2) R C := by
  rw [zRef_eq]
  unfold zOf
  refine Finset.sum_congr rfl fun k _ => ?_
  have hx : (fun l => xA m c (ix2 R l)) = fun l => (arg m c main_arg0 : Vec Ideal Cert.KernelIdeal.S1x8192x2048 .f32) (ix3 0 R l) := funext fun l => V_x m c R l
  have hg : (fun l => gA m c (ix2 0 l)) = fun l => (arg m c main_arg1 : Vec Ideal Cert.KernelIdeal.S2x2048 .f32) (ix2 0 l) := funext fun l => V_g m c l
  have hw : wA m c = arg m c main_arg2 := V_w m c
  rw [hx, hg, hw]
  rfl

theorem scale_one (z : Fin 128 → EReal) : scale 1#1 z = Ideal.rsqrt (Ideal.div (∑ x, z x * z x) (Ideal.ofBits FTy.f32 0x43000000#32) + Ideal.ofBits FTy.f32 0x358637BD#32) := rfl
theorem scale_zero (z : Fin 128 → EReal) : scale 0#1 z = 1 := rfl

theorem out_tie (R : Fin 8192) (C : Fin 6144) : outOf m c R C
    = refOut (arg m c main_arg0) (arg m c main_arg1) (arg m c main_arg2) (arg m c main_arg3) (arg m c main_arg4) R C := by
  have hh : ∀ h, (⟨C.val / 128 * 128 + C.val % 128, h⟩ : Fin 6144) = C := fun h => Fin.ext (by dsimp only; omega)
  unfold outOf refOut cA
  rw [V_c]
  unfold colGain
  simp only [z_tie]
  by_cases h1 : C.val < 1024
  · rw [bitOf_lt C (by omega), scale_one, if_pos h1, if_pos h1]
    unfold headOut
    simp only [hh, hdOf, mul_assoc]
  rw [if_neg h1, if_neg h1]
  by_cases h2 : C.val < 2048
  · rw [bitOf_lt C h2, scale_one, if_pos h2, if_pos h2]
    unfold headOut
    simp only [hh, hdOf]
  · rw [bitOf_ge C h2, scale_zero, if_neg h2, if_neg h2, mul_one, mul_one]

theorem slt3072 : ∀ C : Fin 4096, IntOp.cmpi .slt (BitVec.ofNat 32 C.val) 3072#32 = 1#1 → C.val < 3072 := by decide +kernel

/-- A column the mask selects in the second result is a query, key or value column. -/
theorem mask5 (x0 : FVec Ideal Cert.On_projected.S1x8192x2048 .f32) (x1 : FVec Ideal Cert.On_projected.S2x2048 .f32) (x2 : FVec Ideal Cert.On_projected.S2048x6144 .bf16) (x3 x4 : FVec Ideal Cert.On_projected.S1x128 .f32) (R : Fin 8192) (C : Fin 4096)
    (h : (Cert.On_projected.fn (F := Ideal) x0 x1 x2 x3 x4).2 (ix2 R C) = 1#1) : C.val < 3072 := by
  have e : (Cert.On_projected.fn (F := Ideal) x0 x1 x2 x3 x4).2 (ix2 R C) = IntOp.cmpi .slt (BitVec.ofNat 32 C.val) 3072#32 := by
    pointwise [Cert.On_projected.fn]
  exact slt3072 C (e.symm.trans h)

end Cert.InProj
-- ==== Proof.CInProj.Block.lean ====
/-
  What a grid point of the odd layer's input projection leaves in its output block and in its scratch: four chunks of
  rows, each the product with the block of weights, through the gelu in the column blocks before the gate's.
-/
module

public import proofs.«01_k».proof.Proof.Gen.Kernel2Ideal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.CInProj

open Cert.Kernel2Ideal Cert.Kernel2Ideal.Gen

variable {F : FTy → Type} [FloatOps F]

/-- The product of a chunk of rows with the block of weights. -/
def prod (w : Vec F S2048x1024 .bf16) (h : Vec F S256x2048 .bf16) : FVec F S256x1024 .f32 :=
  matmul dot_S256x2048_S2048x1024_S256x1024_1_0_0_1_n_n none h w (constant S256x1024 .f32 0x00000000#32)

/-- A chunk of rows: through the gelu where the bit is set. -/
def chunk (b : BitVec 1) (z : FVec F S256x1024 .f32) : FVec F S256x1024 .f32 :=
  Scalar.select b
    (mulf (mulf (broadcast S256x1024 (Scalar.ofBits .f32 0x3F000000#32)) z)
      (addf (broadcast S256x1024 (Scalar.ofBits .f32 0x3F800000#32))
        (tanh (mulf (broadcast S256x1024 (Scalar.ofBits .f32 0x3F4C422A#32))
          (addf z (mulf (broadcast S256x1024 (Scalar.ofBits .f32 0x3D372713#32)) (mulf (mulf z z) z)))))))
    z

/-- The bit that says column block `j` goes through the gelu. -/
def bit (i : grid0.Coords) : BitVec 1 := Scalar.cmpi .slt (BitVec.ofNat 32 (i 1).val) 4#32

theorem hbit (i : grid0.Coords) : Scalar.cmpi .slt (BitVec.ofNat 32 (i 1).val) 4#32 = bit i := rfl

theorem hz : (![0, 0] : Fin 2 → Nat) = fun _ => 0 := funext fun a => by fin_cases a <;> rfl

/-- The gelu in its tanh form. -/
def gelu (z : EReal) : EReal :=
  Ideal.ofBits FTy.f32 0x3F000000#32 * z * (1 + Ideal.tanh (Ideal.ofBits FTy.f32 0x3F4C422A#32 * (z + Ideal.ofBits FTy.f32 0x3D372713#32 * (z * z * z))))

theorem chunk_apply (b : BitVec 1) (z : FVec Ideal S256x1024 .f32) (r : Fin 256) (c : Fin 1024) :
    chunk b z (ix2 r c) = Scalar.select b (gelu (z (ix2 r c))) (z (ix2 r c)) := by
  pointwise [chunk, gelu]

theorem prod_apply (w : Vec Ideal S2048x1024 .bf16) (h : Vec Ideal S256x2048 .bf16) (r : Fin 256) (c : Fin 1024) :
    prod w h (ix2 r c) = ∑ k : Fin 2048, h (ix2 r k) * w (ix2 k c) := by
  pointwise [prod]

/-- Element `(r, c)` of the product of the normalised rows `h` with the block of weights `w`. -/
def zAt (h : Vec Ideal S1024x2048 .bf16) (w : Vec Ideal S2048x1024 .bf16) (r c : Fin 1024) : EReal :=
  ∑ k : Fin 2048, h (ix2 r k) * w (ix2 k c)

/-- Element `(r, c)` of the block a grid point computes. -/
def blockAt (b : BitVec 1) (h : Vec Ideal S1024x2048 .bf16) (w : Vec Ideal S2048x1024 .bf16) (r c : Fin 1024) : EReal :=
  Scalar.select b (gelu (zAt h w r c)) (zAt h w r c)

/-- The four row chunks of a block, as the body stores them: the last one first. -/
def pieces (b : BitVec 1) (h : Vec F S1024x2048 .bf16) (w : Vec F S2048x1024 .bf16) : List (View.Piece (Elt F) S1024x1024 .f32) :=
  [⟨Rect.unit ![768, 0] ![256, 1024] inb_S1024x1024_S256x1024_768_0, chunk b (prod w (View.ld h (Rect.unit ![768, 0] S256x2048.size inb_S1024x2048_S256x2048_768_0)))⟩,
   ⟨Rect.unit ![512, 0] ![256, 1024] inb_S1024x1024_S256x1024_512_0, chunk b (prod w (View.ld h (Rect.unit ![512, 0] S256x2048.size inb_S1024x2048_S256x2048_512_0)))⟩,
   ⟨Rect.unit ![256, 0] ![256, 1024] inb_S1024x1024_S256x1024_256_0, chunk b (prod w (View.ld h (Rect.unit ![256, 0] S256x2048.size inb_S1024x2048_S256x2048_256_0)))⟩,
   ⟨Rect.unit ![0, 0] ![256, 1024] inb_S1024x1024_S256x1024_0_0, chunk b (prod w (View.ld h (Rect.unit ![0, 0] S256x2048.size inb_S1024x2048_S256x2048_0_0)))⟩]

theorem piece_apply (o : Nat) (ho : o + 256 ≤ 1024) (inb inb') (b : BitVec 1) (h : Vec Ideal S1024x2048 .bf16) (w : Vec Ideal S2048x1024 .bf16)
    (x : (Rect.unit (s := S1024x1024) ![o, 0] ![256, 1024] inb').shape.Idx) :
    chunk b (prod w (View.ld h (Rect.unit (s := S1024x2048) ![o, 0] S256x2048.size inb))) x
      = blockAt b h w (((Rect.unit (s := S1024x1024) ![o, 0] ![256, 1024] inb').emb x) 0) (((Rect.unit (s := S1024x1024) ![o, 0] ![256, 1024] inb').emb x) 1) := by
  obtain ⟨r, c, rfl⟩ : ∃ (r : Fin 256) (c : Fin 1024), x = ix2 r c := ⟨x 0, x 1, eq_ix2 x⟩
  have hr : ((Rect.unit (s := S1024x1024) ![o, 0] ![256, 1024] inb').emb (ix2 r c)) 0 = (⟨o + r.val, by have := r.isLt; omega⟩ : Fin 1024) := Fin.ext (by show o + 1 * r.val = _; dsimp only; omega)
  have hc : ((Rect.unit (s := S1024x1024) ![o, 0] ![256, 1024] inb').emb (ix2 r c)) 1 = c := Fin.ext (by show 0 + 1 * c.val = _; omega)
  have hz : prod w (View.ld h (Rect.unit (s := S1024x2048) ![o, 0] S256x2048.size inb)) (ix2 r c) = zAt h w ⟨o + r.val, by have := r.isLt; omega⟩ c := by
    rw [prod_apply]
    unfold zAt
    refine Finset.sum_congr rfl fun k _ => ?_
    pointwise
  rw [hr, hc]
  refine (chunk_apply b _ r c).trans ?_
  rw [hz]
  rfl

theorem cover_pieces (b : BitVec 1) (h : Vec F S1024x2048 .bf16) (w : Vec F S2048x1024 .bf16) (y : S1024x1024.Idx) : ∃ p ∈ pieces b h w, y ∈ p.1.set :=
  View.cover_of_tiledL (pieces b h w) S256x1024.size (by sl_kernel_rfl) y

theorem canon_pieces (b : BitVec 1) (h : Vec Ideal S1024x2048 .bf16) (w : Vec Ideal S2048x1024 .bf16) (y : S1024x1024.Idx) :
    View.canon (pieces b h w) y = blockAt b h w (y 0) (y 1) := by
  refine View.canon_apply_of_pieces (fun y => blockAt b h w (y 0) (y 1)) _ ?_ y (cover_pieces b h w y)
  intro p hp
  simp only [pieces, List.mem_cons, List.not_mem_nil, or_false] at hp
  rcases hp with rfl | rfl | rfl | rfl <;> dsimp only <;> intro x <;> exact piece_apply _ (by decide) _ _ b h w x

/-- The stored rows from 0, 256, 512 and 768 on are `chunk`. -/
theorem chunk_0 (i : grid0.Coords) (w : Vec F S2048x1024 .bf16) (h : Vec F S256x2048 .bf16) : k0_pay3 i w h = chunk (bit i) (prod w h) := by
  simp only [k0_pay3, chunk, prod, bit]
theorem chunk_256 (i : grid0.Coords) (w : Vec F S2048x1024 .bf16) (h : Vec F S256x2048 .bf16) :
    k0_pay7 (k0_pay4 w h) (bit i) (k0_pay5 w h) (k0_pay6 w h) = chunk (bit i) (prod w h) := by
  simp only [k0_pay7, k0_pay4, k0_pay5, k0_pay6, chunk, prod]
theorem chunk_512 (i : grid0.Coords) (w : Vec F S2048x1024 .bf16) (h : Vec F S256x2048 .bf16) :
    k0_pay8 (BitVec.ofNat 32 (i 1).val) w h = chunk (bit i) (prod w h) := by
  simp only [k0_pay8, chunk, prod, bit]
theorem chunk_768 (i : grid0.Coords) (w : Vec F S2048x1024 .bf16) (h : Vec F S256x2048 .bf16) :
    k0_pay1 (k0_pay9 w h) (bit i) (k0_pay10 w h) (k0_pay11 w h) k0_pay12 = chunk (bit i) (prod w h) := by
  simp only [k0_pay1, k0_pay9, k0_pay10, k0_pay11, k0_pay12, chunk, prod]

/-- A load from a buffer whose one covering store put `w` there loads from `w`. -/
theorem readCov_whole {S : Shape} {e : EltTy} {κ : Kind} {sp : Space} (v : View sig κ sp S e) {off : Fin S.rank → Nat} (h : off = fun _ => 0)
    (inb : ∀ a, off a + S.size a ≤ S.size a) (w : S.Idx → Elt F e) (R : Rect S) :
    v.readCov (Val := Elt F) [⟨Rect.unit off S.size inb, w⟩] R = View.ld w R := by
  rw [View.readCov_eq_canon_ld _ _ _ (fun y => ⟨_, List.mem_singleton_self _, View.mem_set_unit_zero h inb y⟩), View.canon_unit_zero h]

set_option maxHeartbeats 1000000 in
theorem out_B_3 (c : Dev nD) (i : grid0.Coords) (a2 h2 a3 h3 a4 h4 a5 h5 a6 h6) (hc : ¬cond0_0 i) (x0 x1 x2 xs0) :
    out0_B_3 (F := F) c i a2 h2 a3 h3 a4 h4 a5 h5 a6 h6 hc x0 x1 x2 xs0 = View.canon (pieces (bit i) xs0 x2) := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  simp only [View.readAt_eq_ld, h4.read_unread, h6.read_unread, View.ld_unit_zero (S := S2048x1024) hz]
  simp only [hbit]
  rw [chunk_768, chunk_512, chunk_256, chunk_0]
  exact rfl

/-- What the first point of a row of blocks leaves in the scratch: the row block's normalised rows. -/
theorem sout_A (c : Dev nD) (i : grid0.Coords) (a2 h2 a3 h3 a4 h4 a5 h5 a6 h6) (hc : cond0_0 i) (x0 x1 x2) :
    sout0_A_0 (F := F) c i a2 h2 a3 h3 a4 h4 a5 h5 a6 h6 hc x0 x1 x2 = k0_pay2 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

set_option maxHeartbeats 1000000 in
theorem out_A_3 (c : Dev nD) (i : grid0.Coords) (a2 h2 a3 h3 a4 h4 a5 h5 a6 h6) (hc : cond0_0 i) (x0 x1 x2) :
    out0_A_3 (F := F) c i a2 h2 a3 h3 a4 h4 a5 h5 a6 h6 hc x0 x1 x2 = View.canon (pieces (bit i) (k0_pay2 x0 x1) x2) := by
  unfold out0_A_3
  rw [View.read_writes_eq_canon _ _ _ (cover0_A_3 c i a2 h2 a3 h3 a4 h4 a5 h5 a6 h6 hc x0 x1 x2)]
  unfold kernelRun0_A
  dsimp only
  sl_unfold_words
  simp only [View.readAt_eq_ld, h2.read_unread, h3.read_unread, h4.read_unread, View.ld_unit_zero (S := S2048x1024) hz, View.ld_unit_zero (S := S1024x2048) hz, View.ld_unit_zero (S := S1x2048) hz]
  have hld : ∀ (w : Vec F S1024x2048 .bf16) (R : Rect S1024x2048), a6.view.readCov (Val := Elt F) [⟨Rect.unit ![0, 0] ![1024, 2048] inb_S1024x2048_S1024x2048_0_0, w⟩] R = View.ld w R := fun w R =>
    readCov_whole (S := S1024x2048) a6.view hz inb_S1024x2048_S1024x2048_0_0 w R
  simp only [hld]
  simp only [hbit]
  rw [chunk_768, chunk_512, chunk_256, chunk_0]
  exact rfl

end Cert.CInProj
-- ==== Proof.CInProj.Array.lean ====
/-
  The result array of the odd layer's input projection, element by element, from the arguments.
-/
module

public import proofs.«01_k».proof.Proof.CInProj.Block
public import proofs.«01_k».proof.Proof.Gen.Kernel2Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.CInProj

open Cert.Kernel2Ideal Cert.Kernel2Ideal.Gen

variable (m : (ℓ : Loc nD τ sig) → Buf (Elt Ideal) ℓ)

/-- The activations, the gain and the weights as the windows read them. -/
abbrev xA (c : Dev nD) : Vec Ideal S8192x2048 .f32 := V m c main_arg0
abbrev gA (c : Dev nD) : Vec Ideal S1x2048 .f32 := V m c main_v2
abbrev wA (c : Dev nD) : Vec Ideal S2048x6144 .bf16 := V m c main_arg2
theorem index3 : ∀ t : Fin cfg0.N, win0_3.index t 0 = t.val / 6 ∧ win0_3.index t 1 = t.val % 6 := (by decide +kernel : ∀ t : Fin grid0.N, win0_3.index t 0 = t.val / 6 ∧ win0_3.index t 1 = t.val % 6)

/-- Element `k` of a row after the root mean square norm with gain `g`. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay2_apply (x : Vec Ideal S1024x2048 .f32) (g : Vec Ideal S1x2048 .f32) (r : Fin 1024) (k : Fin 2048) :
    k0_pay2 x g (ix2 r k) = normed (fun l => x (ix2 r l)) (fun l => g (ix2 0 l)) k := by
  pointwise [k0_pay2, normed]

theorem index0 : ∀ t : Fin cfg0.N, win0_0.index t 0 = t.val / 6 ∧ win0_0.index t 1 = 0 := (by decide +kernel : ∀ t : Fin grid0.N, win0_0.index t 0 = t.val / 6 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = t.val % 6 := (by decide +kernel : ∀ t : Fin grid0.N, win0_2.index t 0 = 0 ∧ win0_2.index t 1 = t.val % 6)
theorem coord1 : ∀ t : Fin cfg0.N, (grid0.coords t 1).val = t.val % 6 := (by decide +kernel : ∀ t : Fin grid0.N, (grid0.coords t 1).val = t.val % 6)

theorem lt48 (t : Fin cfg0.N) : t.val < 48 := by have h : cfg0.N = 48 := N_0; have := t.isLt; omega

/-- Row `r` of the point's row block, as a row of the whole array. -/
def rowOf (t : Fin cfg0.N) (r : Fin 1024) : Fin 8192 := ⟨t.val / 6 * 1024 + r.val, by have := lt48 t; have := r.isLt; omega⟩
/-- Column `x` of the point's column block, as a column of the whole array. -/
def colOf (t : Fin cfg0.N) (x : Fin 1024) : Fin 6144 := ⟨t.val % 6 * 1024 + x.val, by have := lt48 t; have := x.isLt; omega⟩

theorem iblk0_apply (c : Dev nD) (t : Fin cfg0.N) (r : Fin 1024) (k : Fin 2048) : (iblk m c 0 t : Vec Ideal S1024x2048 .f32) (ix2 r k) = xA m c (ix2 (rowOf t r) k) := by
  have hi := index0 t
  unfold iblk
  rw [View.read_apply]
  show V m c main_arg0 _ = V m c main_arg0 _
  congr 1
  funext a
  apply Fin.ext
  match a with
  | ⟨0, _⟩ => show win0_0.index t 0 * 1024 + 1 * r.val = t.val / 6 * 1024 + r.val; rw [hi.1]; omega
  | ⟨1, _⟩ => show win0_0.index t 1 * 2048 + 1 * k.val = k.val; rw [hi.2]; omega

theorem iblk1_apply (c : Dev nD) (t : Fin cfg0.N) (k : Fin 2048) : (iblk m c 1 t : Vec Ideal S1x2048 .f32) (ix2 0 k) = gA m c (ix2 0 k) := by
  have hi := index1 t
  unfold iblk
  rw [View.read_apply]
  show V m c main_v2 _ = V m c main_v2 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem iblk2_apply (c : Dev nD) (t : Fin cfg0.N) (k : Fin 2048) (x : Fin 1024) : (iblk m c 2 t : Vec Ideal S2048x1024 .bf16) (ix2 k x) = wA m c (ix2 k (colOf t x)) := by
  have hi := index2 t
  unfold iblk
  rw [View.read_apply]
  show V m c main_arg2 _ = V m c main_arg2 _
  congr 1
  funext a
  apply Fin.ext
  match a with
  | ⟨0, _⟩ => show win0_2.index t 0 * 2048 + 1 * k.val = k.val; rw [hi.1]; omega
  | ⟨1, _⟩ => show win0_2.index t 1 * 1024 + 1 * x.val = t.val % 6 * 1024 + x.val; rw [hi.2]; omega

/-- The scratch after point `t` holds the normalised rows of the point's row block. -/
theorem scratch_apply (c : Dev nD) : ∀ (n : ℕ) (hn : n < cfg0.N) (r : Fin 1024) (k : Fin 2048),
    (outsAt0 m c n hn).2 (ix2 r k) = normed (fun l => xA m c (ix2 (rowOf ⟨n, hn⟩ r) l)) (fun l => gA m c (ix2 0 l)) k := by
  intro n
  induction n with
  | zero =>
    intro hn r k
    have h := congrArg (fun p => p.2 (ix2 r k)) (outsAt0_A m c ⟨0, hn⟩ rfl)
    refine h.trans ?_
    dsimp only
    rw [sout_A, pay2_apply]
    simp only [iblk0_apply, iblk1_apply]
  | succ n ih =>
    intro hn r k
    by_cases h0 : (n + 1) % 6 = 0
    · have h := congrArg (fun p => p.2 (ix2 r k)) (outsAt0_A m c ⟨n + 1, hn⟩ h0)
      refine h.trans ?_
      dsimp only
      rw [sout_A, pay2_apply]
      simp only [iblk0_apply, iblk1_apply]
    · have h := congrArg (fun p => p.2 (ix2 r k)) (outsAt0_B m c ⟨n + 1, hn⟩ h0)
      refine h.trans ?_
      dsimp only [sout0_B_0]
      refine (ih (Nat.lt_of_succ_lt hn) r k).trans ?_
      have hr : rowOf ⟨n, Nat.lt_of_succ_lt hn⟩ r = rowOf ⟨n + 1, hn⟩ r := Fin.ext (by show n / 6 * 1024 + _ = (n + 1) / 6 * 1024 + _; omega)
      rw [hr]

/-- Element `(R, C)` of the product of the normalised rows with the weights. -/
def zOf (c : Dev nD) (R : Fin 8192) (C : Fin 6144) : EReal :=
  ∑ k : Fin 2048, normed (fun l => xA m c (ix2 R l)) (fun l => gA m c (ix2 0 l)) k * wA m c (ix2 k C)

/-- Whether a column goes through the gelu. -/
def bitOf (C : Fin 6144) : BitVec 1 := Scalar.cmpi .slt (BitVec.ofNat 32 (C.val / 1024)) 4#32

/-- Element `(R, C)` of the projection. -/
def outOf (c : Dev nD) (R : Fin 8192) (C : Fin 6144) : EReal := Scalar.select (bitOf C) (gelu (zOf m c R C)) (zOf m c R C)

/-- A point's block is the projection at the block's rows and columns, whichever of the two cases runs. -/
theorem blockAt_eq (c : Dev nD) (t : Fin cfg0.N) (h : Vec Ideal S1024x2048 .bf16)
    (hh : ∀ r k, h (ix2 r k) = normed (fun l => xA m c (ix2 (rowOf t r) l)) (fun l => gA m c (ix2 0 l)) k) (r x : Fin 1024) :
    blockAt (bit (grid0.coords t)) h (iblk m c 2 t) r x = outOf m c (rowOf t r) (colOf t x) := by
  have hzz : zAt h (iblk m c 2 t) r x = zOf m c (rowOf t r) (colOf t x) := by
    unfold zAt zOf
    refine Finset.sum_congr rfl fun k _ => ?_
    rw [hh, iblk2_apply]
  have hb : bit (grid0.coords t) = bitOf (colOf t x) := by
    unfold bit bitOf
    rw [coord1]
    have : (colOf t x).val / 1024 = t.val % 6 := by show (t.val % 6 * 1024 + x.val) / 1024 = _; have := x.isLt; omega
    rw [this]
  unfold blockAt outOf
  rw [hzz, hb]

theorem outs3_apply (c : Dev nD) (t : Fin cfg0.N) (r x : Fin 1024) :
    (outsAt0 m c t.val t.isLt).1 (ix2 r x) = outOf m c (rowOf t r) (colOf t x) := by
  by_cases h0 : t.val % 6 = 0
  · rw [outsAt0_A m c t h0]
    dsimp only
    rw [out_A_3, canon_pieces]
    refine blockAt_eq m c t _ (fun r k => ?_) r x
    rw [pay2_apply]
    simp only [iblk0_apply, iblk1_apply]
  · rw [outsAt0_B m c t h0]
    dsimp only
    rw [out_B_3, canon_pieces]
    refine blockAt_eq m c t _ (fun r k => ?_) r x
    rw [scratch_apply]
    have hr : rowOf ⟨t.val - 1, Nat.lt_of_le_of_lt (Nat.sub_le _ _) t.isLt⟩ r = rowOf t r := Fin.ext (by show (t.val - 1) / 6 * 1024 + _ = t.val / 6 * 1024 + _; omega)
    rw [hr]

/-- The result array. -/
def G3 (c : Dev nD) : Buf (Elt Ideal) ((c : Thread nD τ).loc main_v3) := fun j : S8192x6144.Idx => outOf m c (j 0) (j 1)

theorem flushed3_eq (c : Dev nD) (t : Fin cfg0.N) (_ : (cfg0.win 3).flush t = true) :
    (dats m 0 c).flushed 3 t = ((cfg0.win 3).blk t).view.read (Elt Ideal) (G3 m c) := by
  have hi := index3 t
  have ho := outs3_apply m c t
  rw [Value.flushed3]
  generalize (outsAt0 m c t.val t.isLt).1 = o at ho
  funext j
  rw [View.read_apply]
  have hj : o j = outOf m c (rowOf t (j 0)) (colOf t (j 1)) := (congrArg o (eq_ix2 (n0 := 1024) (n1 := 1024) j)).trans (ho (j 0) (j 1))
  refine hj.trans ?_
  unfold G3
  refine congrArg₂ (outOf m c) (Fin.ext ?_) (Fin.ext ?_)
  · show t.val / 6 * 1024 + (j 0).val = win0_3.index t 0 * 1024 + 1 * (j 0).val; rw [hi.1]; omega
  · show t.val % 6 * 1024 + (j 1).val = win0_3.index t 1 * 1024 + 1 * (j 1).val; rw [hi.2]; omega

theorem mem3 (t : Fin cfg0.N) (i : S8192x6144.Idx) : i ∈ ((cfg0.win 3).blk t).view.set ↔ ∀ a, win0_3.index t a * 1024 ≤ (i a).val ∧ (i a).val < win0_3.index t a * 1024 + 1024 := by
  show i ∈ ((View.whole main_v3).slice (win0_3.rect t)).set ↔ _
  rw [View.set_slice_whole, Rect.mem_set_unit]
  constructor <;> intro h a <;> have := h a <;> fin_cases a <;> exact this

theorem cover3 (i : S8192x6144.Idx) : ∃ t : Fin cfg0.N, (cfg0.win 3).flush t = true ∧ i ∈ ((cfg0.win 3).blk t).view.set := by
  have h0 : (i 0 : Nat) < 8192 := (i 0).isLt
  have h1 : (i 1 : Nat) < 6144 := (i 1).isLt
  have hN : cfg0.N = 48 := N_0
  obtain ⟨t, ht⟩ : ∃ t : Fin cfg0.N, t.val = (i 0 : Nat) / 1024 * 6 + (i 1 : Nat) / 1024 := ⟨⟨(i 0 : Nat) / 1024 * 6 + (i 1 : Nat) / 1024, by omega⟩, rfl⟩
  have hi := index3 t
  refine ⟨t, flush0_3 t, (mem3 t i).mpr fun a => ?_⟩
  match a with
  | ⟨0, _⟩ => show win0_3.index t 0 * 1024 ≤ (i 0).val ∧ (i 0).val < win0_3.index t 0 * 1024 + 1024; rw [hi.1]; omega
  | ⟨1, _⟩ => show win0_3.index t 1 * 1024 ≤ (i 1).val ∧ (i 1).val < win0_3.index t 1 * 1024 + 1024; rw [hi.2]; omega

theorem final3 (c : Dev nD) : (dats m 0 c).arrAt 3 cfg0.N = G3 m c := (dats m 0 c).arrAt_eq_of_cover 3 (G3 m c) (flushed3_eq m c) cover3

end Cert.CInProj
-- ==== Proof.CInProj.Tie.lean ====
/-
  The odd layer's input projection, the kernel's and the reference's, is one function of the arguments.
-/
module

public import proofs.«01_k».proof.Defs
public import proofs.«01_k».proof.Proof.CInProj.Array
public import proofs.«01_k».proof.Proof.Gen.Reference2Ideal.Run
public import proofs.«01_k».proof.Proof.Gen.Reference2Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.CInProj

section Reference

open Cert.Reference2Ideal Cert.Reference2Ideal.Read

variable (x : Vec Ideal S8192x2048 .f32) (g : Vec Ideal S2x2048 .f32) (w : Vec Ideal S2048x6144 .bf16)

/-- Element `(R, C)` of the projection before the gelu. -/
def zRef (R : Fin 8192) (C : Fin 6144) : EReal := val_main_v16 (F := Ideal) x g w (ix2 R C)

theorem zRef_eq (R : Fin 8192) (C : Fin 6144) : zRef x g w R C
    = ∑ j : Fin 2048, (x (ix2 R j) * Ideal.rsqrt (Ideal.div (∑ l : Fin 2048, x (ix2 R l) * x (ix2 R l)) (Ideal.ofBits FTy.f32 0x45000000#32) + Ideal.ofBits FTy.f32 0x358637BD#32) * g (ix2 1 j)) * w (ix2 j C) := by
  pointwise [zRef, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem z_fold (R : Fin 8192) (C : Fin 6144) : val_main_v16 (F := Ideal) x g w (ix2 R C) = zRef x g w R C := rfl

theorem gelu_eq (z : EReal) : z * (Ideal.ofBits FTy.f32 0x3F000000#32 * (1 + Ideal.tanh (Ideal.ofBits FTy.f32 0x3F4C422A#32 * (z + Ideal.ofBits FTy.f32 0x3D372713#32 * (z * z * z))))) = gelu z := by
  unfold gelu
  rw [← mul_assoc, mul_comm z]

theorem u_eq (R : Fin 8192) (C : Fin 2048) : val_main_v32 (F := Ideal) x g w (ix2 R C) = gelu (zRef x g w R ⟨C.val, by omega⟩) := by
  pointwise [val_main_v32, val_main_v31, val_main_v30, val_main_v29, val_main_v28, val_main_v27, val_main_v26, val_main_v25, val_main_v24, val_main_v23, val_main_v22, val_main_v21, val_main_v20, val_main_v17, val_main_cst_2, val_main_cst_3, val_main_cst_4, val_main_cst_5]
  simp only [z_fold]
  rw [← gelu_eq]

theorem v_eq (R : Fin 8192) (C : Fin 2048) : val_main_v45 (F := Ideal) x g w (ix2 R C) = gelu (zRef x g w R ⟨2048 + C.val, by omega⟩) := by
  pointwise [val_main_v45, val_main_v44, val_main_v43, val_main_v42, val_main_v41, val_main_v40, val_main_v39, val_main_v38, val_main_v37, val_main_v36, val_main_v35, val_main_v34, val_main_v33, val_main_v18, val_main_cst_6, val_main_cst_7, val_main_cst_8, val_main_cst_9]
  simp only [z_fold]
  rw [← gelu_eq]

/-- Element `(R, C)` of the reference's projection. -/
def refOut (R : Fin 8192) (C : Fin 6144) : EReal := if C.val < 4096 then gelu (zRef x g w R C) else zRef x g w R C

theorem ref_apply (R : Fin 8192) (C : Fin 6144) : val_main_v46 (F := Ideal) x g w (ix2 R C) = refOut x g w R C := by
  pointwise [val_main_v46, val_main_v19]
  simp only [z_fold, u_eq, v_eq]
  unfold refOut
  by_cases h1 : C.val < 2048
  · rw [dif_pos h1]
    exact (if_pos (by omega)).symm
  rw [dif_neg h1]
  by_cases h2 : C.val < 4096
  · rw [dif_pos (by omega)]
    refine Eq.trans ?_ (if_pos h2).symm
    exact congrArg (fun C => gelu (zRef x g w R C)) (Fin.ext (by dsimp only; omega))
  rw [dif_neg (by omega)]
  refine Eq.trans ?_ (if_neg h2).symm
  exact congrArg (zRef x g w R) (Fin.ext (by dsimp only; omega))

end Reference

open Cert.Kernel2Ideal Cert.Kernel2Ideal.Gen

variable (m : (ℓ : Loc nD τ sig) → Buf (Elt Ideal) ℓ) (c : Dev nD)

/-- Argument `b` as launched. -/
abbrev arg (b : Ref sig .tc) : Buf (Elt Ideal) ((c : Thread nD τ).loc b) := m ((c : Thread nD τ).loc b)

theorem V_g (k : Fin 2048) : (V m c main_v2 : Vec Ideal S1x2048 .f32) (ix2 0 k) = (arg m c main_arg1 : Vec Ideal S2x2048 .f32) (ix2 1 k) := by
  have h : (V m c main_v2 : Vec Ideal S1x2048 .f32) = shapeCast S1x2048 (shapeCast S2048 (extractStridedSlice S1x2048 ![1, 0] (arg m c main_arg1 : Vec Ideal S2x2048 .f32) slices_S2x2048_S1x2048_1_0) shapeCasts_S1x2048_S2048) shapeCasts_S2048_S1x2048 := by
    unfold_abbrev_sides
    after_results
    rfl
  rw [h]
  generalize (arg m c main_arg1 : Vec Ideal S2x2048 .f32) = a
  pointwise []

theorem z_tie (R : Fin 8192) (C : Fin 6144) : zOf m c R C = zRef (arg m c main_arg0) (arg m c main_arg1) (arg m c main_arg2) R C := by
  rw [zRef_eq]
  unfold zOf
  refine Finset.sum_congr rfl fun k _ => ?_
  have hx : xA m c = arg m c main_arg0 := V_main_arg0 m c
  have hg : (fun l => gA m c (ix2 0 l)) = fun l => (arg m c main_arg1 : Vec Ideal S2x2048 .f32) (ix2 1 l) := funext fun l => V_g m c l
  have hw : wA m c = arg m c main_arg2 := V_main_arg2 m c
  rw [hx, hg, hw]
  rfl

theorem bitOf_lt (C : Fin 6144) (h : C.val < 4096) : bitOf C = 1#1 := by
  have : C.val / 1024 = 0 ∨ C.val / 1024 = 1 ∨ C.val / 1024 = 2 ∨ C.val / 1024 = 3 := by omega
  unfold bitOf
  rcases this with e | e | e | e <;> rw [e] <;> decide

theorem bitOf_ge (C : Fin 6144) (h : ¬ C.val < 4096) : bitOf C = 0#1 := by
  have : C.val / 1024 = 4 ∨ C.val / 1024 = 5 := by omega
  unfold bitOf
  rcases this with e | e <;> rw [e] <;> decide

theorem out_tie (R : Fin 8192) (C : Fin 6144) : outOf m c R C = refOut (arg m c main_arg0) (arg m c main_arg1) (arg m c main_arg2) R C := by
  unfold outOf refOut
  rw [z_tie]
  by_cases h : C.val < 4096
  · rw [bitOf_lt C h, if_pos h]; rfl
  · rw [bitOf_ge C h, if_neg h]; rfl

/-- The odd layer's input projection is the reference's at every launch. -/
theorem algebraic : Cert.algebraic_Kernel2Ideal_Reference2Ideal := by
  intro m g m' g' _ hagree
  refine ⟨fun c => G3 m c, ?_, ?_⟩
  · refine (θ_run _ _ _).mono (fun r h c => ?_) (Cert.Kernel2Ideal.Value.run_blocks (F := Ideal) m g)
    obtain ⟨h3, ha⟩ := h c
    exact ⟨h3.trans (final3 m c), ha⟩
  · refine (θ_run _ _ _).mono (fun r h c => ?_) (Cert.Reference2Ideal.Value.run (F := Ideal) m' g')
    obtain ⟨h3, ha⟩ := h c
    obtain ⟨e0, e1, e2⟩ := hagree c
    refine ⟨?_, ha⟩
    funext i
    obtain ⟨R, C, rfl⟩ : ∃ (R : Fin 8192) (C : Fin 6144), i = ix2 R C := ⟨i 0, i 1, eq_ix2 i⟩
    rw [h3, Cert.Reference2Ideal.Read.val_main_v46_eq, e0, e1, e2]
    refine (ref_apply _ _ _ R C).trans ?_
    exact (out_tie m c R C).symm

end Cert.CInProj
-- ==== Proof.OutProj.Value.lean ====
/-
  An output projection: each result block is the input block plus the product of the gated rows with the weights, and
  the whole array is the reference's.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProj

open Cert.Kernel3Ideal Cert.Kernel3Ideal.Gen

theorem hz : (![0, 0] : Fin 2 → Nat) = fun _ => 0 := funext fun a => by fin_cases a <;> rfl

theorem pay1_apply (w : Vec Ideal S2048x2048 .bf16) (x : Vec Ideal S512x2048 .f32) (a : Vec Ideal S512x2048 .bf16) (r : Fin 512) (k : Fin 2048) :
    k0_pay1 w x a (ix2 r k) = x (ix2 r k) + ∑ j : Fin 2048, a (ix2 r j) * w (ix2 j k) := by
  pointwise [k0_pay1]

variable (m : (ℓ : Loc nD τ sig) → Buf (Elt Ideal) ℓ)

/-- The gated rows, the weights and the layer's input. -/
abbrev aA (c : Dev nD) : Vec Ideal S8192x2048 .bf16 := m ((c : Thread nD τ).loc main_arg0)
abbrev wA (c : Dev nD) : Vec Ideal S2048x2048 .bf16 := m ((c : Thread nD τ).loc main_arg1)
abbrev xA (c : Dev nD) : Vec Ideal S8192x2048 .f32 := m ((c : Thread nD τ).loc main_arg2)

theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = t.val ∧ win0_2.index t 1 = 0 := (by decide +kernel : ∀ t : Fin grid0.N, win0_2.index t 0 = t.val ∧ win0_2.index t 1 = 0)
theorem index3 : ∀ t : Fin cfg0.N, win0_3.index t 0 = t.val ∧ win0_3.index t 1 = 0 := (by decide +kernel : ∀ t : Fin grid0.N, win0_3.index t 0 = t.val ∧ win0_3.index t 1 = 0)

theorem lt16 (t : Fin cfg0.N) : t.val < 16 := by have h : cfg0.N = 16 := N_0; have := t.isLt; omega

/-- Row `r` of the point's block, as a row of the whole array. -/
def rowOf (t : Fin cfg0.N) (r : Fin 512) : Fin 8192 := ⟨t.val * 512 + r.val, by have := lt16 t; have := r.isLt; omega⟩

theorem iblk0_apply (c : Dev nD) (t : Fin cfg0.N) (r : Fin 512) (k : Fin 2048) : (iblk m c 0 t : Vec Ideal S512x2048 .bf16) (ix2 r k) = aA m c (ix2 (rowOf t r) k) := by
  have hi := index0 t
  unfold iblk
  rw [View.read_apply]
  show m _ _ = m _ _
  congr 1
  funext a
  apply Fin.ext
  match a with
  | ⟨0, _⟩ => show win0_0.index t 0 * 512 + 1 * r.val = t.val * 512 + r.val; rw [hi.1]; omega
  | ⟨1, _⟩ => show win0_0.index t 1 * 2048 + 1 * k.val = k.val; rw [hi.2]; omega

theorem iblk1_apply (c : Dev nD) (t : Fin cfg0.N) (r : Fin 2048) (k : Fin 2048) : (iblk m c 1 t : Vec Ideal S2048x2048 .bf16) (ix2 r k) = wA m c (ix2 r k) := by
  have hi := index1 t
  unfold iblk
  rw [View.read_apply]
  show m _ _ = m _ _
  congr 1
  funext a
  apply Fin.ext
  match a with
  | ⟨0, _⟩ => show win0_1.index t 0 * 2048 + 1 * r.val = r.val; rw [hi.1]; omega
  | ⟨1, _⟩ => show win0_1.index t 1 * 2048 + 1 * k.val = k.val; rw [hi.2]; omega

theorem iblk2_apply (c : Dev nD) (t : Fin cfg0.N) (r : Fin 512) (k : Fin 2048) : (iblk m c 2 t : Vec Ideal S512x2048 .f32) (ix2 r k) = xA m c (ix2 (rowOf t r) k) := by
  have hi := index2 t
  unfold iblk
  rw [View.read_apply]
  show m _ _ = m _ _
  congr 1
  funext a
  apply Fin.ext
  match a with
  | ⟨0, _⟩ => show win0_2.index t 0 * 512 + 1 * r.val = t.val * 512 + r.val; rw [hi.1]; omega
  | ⟨1, _⟩ => show win0_2.index t 1 * 2048 + 1 * k.val = k.val; rw [hi.2]; omega

/-- Element `(R, C)` of the result. -/
def outOf (c : Dev nD) (R : Fin 8192) (C : Fin 2048) : EReal :=
  xA m c (ix2 R C) + ∑ j : Fin 2048, aA m c (ix2 R j) * wA m c (ix2 j C)

/-- The result array. -/
def G3 (c : Dev nD) : Buf (Elt Ideal) ((c : Thread nD τ).loc main_v0) := fun j : S8192x2048.Idx => outOf m c (j 0) (j 1)

theorem out_apply (c : Dev nD) (t : Fin cfg0.N) (r : Fin 512) (k : Fin 2048) :
    (out0_3 (iblk m c 0 t) (iblk m c 1 t) (iblk m c 2 t) : Vec Ideal S512x2048 .f32) (ix2 r k) = outOf m c (rowOf t r) k := by
  unfold out0_3 r0_1 r0_0
  rw [View.canon_unit_zero hz]
  simp only [View.ld_unit_zero (S := S512x2048) hz, View.ld_unit_zero (S := S2048x2048) hz]
  rw [pay1_apply]
  simp only [iblk0_apply, iblk1_apply, iblk2_apply]
  rfl

theorem flushed3_eq (c : Dev nD) (t : Fin cfg0.N) (_ : (cfg0.win 3).flush t = true) :
    (dats m 0 c).flushed 3 t = ((cfg0.win 3).blk t).view.read (Elt Ideal) (G3 m c) := by
  have hi := index3 t
  have ho := out_apply m c t
  rw [Value.flushed3]
  generalize out0_3 (iblk m c 0 t) (iblk m c 1 t) (iblk m c 2 t) = o at ho
  funext j
  rw [View.read_apply]
  have hj : o j = outOf m c (rowOf t (j 0)) (j 1) := (congrArg o (eq_ix2 (n0 := 512) (n1 := 2048) j)).trans (ho (j 0) (j 1))
  refine hj.trans ?_
  unfold G3
  refine congrArg₂ (outOf m c) (Fin.ext ?_) (Fin.ext ?_)
  · show t.val * 512 + (j 0).val = win0_3.index t 0 * 512 + 1 * (j 0).val; rw [hi.1]; omega
  · show (j 1).val = win0_3.index t 1 * 2048 + 1 * (j 1).val; rw [hi.2]; omega

theorem mem3 (t : Fin cfg0.N) (i : S8192x2048.Idx) : i ∈ ((cfg0.win 3).blk t).view.set ↔ ∀ a, win0_3.index t a * (![512, 2048] : Fin 2 → Nat) a ≤ (i a).val ∧ (i a).val < win0_3.index t a * (![512, 2048] : Fin 2 → Nat) a + (![512, 2048] : Fin 2 → Nat) a := by
  show i ∈ ((View.whole main_v0).slice (win0_3.rect t)).set ↔ _
  rw [View.set_slice_whole, Rect.mem_set_unit]

theorem cover3 (i : S8192x2048.Idx) : ∃ t : Fin cfg0.N, (cfg0.win 3).flush t = true ∧ i ∈ ((cfg0.win 3).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0 : Nat) / 512 := ⟨⟨(i 0 : Nat) / 512, by omega⟩, rfl⟩
  have hi := index3 t
  refine ⟨t, flush0_3 t, (mem3 t i).mpr fun a => ?_⟩
  match a with
  | ⟨0, _⟩ => show win0_3.index t 0 * 512 ≤ (i 0).val ∧ (i 0).val < win0_3.index t 0 * 512 + 512; rw [hi.1]; omega
  | ⟨1, _⟩ => show win0_3.index t 1 * 2048 ≤ (i 1).val ∧ (i 1).val < win0_3.index t 1 * 2048 + 2048; rw [hi.2]; omega

theorem final3 (c : Dev nD) : (dats m 0 c).arrAt 3 cfg0.N = G3 m c := (dats m 0 c).arrAt_eq_of_cover 3 (G3 m c) (flushed3_eq m c) cover3

open Cert.Reference3Ideal.Read in
theorem ref_apply (a : Vec Ideal S8192x2048 .bf16) (w : Vec Ideal S2048x2048 .bf16) (x : Vec Ideal S8192x2048 .f32) (R : Fin 8192) (C : Fin 2048) :
    val_main_v3 (F := Ideal) a w x (ix2 R C) = x (ix2 R C) + ∑ j : Fin 2048, a (ix2 R j) * w (ix2 j C) := by
  pointwise [val_main_v3, val_main_v2, val_main_v1, val_main_v0]

/-- The output projection is the reference's at every launch. -/
theorem algebraic : Cert.algebraic_Kernel3Ideal_Reference3Ideal := by
  intro m g m' g' _ hagree
  refine ⟨fun c => G3 m c, ?_, ?_⟩
  · refine (θ_run _ _ _).mono (fun r h c => ?_) (Cert.Kernel3Ideal.Value.run_blocks (F := Ideal) m g)
    obtain ⟨h3, ha⟩ := h c
    exact ⟨h3.trans (final3 m c), ha⟩
  · refine (θ_run _ _ _).mono (fun r h c => ?_) (Cert.Reference3Ideal.Value.run (F := Ideal) m' g')
    obtain ⟨h3, ha⟩ := h c
    obtain ⟨e0, e1, e2⟩ := hagree c
    refine ⟨?_, ha⟩
    funext i
    obtain ⟨R, C, rfl⟩ : ∃ (R : Fin 8192) (C : Fin 2048), i = ix2 R C := ⟨i 0, i 1, eq_ix2 i⟩
    rw [h3, Cert.Reference3Ideal.Read.val_main_v3_eq, e0, e1, e2]
    exact ref_apply _ _ _ R C

end Cert.OutProj
-- ==== Proof.Gate.Block.lean ====
/-
  What a grid point of the spatial gate leaves in its output blocks: four chunks of rows by eight heads, each the lower
  triangle of the head's weights times the chunk's normed values, with the head's bias, between the two gates.
-/
module

public import proofs.«01_k».proof.Proof.Gen.Kernel4Ideal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Gate

open Cert.Kernel4Ideal Cert.Kernel4Ideal.Gen

variable {F : FTy → Type} [FloatOps F]

theorem hz : (![0, 0] : Fin 2 → Nat) = fun _ => 0 := funext fun a => by fin_cases a <;> rfl

/-- The normed values of a chunk. -/
def nrm (x : Vec F S128x2048 .f32) (gain : Vec F S1x2048 .f32) : FVec F S128x2048 .f32 :=
  mulf (mulf x (broadcastTo S128x2048
      (rsqrt (addf (divf (shapeCast S128x1 (multiReduction .add [1] S128 (mulf x x) 0x00000000#32 reduces_S128x2048_S128 (.inl rfl) rfl) shapeCasts_S128_S128x1)
        (broadcast S128x1 (Scalar.ofBits .f32 0x45000000#32))) (broadcast S128x1 (Scalar.ofBits .f32 0x358637BD#32)))) broadcasts_S128x1_S128x2048))
    (broadcastTo S128x2048 (shapeCast S1x2048 gain shapeCasts_S1x2048_S1x2048) broadcasts_S1x2048_S128x2048)

/-- One head of a chunk: `o` is the head's first column, `v` the chunk's normed values. -/
def gate (o : Nat) (h : S128x2048.Slices ![0, o] S128x256) (v : FVec F S128x2048 .f32) (ws : Vec F S1x128x128 .f32) (b : Vec F S128x1 .f32)
    (u g : Vec F S128x256 .f32) : FVec F S128x256 .bf16 :=
  truncf .bf16 (mulf (mulf u (addf
      (matmul dot_S128x128_S128x256_S128x256_1_0_0_1_n_n none
        (truncf .bf16 (select k0_pay1 (shapeCast S128x128 ws shapeCasts_S1x128x128_S128x128) (broadcast S128x128 (Scalar.ofBits .f32 0x00000000#32))) bitsLt_bf16_f32)
        (truncf .bf16 (extractStridedSlice S128x256 ![0, o] v h) bitsLt_bf16_f32) (constant S128x256 .f32 0x00000000#32))
      (broadcastTo S128x256 (shapeCast S128x1 b shapeCasts_S128x1_S128x1) broadcasts_S128x1_S128x256)))
    (mulf g (logistic g))) bitsLt_bf16_f32

/-- The thirty-two pieces of a block, as the body stores them: the last one first. -/
def pieces (x0 x1 x2 : Vec F S512x2048 .f32) (x3 : Vec F S1x2048 .f32) (x4 : Vec F S8x128x128 .f32) (x5 : Vec F S128x8 .f32) : List (View.Piece (Elt F) S512x2048 .bf16) :=
  [⟨Rect.unit ![384, 1792] S128x256.size inb_S512x2048_S128x256_384_1792, gate 1792 slices_S128x2048_o0_1792_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![7, 0, 0] S1x128x128.size inb_S8x128x128_S1x128x128_7_0_0)) (View.ld x5 (Rect.unit ![0, 7] S128x1.size inb_S128x8_S128x1_0_7)) (View.ld x0 (Rect.unit ![384, 1792] S128x256.size inb_S512x2048_S128x256_384_1792)) (View.ld x2 (Rect.unit ![384, 1792] S128x256.size inb_S512x2048_S128x256_384_1792))⟩,
   ⟨Rect.unit ![384, 1536] S128x256.size inb_S512x2048_S128x256_384_1536, gate 1536 slices_S128x2048_o0_1536_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![6, 0, 0] S1x128x128.size inb_S8x128x128_S1x128x128_6_0_0)) (View.ld x5 (Rect.unit ![0, 6] S128x1.size inb_S128x8_S128x1_0_6)) (View.ld x0 (Rect.unit ![384, 1536] S128x256.size inb_S512x2048_S128x256_384_1536)) (View.ld x2 (Rect.unit ![384, 1536] S128x256.size inb_S512x2048_S128x256_384_1536))⟩,
   ⟨Rect.unit ![384, 1280] S128x256.size inb_S512x2048_S128x256_384_1280, gate 1280 slices_S128x2048_o0_1280_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![5, 0, 0] S1x128x128.size inb_S8x128x128_S1x128x128_5_0_0)) (View.ld x5 (Rect.unit ![0, 5] S128x1.size inb_S128x8_S128x1_0_5)) (View.ld x0 (Rect.unit ![384, 1280] S128x256.size inb_S512x2048_S128x256_384_1280)) (View.ld x2 (Rect.unit ![384, 1280] S128x256.size inb_S512x2048_S128x256_384_1280))⟩,
   ⟨Rect.unit ![384, 1024] S128x256.size inb_S512x2048_S128x256_384_1024, gate 1024 slices_S128x2048_o0_1024_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![4, 0, 0] S1x128x128.size inb_S8x128x128_S1x128x128_4_0_0)) (View.ld x5 (Rect.unit ![0, 4] S128x1.size inb_S128x8_S128x1_0_4)) (View.ld x0 (Rect.unit ![384, 1024] S128x256.size inb_S512x2048_S128x256_384_1024)) (View.ld x2 (Rect.unit ![384, 1024] S128x256.size inb_S512x2048_S128x256_384_1024))⟩,
   ⟨Rect.unit ![384, 768] S128x256.size inb_S512x2048_S128x256_384_768, gate 768 slices_S128x2048_o0_768_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![3, 0, 0] S1x128x128.size inb_S8x128x128_S1x128x128_3_0_0)) (View.ld x5 (Rect.unit ![0, 3] S128x1.size inb_S128x8_S128x1_0_3)) (View.ld x0 (Rect.unit ![384, 768] S128x256.size inb_S512x2048_S128x256_384_768)) (View.ld x2 (Rect.unit ![384, 768] S128x256.size inb_S512x2048_S128x256_384_768))⟩,
   ⟨Rect.unit ![384, 512] S128x256.size inb_S512x2048_S128x256_384_512, gate 512 slices_S128x2048_o0_512_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![2, 0, 0] S1x128x128.size inb_S8x128x128_S1x128x128_2_0_0)) (View.ld x5 (Rect.unit ![0, 2] S128x1.size inb_S128x8_S128x1_0_2)) (View.ld x0 (Rect.unit ![384, 512] S128x256.size inb_S512x2048_S128x256_384_512)) (View.ld x2 (Rect.unit ![384, 512] S128x256.size inb_S512x2048_S128x256_384_512))⟩,
   ⟨Rect.unit ![384, 256] S128x256.size inb_S512x2048_S128x256_384_256, gate 256 slices_S128x2048_o0_256_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![1, 0, 0] S1x128x128.size inb_S8x128x128_S1x128x128_1_0_0)) (View.ld x5 (Rect.unit ![0, 1] S128x1.size inb_S128x8_S128x1_0_1)) (View.ld x0 (Rect.unit ![384, 256] S128x256.size inb_S512x2048_S128x256_384_256)) (View.ld x2 (Rect.unit ![384, 256] S128x256.size inb_S512x2048_S128x256_384_256))⟩,
   ⟨Rect.unit ![384, 0] S128x256.size inb_S512x2048_S128x256_384_0, gate 0 slices_S128x2048_o0_0_S128x256 (nrm (View.ld x1 (Rect.unit ![384, 0] S128x2048.size inb_S512x2048_S128x2048_384_0)) (View.ld x3 (Rect.unit ![0, 0] S1x2048.size inb_S1x2048_S1x2048_0_0))) (View.ld x4 (Rect.unit ![0, 0, 0] S1x128x128.size inb_S8x128x128_S1x128x128_0_0_0)) (View.ld x5 (Rect.unit ![0, 0] S128x1.size inb_S128x8_S128x1_0_0)) (View.ld x0 (Rect.unit ![384, 0] S128x256.size inb_S512x2048_S128x256_384_0)) (View.ld x2 (Rect.unit ![384, 0] S128x256.size inb_S512x2048_S128x256_384_0))⟩,
   ⟨Rect.unit ![256, 1792] S128x256.size inb_S512x2048_S128x256_256_1792, gate 1792 slices_S128x2048_o0_1792_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![7, 0, 0] S1x128x128.size inb_S8x128x128_S1x128x128_7_0_0)) (View.ld x5 (Rect.unit ![0, 7] S128x1.size inb_S128x8_S128x1_0_7)) (View.ld x0 (Rect.unit ![256, 1792] S128x256.size inb_S512x2048_S128x256_256_1792)) (View.ld x2 (Rect.unit ![256, 1792] S128x256.size inb_S512x2048_S128x256_256_1792))⟩,
   ⟨Rect.unit ![256, 1536] S128x256.size inb_S512x2048_S128x256_256_1536, gate 1536 slices_S128x2048_o0_1536_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![6, 0, 0] S1x128x128.size inb_S8x128x128_S1x128x128_6_0_0)) (View.ld x5 (Rect.unit ![0, 6] S128x1.size inb_S128x8_S128x1_0_6)) (View.ld x0 (Rect.unit ![256, 1536] S128x256.size inb_S512x2048_S128x256_256_1536)) (View.ld x2 (Rect.unit ![256, 1536] S128x256.size inb_S512x2048_S128x256_256_1536))⟩,
   ⟨Rect.unit ![256, 1280] S128x256.size inb_S512x2048_S128x256_256_1280, gate 1280 slices_S128x2048_o0_1280_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![5, 0, 0] S1x128x128.size inb_S8x128x128_S1x128x128_5_0_0)) (View.ld x5 (Rect.unit ![0, 5] S128x1.size inb_S128x8_S128x1_0_5)) (View.ld x0 (Rect.unit ![256, 1280] S128x256.size inb_S512x2048_S128x256_256_1280)) (View.ld x2 (Rect.unit ![256, 1280] S128x256.size inb_S512x2048_S128x256_256_1280))⟩,
   ⟨Rect.unit ![256, 1024] S128x256.size inb_S512x2048_S128x256_256_1024, gate 1024 slices_S128x2048_o0_1024_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![4, 0, 0] S1x128x128.size inb_S8x128x128_S1x128x128_4_0_0)) (View.ld x5 (Rect.unit ![0, 4] S128x1.size inb_S128x8_S128x1_0_4)) (View.ld x0 (Rect.unit ![256, 1024] S128x256.size inb_S512x2048_S128x256_256_1024)) (View.ld x2 (Rect.unit ![256, 1024] S128x256.size inb_S512x2048_S128x256_256_1024))⟩,
   ⟨Rect.unit ![256, 768] S128x256.size inb_S512x2048_S128x256_256_768, gate 768 slices_S128x2048_o0_768_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![3, 0, 0] S1x128x128.size inb_S8x128x128_S1x128x128_3_0_0)) (View.ld x5 (Rect.unit ![0, 3] S128x1.size inb_S128x8_S128x1_0_3)) (View.ld x0 (Rect.unit ![256, 768] S128x256.size inb_S512x2048_S128x256_256_768)) (View.ld x2 (Rect.unit ![256, 768] S128x256.size inb_S512x2048_S128x256_256_768))⟩,
   ⟨Rect.unit ![256, 512] S128x256.size inb_S512x2048_S128x256_256_512, gate 512 slices_S128x2048_o0_512_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![2, 0, 0] S1x128x128.size inb_S8x128x128_S1x128x128_2_0_0)) (View.ld x5 (Rect.unit ![0, 2] S128x1.size inb_S128x8_S128x1_0_2)) (View.ld x0 (Rect.unit ![256, 512] S128x256.size inb_S512x2048_S128x256_256_512)) (View.ld x2 (Rect.unit ![256, 512] S128x256.size inb_S512x2048_S128x256_256_512))⟩,
   ⟨Rect.unit ![256, 256] S128x256.size inb_S512x2048_S128x256_256_256, gate 256 slices_S128x2048_o0_256_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![1, 0, 0] S1x128x128.size inb_S8x128x128_S1x128x128_1_0_0)) (View.ld x5 (Rect.unit ![0, 1] S128x1.size inb_S128x8_S128x1_0_1)) (View.ld x0 (Rect.unit ![256, 256] S128x256.size inb_S512x2048_S128x256_256_256)) (View.ld x2 (Rect.unit ![256, 256] S128x256.size inb_S512x2048_S128x256_256_256))⟩,
   ⟨Rect.unit ![256, 0] S128x256.size inb_S512x2048_S128x256_256_0, gate 0 slices_S128x2048_o0_0_S128x256 (nrm (View.ld x1 (Rect.unit ![256, 0] S128x2048.size inb_S512x2048_S128x2048_256_0)) (View.ld x3 (Rect.unit ![0, 0] S1x2048.size inb_S1x2048_S1x2048_0_0))) (View.ld x4 (Rect.unit ![0, 0, 0] S1x128x128.size inb_S8x128x128_S1x128x128_0_0_0)) (View.ld x5 (Rect.unit ![0, 0] S128x1.size inb_S128x8_S128x1_0_0)) (View.ld x0 (Rect.unit ![256, 0] S128x256.size inb_S512x2048_S128x256_256_0)) (View.ld x2 (Rect.unit ![256, 0] S128x256.size inb_S512x2048_S128x256_256_0))⟩,
   ⟨Rect.unit ![128, 1792] S128x256.size inb_S512x2048_S128x256_128_1792, gate 1792 slices_S128x2048_o0_1792_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![7, 0, 0] S1x128x128.size inb_S8x128x128_S1x128x128_7_0_0)) (View.ld x5 (Rect.unit ![0, 7] S128x1.size inb_S128x8_S128x1_0_7)) (View.ld x0 (Rect.unit ![128, 1792] S128x256.size inb_S512x2048_S128x256_128_1792)) (View.ld x2 (Rect.unit ![128, 1792] S128x256.size inb_S512x2048_S128x256_128_1792))⟩,
   ⟨Rect.unit ![128, 1536] S128x256.size inb_S512x2048_S128x256_128_1536, gate 1536 slices_S128x2048_o0_1536_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![6, 0, 0] S1x128x128.size inb_S8x128x128_S1x128x128_6_0_0)) (View.ld x5 (Rect.unit ![0, 6] S128x1.size inb_S128x8_S128x1_0_6)) (View.ld x0 (Rect.unit ![128, 1536] S128x256.size inb_S512x2048_S128x256_128_1536)) (View.ld x2 (Rect.unit ![128, 1536] S128x256.size inb_S512x2048_S128x256_128_1536))⟩,
   ⟨Rect.unit ![128, 1280] S128x256.size inb_S512x2048_S128x256_128_1280, gate 1280 slices_S128x2048_o0_1280_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![5, 0, 0] S1x128x128.size inb_S8x128x128_S1x128x128_5_0_0)) (View.ld x5 (Rect.unit ![0, 5] S128x1.size inb_S128x8_S128x1_0_5)) (View.ld x0 (Rect.unit ![128, 1280] S128x256.size inb_S512x2048_S128x256_128_1280)) (View.ld x2 (Rect.unit ![128, 1280] S128x256.size inb_S512x2048_S128x256_128_1280))⟩,
   ⟨Rect.unit ![128, 1024] S128x256.size inb_S512x2048_S128x256_128_1024, gate 1024 slices_S128x2048_o0_1024_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![4, 0, 0] S1x128x128.size inb_S8x128x128_S1x128x128_4_0_0)) (View.ld x5 (Rect.unit ![0, 4] S128x1.size inb_S128x8_S128x1_0_4)) (View.ld x0 (Rect.unit ![128, 1024] S128x256.size inb_S512x2048_S128x256_128_1024)) (View.ld x2 (Rect.unit ![128, 1024] S128x256.size inb_S512x2048_S128x256_128_1024))⟩,
   ⟨Rect.unit ![128, 768] S128x256.size inb_S512x2048_S128x256_128_768, gate 768 slices_S128x2048_o0_768_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![3, 0, 0] S1x128x128.size inb_S8x128x128_S1x128x128_3_0_0)) (View.ld x5 (Rect.unit ![0, 3] S128x1.size inb_S128x8_S128x1_0_3)) (View.ld x0 (Rect.unit ![128, 768] S128x256.size inb_S512x2048_S128x256_128_768)) (View.ld x2 (Rect.unit ![128, 768] S128x256.size inb_S512x2048_S128x256_128_768))⟩,
   ⟨Rect.unit ![128, 512] S128x256.size inb_S512x2048_S128x256_128_512, gate 512 slices_S128x2048_o0_512_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![2, 0, 0] S1x128x128.size inb_S8x128x128_S1x128x128_2_0_0)) (View.ld x5 (Rect.unit ![0, 2] S128x1.size inb_S128x8_S128x1_0_2)) (View.ld x0 (Rect.unit ![128, 512] S128x256.size inb_S512x2048_S128x256_128_512)) (View.ld x2 (Rect.unit ![128, 512] S128x256.size inb_S512x2048_S128x256_128_512))⟩,
   ⟨Rect.unit ![128, 256] S128x256.size inb_S512x2048_S128x256_128_256, gate 256 slices_S128x2048_o0_256_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![1, 0, 0] S1x128x128.size inb_S8x128x128_S1x128x128_1_0_0)) (View.ld x5 (Rect.unit ![0, 1] S128x1.size inb_S128x8_S128x1_0_1)) (View.ld x0 (Rect.unit ![128, 256] S128x256.size inb_S512x2048_S128x256_128_256)) (View.ld x2 (Rect.unit ![128, 256] S128x256.size inb_S512x2048_S128x256_128_256))⟩,
   ⟨Rect.unit ![128, 0] S128x256.size inb_S512x2048_S128x256_128_0, gate 0 slices_S128x2048_o0_0_S128x256 (nrm (View.ld x1 (Rect.unit ![128, 0] S128x2048.size inb_S512x2048_S128x2048_128_0)) (View.ld x3 (Rect.unit ![0, 0] S1x2048.size inb_S1x2048_S1x2048_0_0))) (View.ld x4 (Rect.unit ![0, 0, 0] S1x128x128.size inb_S8x128x128_S1x128x128_0_0_0)) (View.ld x5 (Rect.unit ![0, 0] S128x1.size inb_S128x8_S128x1_0_0)) (View.ld x0 (Rect.unit ![128, 0] S128x256.size inb_S512x2048_S128x256_128_0)) (View.ld x2 (Rect.unit ![128, 0] S128x256.size inb_S512x2048_S128x256_128_0))⟩,
   ⟨Rect.unit ![0, 1792] S128x256.size inb_S512x2048_S128x256_0_1792, gate 1792 slices_S128x2048_o0_1792_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![7, 0, 0] S1x128x128.size inb_S8x128x128_S1x128x128_7_0_0)) (View.ld x5 (Rect.unit ![0, 7] S128x1.size inb_S128x8_S128x1_0_7)) (View.ld x0 (Rect.unit ![0, 1792] S128x256.size inb_S512x2048_S128x256_0_1792)) (View.ld x2 (Rect.unit ![0, 1792] S128x256.size inb_S512x2048_S128x256_0_1792))⟩,
   ⟨Rect.unit ![0, 1536] S128x256.size inb_S512x2048_S128x256_0_1536, gate 1536 slices_S128x2048_o0_1536_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![6, 0, 0] S1x128x128.size inb_S8x128x128_S1x128x128_6_0_0)) (View.ld x5 (Rect.unit ![0, 6] S128x1.size inb_S128x8_S128x1_0_6)) (View.ld x0 (Rect.unit ![0, 1536] S128x256.size inb_S512x2048_S128x256_0_1536)) (View.ld x2 (Rect.unit ![0, 1536] S128x256.size inb_S512x2048_S128x256_0_1536))⟩,
   ⟨Rect.unit ![0, 1280] S128x256.size inb_S512x2048_S128x256_0_1280, gate 1280 slices_S128x2048_o0_1280_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![5, 0, 0] S1x128x128.size inb_S8x128x128_S1x128x128_5_0_0)) (View.ld x5 (Rect.unit ![0, 5] S128x1.size inb_S128x8_S128x1_0_5)) (View.ld x0 (Rect.unit ![0, 1280] S128x256.size inb_S512x2048_S128x256_0_1280)) (View.ld x2 (Rect.unit ![0, 1280] S128x256.size inb_S512x2048_S128x256_0_1280))⟩,
   ⟨Rect.unit ![0, 1024] S128x256.size inb_S512x2048_S128x256_0_1024, gate 1024 slices_S128x2048_o0_1024_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![4, 0, 0] S1x128x128.size inb_S8x128x128_S1x128x128_4_0_0)) (View.ld x5 (Rect.unit ![0, 4] S128x1.size inb_S128x8_S128x1_0_4)) (View.ld x0 (Rect.unit ![0, 1024] S128x256.size inb_S512x2048_S128x256_0_1024)) (View.ld x2 (Rect.unit ![0, 1024] S128x256.size inb_S512x2048_S128x256_0_1024))⟩,
   ⟨Rect.unit ![0, 768] S128x256.size inb_S512x2048_S128x256_0_768, gate 768 slices_S128x2048_o0_768_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![3, 0, 0] S1x128x128.size inb_S8x128x128_S1x128x128_3_0_0)) (View.ld x5 (Rect.unit ![0, 3] S128x1.size inb_S128x8_S128x1_0_3)) (View.ld x0 (Rect.unit ![0, 768] S128x256.size inb_S512x2048_S128x256_0_768)) (View.ld x2 (Rect.unit ![0, 768] S128x256.size inb_S512x2048_S128x256_0_768))⟩,
   ⟨Rect.unit ![0, 512] S128x256.size inb_S512x2048_S128x256_0_512, gate 512 slices_S128x2048_o0_512_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![2, 0, 0] S1x128x128.size inb_S8x128x128_S1x128x128_2_0_0)) (View.ld x5 (Rect.unit ![0, 2] S128x1.size inb_S128x8_S128x1_0_2)) (View.ld x0 (Rect.unit ![0, 512] S128x256.size inb_S512x2048_S128x256_0_512)) (View.ld x2 (Rect.unit ![0, 512] S128x256.size inb_S512x2048_S128x256_0_512))⟩,
   ⟨Rect.unit ![0, 256] S128x256.size inb_S512x2048_S128x256_0_256, gate 256 slices_S128x2048_o0_256_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![1, 0, 0] S1x128x128.size inb_S8x128x128_S1x128x128_1_0_0)) (View.ld x5 (Rect.unit ![0, 1] S128x1.size inb_S128x8_S128x1_0_1)) (View.ld x0 (Rect.unit ![0, 256] S128x256.size inb_S512x2048_S128x256_0_256)) (View.ld x2 (Rect.unit ![0, 256] S128x256.size inb_S512x2048_S128x256_0_256))⟩,
   ⟨Rect.unit ![0, 0] S128x256.size inb_S512x2048_S128x256_0_0, gate 0 slices_S128x2048_o0_0_S128x256 (nrm (View.ld x1 (Rect.unit ![0, 0] S128x2048.size inb_S512x2048_S128x2048_0_0)) (View.ld x3 (Rect.unit ![0, 0] S1x2048.size inb_S1x2048_S1x2048_0_0))) (View.ld x4 (Rect.unit ![0, 0, 0] S1x128x128.size inb_S8x128x128_S1x128x128_0_0_0)) (View.ld x5 (Rect.unit ![0, 0] S128x1.size inb_S128x8_S128x1_0_0)) (View.ld x0 (Rect.unit ![0, 0] S128x256.size inb_S512x2048_S128x256_0_0)) (View.ld x2 (Rect.unit ![0, 0] S128x256.size inb_S512x2048_S128x256_0_0))⟩]

set_option maxHeartbeats 1000000 in
theorem out6_eq (x0 x1 x2 : Vec F S512x2048 .f32) (x3 : Vec F S1x2048 .f32) (x4 : Vec F S8x128x128 .f32) (x5 : Vec F S128x8 .f32) :
    out0_6 x0 x1 x2 x3 x4 x5 = View.canon (pieces x0 x1 x2 x3 x4 x5) := by
  unfold_out out0_6
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, pieces, gate, nrm]
  try rfl

theorem out7_eq (x0 x1 x2 : Vec F S512x2048 .f32) (x3 : Vec F S1x2048 .f32) (x4 : Vec F S8x128x128 .f32) (x5 : Vec F S128x8 .f32) :
    out0_7 x0 x1 x2 x3 x4 x5 = nrm (View.ld x1 (Rect.unit ![384, 0] S128x2048.size inb_S512x2048_S128x2048_384_0)) x3 := by
  unfold_out out0_7
  rw [View.canon_unit_zero hz]
  simp only [k0_pay42, k0_pay43, k0_pay44, nrm, View.ld_unit_zero (S := S1x2048) hz]
  try rfl

/-- Element `c` of a row of values after the root mean square norm. -/
def normed (x g : Fin 2048 → EReal) (c : Fin 2048) : EReal :=
  x c * Ideal.rsqrt (Ideal.div (∑ l, x l * x l) (Ideal.ofBits FTy.f32 0x45000000#32) + Ideal.ofBits FTy.f32 0x358637BD#32) * g c

/-- Whether column `x` of the spatial weights' row `i` is kept. -/
def lower (i x : Fin 128) : BitVec 1 := IntOp.cmpi CmpIPredicate.sge (BitVec.ofNat 32 i.val) (BitVec.ofNat 32 x.val)

theorem nrm_apply (x : Vec Ideal S128x2048 .f32) (gain : Vec Ideal S1x2048 .f32) (r : Fin 128) (c : Fin 2048) :
    nrm x gain (ix2 r c) = normed (fun l => x (ix2 r l)) (fun l => gain (ix2 0 l)) c := by
  pointwise [nrm, normed]

theorem gate_apply (o : Nat) (ho : o + 256 ≤ 2048) (h : S128x2048.Slices ![0, o] S128x256) (v : FVec Ideal S128x2048 .f32) (ws : Vec Ideal S1x128x128 .f32) (b : Vec Ideal S128x1 .f32)
    (u g : Vec Ideal S128x256 .f32) (r : Fin 128) (c : Fin 256) : gate o h v ws b u g (ix2 r c)
      = u (ix2 r c) * (∑ x : Fin 128, Scalar.select (lower r x) (ws (ix3 0 r x) * v (ix2 x ⟨o + c.val, by omega⟩)) 0 + b (ix2 r 0)) * (g (ix2 r c) * Ideal.logistic (g (ix2 r c))) := by
  pointwise [gate, k0_pay1, lower]

/-- Element `(r, c)` of the block a grid point computes. -/
def blockAt (x0 x1 x2 : Vec Ideal S512x2048 .f32) (x3 : Vec Ideal S1x2048 .f32) (x4 : Vec Ideal S8x128x128 .f32) (x5 : Vec Ideal S128x8 .f32) (r : Fin 512) (c : Fin 2048) : EReal :=
  x0 (ix2 r c) * (∑ x : Fin 128, Scalar.select (lower ⟨r.val % 128, by omega⟩ x)
      (x4 (ix3 ⟨c.val / 256, by omega⟩ ⟨r.val % 128, by omega⟩ x) * normed (fun l => x1 (ix2 ⟨r.val / 128 * 128 + x.val, by omega⟩ l)) (fun l => x3 (ix2 0 l)) c) 0
      + x5 (ix2 ⟨r.val % 128, by omega⟩ ⟨c.val / 256, by omega⟩)) * (x2 (ix2 r c) * Ideal.logistic (x2 (ix2 r c)))

theorem ld2 (x : Vec Ideal S512x2048 .f32) (R C : Nat) (inb) (r : Fin 128) (c : Fin 256) (hr : R + r.val < 512) (hc : C + c.val < 2048) :
    View.ld x (Rect.unit (s := S512x2048) ![R, C] S128x256.size inb) (ix2 r c) = x (ix2 ⟨R + r.val, hr⟩ ⟨C + c.val, hc⟩) := by
  pointwise

theorem ld3 (x : Vec Ideal S8x128x128 .f32) (k : Nat) (hk : k < 8) (inb) (i j : Fin 128) :
    View.ld x (Rect.unit (s := S8x128x128) ![k, 0, 0] S1x128x128.size inb) (ix3 0 i j) = x (ix3 ⟨k, hk⟩ i j) := by
  pointwise

theorem piece_apply (ch hd R C : Nat) (hR : R = 128 * ch) (hC : C = 256 * hd) (hch : ch < 4) (hhd : hd < 8)
    (inb sl inb1 inb3 inb4 inb5) (x0 x1 x2 : Vec Ideal S512x2048 .f32) (x3 : Vec Ideal S1x2048 .f32) (x4 : Vec Ideal S8x128x128 .f32) (x5 : Vec Ideal S128x8 .f32)
    (y : (Rect.unit (s := S512x2048) ![R, C] S128x256.size inb).shape.Idx) :
    gate C sl (nrm (View.ld x1 (Rect.unit (s := S512x2048) ![R, 0] S128x2048.size inb1)) (View.ld x3 (Rect.unit (s := S1x2048) ![0, 0] S1x2048.size inb3)))
      (View.ld x4 (Rect.unit (s := S8x128x128) ![hd, 0, 0] S1x128x128.size inb4)) (View.ld x5 (Rect.unit (s := S128x8) ![0, hd] S128x1.size inb5))
      (View.ld x0 (Rect.unit (s := S512x2048) ![R, C] S128x256.size inb)) (View.ld x2 (Rect.unit (s := S512x2048) ![R, C] S128x256.size inb)) y
      = blockAt x0 x1 x2 x3 x4 x5 (((Rect.unit (s := S512x2048) ![R, C] S128x256.size inb).emb y) 0) (((Rect.unit (s := S512x2048) ![R, C] S128x256.size inb).emb y) 1) := by
  obtain ⟨r, c, rfl⟩ : ∃ (r : Fin 128) (c : Fin 256), y = ix2 r c := ⟨y 0, y 1, eq_ix2 y⟩
  have hr : ((Rect.unit (s := S512x2048) ![R, C] S128x256.size inb).emb (ix2 r c)) 0 = (⟨R + r.val, by omega⟩ : Fin 512) := Fin.ext (by show R + 1 * r.val = _; dsimp only; omega)
  have hc : ((Rect.unit (s := S512x2048) ![R, C] S128x256.size inb).emb (ix2 r c)) 1 = (⟨C + c.val, by omega⟩ : Fin 2048) := Fin.ext (by show C + 1 * c.val = _; dsimp only; omega)
  rw [hr, hc]
  have e1 : (⟨(R + r.val) % 128, by omega⟩ : Fin 128) = r := Fin.ext (by dsimp only; omega)
  have e2 : (⟨(C + c.val) / 256, by omega⟩ : Fin 8) = ⟨hd, hhd⟩ := Fin.ext (by dsimp only; omega)
  have e3 : ∀ x : Fin 128, (⟨(R + r.val) / 128 * 128 + x.val, by omega⟩ : Fin 512) = ⟨R + x.val, by omega⟩ := fun x => Fin.ext (by dsimp only; omega)
  refine (gate_apply C (by omega) sl _ _ _ _ _ r c).trans ?_
  unfold blockAt
  dsimp only
  simp only [e1, e2, e3]
  have l0 := ld2 x0 R C inb r c (by omega) (by omega)
  have l2 := ld2 x2 R C inb r c (by omega) (by omega)
  have l5 : View.ld x5 (Rect.unit (s := S128x8) ![0, hd] S128x1.size inb5) (ix2 r 0) = x5 (ix2 r ⟨hd, hhd⟩) := by pointwise
  refine congrArg₂ (· * ·) (congrArg₂ (· * ·) l0 (congrArg₂ (· + ·) (Finset.sum_congr rfl fun x _ => ?_) l5)) (congrArg₂ (· * ·) l2 (congrArg Ideal.logistic l2))
  rw [ld3 x4 hd hhd, nrm_apply]
  refine congrArg (fun q => Scalar.select (lower r x) (x4 (ix3 ⟨hd, hhd⟩ r x) * q) (0 : EReal)) (congrArg₂ (fun p q => normed p q _) (funext fun l => ?_) (funext fun l => ?_))
  · pointwise
  · pointwise

theorem cover_pieces (x0 x1 x2 : Vec F S512x2048 .f32) (x3 : Vec F S1x2048 .f32) (x4 : Vec F S8x128x128 .f32) (x5 : Vec F S128x8 .f32) (y : S512x2048.Idx) :
    ∃ p ∈ pieces x0 x1 x2 x3 x4 x5, y ∈ p.1.set :=
  View.cover_of_tiledL (pieces x0 x1 x2 x3 x4 x5) S128x256.size (by sl_kernel_rfl) y

theorem canon_pieces (x0 x1 x2 : Vec Ideal S512x2048 .f32) (x3 : Vec Ideal S1x2048 .f32) (x4 : Vec Ideal S8x128x128 .f32) (x5 : Vec Ideal S128x8 .f32) (y : S512x2048.Idx) :
    View.canon (pieces x0 x1 x2 x3 x4 x5) y = blockAt x0 x1 x2 x3 x4 x5 (y 0) (y 1) := by
  refine View.canon_apply_of_pieces (fun y => blockAt x0 x1 x2 x3 x4 x5 (y 0) (y 1)) _ ?_ y (cover_pieces x0 x1 x2 x3 x4 x5 y)
  unfold pieces
  refine List.forall_mem_cons.mpr ⟨fun x => piece_apply 3 7 _ _ (by decide) (by decide) (by decide) (by decide) _ _ _ _ _ _ x0 x1 x2 x3 x4 x5 x, ?_⟩
  refine List.forall_mem_cons.mpr ⟨fun x => piece_apply 3 6 _ _ (by decide) (by decide) (by decide) (by decide) _ _ _ _ _ _ x0 x1 x2 x3 x4 x5 x, ?_⟩
  refine List.forall_mem_cons.mpr ⟨fun x => piece_apply 3 5 _ _ (by decide) (by decide) (by decide) (by decide) _ _ _ _ _ _ x0 x1 x2 x3 x4 x5 x, ?_⟩
  refine List.forall_mem_cons.mpr ⟨fun x => piece_apply 3 4 _ _ (by decide) (by decide) (by decide) (by decide) _ _ _ _ _ _ x0 x1 x2 x3 x4 x5 x, ?_⟩
  refine List.forall_mem_cons.mpr ⟨fun x => piece_apply 3 3 _ _ (by decide) (by decide) (by decide) (by decide) _ _ _ _ _ _ x0 x1 x2 x3 x4 x5 x, ?_⟩
  refine List.forall_mem_cons.mpr ⟨fun x => piece_apply 3 2 _ _ (by decide) (by decide) (by decide) (by decide) _ _ _ _ _ _ x0 x1 x2 x3 x4 x5 x, ?_⟩
  refine List.forall_mem_cons.mpr ⟨fun x => piece_apply 3 1 _ _ (by decide) (by decide) (by decide) (by decide) _ _ _ _ _ _ x0 x1 x2 x3 x4 x5 x, ?_⟩
  refine List.forall_mem_cons.mpr ⟨fun x => piece_apply 3 0 _ _ (by decide) (by decide) (by decide) (by decide) _ _ _ _ _ _ x0 x1 x2 x3 x4 x5 x, ?_⟩
  refine List.forall_mem_cons.mpr ⟨fun x => piece_apply 2 7 _ _ (by decide) (by decide) (by decide) (by decide) _ _ _ _ _ _ x0 x1 x2 x3 x4 x5 x, ?_⟩
  refine List.forall_mem_cons.mpr ⟨fun x => piece_apply 2 6 _ _ (by decide) (by decide) (by decide) (by decide) _ _ _ _ _ _ x0 x1 x2 x3 x4 x5 x, ?_⟩
  refine List.forall_mem_cons.mpr ⟨fun x => piece_apply 2 5 _ _ (by decide) (by decide) (by decide) (by decide) _ _ _ _ _ _ x0 x1 x2 x3 x4 x5 x, ?_⟩
  refine List.forall_mem_cons.mpr ⟨fun x => piece_apply 2 4 _ _ (by decide) (by decide) (by decide) (by decide) _ _ _ _ _ _ x0 x1 x2 x3 x4 x5 x, ?_⟩
  refine List.forall_mem_cons.mpr ⟨fun x => piece_apply 2 3 _ _ (by decide) (by decide) (by decide) (by decide) _ _ _ _ _ _ x0 x1 x2 x3 x4 x5 x, ?_⟩
  refine List.forall_mem_cons.mpr ⟨fun x => piece_apply 2 2 _ _ (by decide) (by decide) (by decide) (by decide) _ _ _ _ _ _ x0 x1 x2 x3 x4 x5 x, ?_⟩
  refine List.forall_mem_cons.mpr ⟨fun x => piece_apply 2 1 _ _ (by decide) (by decide) (by decide) (by decide) _ _ _ _ _ _ x0 x1 x2 x3 x4 x5 x, ?_⟩
  refine List.forall_mem_cons.mpr ⟨fun x => piece_apply 2 0 _ _ (by decide) (by decide) (by decide) (by decide) _ _ _ _ _ _ x0 x1 x2 x3 x4 x5 x, ?_⟩
  refine List.forall_mem_cons.mpr ⟨fun x => piece_apply 1 7 _ _ (by decide) (by decide) (by decide) (by decide) _ _ _ _ _ _ x0 x1 x2 x3 x4 x5 x, ?_⟩
  refine List.forall_mem_cons.mpr ⟨fun x => piece_apply 1 6 _ _ (by decide) (by decide) (by decide) (by decide) _ _ _ _ _ _ x0 x1 x2 x3 x4 x5 x, ?_⟩
  refine List.forall_mem_cons.mpr ⟨fun x => piece_apply 1 5 _ _ (by decide) (by decide) (by decide) (by decide) _ _ _ _ _ _ x0 x1 x2 x3 x4 x5 x, ?_⟩
  refine List.forall_mem_cons.mpr ⟨fun x => piece_apply 1 4 _ _ (by decide) (by decide) (by decide) (by decide) _ _ _ _ _ _ x0 x1 x2 x3 x4 x5 x, ?_⟩
  refine List.forall_mem_cons.mpr ⟨fun x => piece_apply 1 3 _ _ (by decide) (by decide) (by decide) (by decide) _ _ _ _ _ _ x0 x1 x2 x3 x4 x5 x, ?_⟩
  refine List.forall_mem_cons.mpr ⟨fun x => piece_apply 1 2 _ _ (by decide) (by decide) (by decide) (by decide) _ _ _ _ _ _ x0 x1 x2 x3 x4 x5 x, ?_⟩
  refine List.forall_mem_cons.mpr ⟨fun x => piece_apply 1 1 _ _ (by decide) (by decide) (by decide) (by decide) _ _ _ _ _ _ x0 x1 x2 x3 x4 x5 x, ?_⟩
  refine List.forall_mem_cons.mpr ⟨fun x => piece_apply 1 0 _ _ (by decide) (by decide) (by decide) (by decide) _ _ _ _ _ _ x0 x1 x2 x3 x4 x5 x, ?_⟩
  refine List.forall_mem_cons.mpr ⟨fun x => piece_apply 0 7 _ _ (by decide) (by decide) (by decide) (by decide) _ _ _ _ _ _ x0 x1 x2 x3 x4 x5 x, ?_⟩
  refine List.forall_mem_cons.mpr ⟨fun x => piece_apply 0 6 _ _ (by decide) (by decide) (by decide) (by decide) _ _ _ _ _ _ x0 x1 x2 x3 x4 x5 x, ?_⟩
  refine List.forall_mem_cons.mpr ⟨fun x => piece_apply 0 5 _ _ (by decide) (by decide) (by decide) (by decide) _ _ _ _ _ _ x0 x1 x2 x3 x4 x5 x, ?_⟩
  refine List.forall_mem_cons.mpr ⟨fun x => piece_apply 0 4 _ _ (by decide) (by decide) (by decide) (by decide) _ _ _ _ _ _ x0 x1 x2 x3 x4 x5 x, ?_⟩
  refine List.forall_mem_cons.mpr ⟨fun x => piece_apply 0 3 _ _ (by decide) (by decide) (by decide) (by decide) _ _ _ _ _ _ x0 x1 x2 x3 x4 x5 x, ?_⟩
  refine List.forall_mem_cons.mpr ⟨fun x => piece_apply 0 2 _ _ (by decide) (by decide) (by decide) (by decide) _ _ _ _ _ _ x0 x1 x2 x3 x4 x5 x, ?_⟩
  refine List.forall_mem_cons.mpr ⟨fun x => piece_apply 0 1 _ _ (by decide) (by decide) (by decide) (by decide) _ _ _ _ _ _ x0 x1 x2 x3 x4 x5 x, ?_⟩
  refine List.forall_mem_cons.mpr ⟨fun x => piece_apply 0 0 _ _ (by decide) (by decide) (by decide) (by decide) _ _ _ _ _ _ x0 x1 x2 x3 x4 x5 x, ?_⟩
  exact fun p hp => absurd hp (List.not_mem_nil)

end Cert.Gate
-- ==== Proof.Gate.Array.lean ====
/-
  The result arrays of the spatial gate, element by element, from the arguments.
-/
module

public import proofs.«01_k».proof.Proof.Gate.Block
public import proofs.«01_k».proof.Proof.Gen.Kernel4Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Gate

open Cert.Kernel4Ideal Cert.Kernel4Ideal.Gen

/-- Element `(R, C)` of the normed values of the whole prompt. -/
def vOf (z : Vec Ideal S8192x6144 .f32) (vg : Vec Ideal S1x2048 .f32) (R : Fin 8192) (C : Fin 2048) : EReal :=
  normed (fun l => z (ix2 R ⟨2048 + l.val, by omega⟩)) (fun l => vg (ix2 0 l)) C

/-- Element `(R, C)` of the gated rows. -/
def outOf (z : Vec Ideal S8192x6144 .f32) (vg : Vec Ideal S1x2048 .f32) (ws : Vec Ideal S1x8x128x128 .f32) (b : Vec Ideal S1x8x128 .f32) (R : Fin 8192) (C : Fin 2048) : EReal :=
  z (ix2 R ⟨C.val, by omega⟩) * (∑ x : Fin 128, Scalar.select (lower ⟨R.val % 128, by omega⟩ x)
      (ws (ix4 0 ⟨C.val / 256, by omega⟩ ⟨R.val % 128, by omega⟩ x) * vOf z vg ⟨R.val / 128 * 128 + x.val, by omega⟩ C) 0
      + b (ix3 0 ⟨C.val / 256, by omega⟩ ⟨R.val % 128, by omega⟩)) * (z (ix2 R ⟨4096 + C.val, by omega⟩) * Ideal.logistic (z (ix2 R ⟨4096 + C.val, by omega⟩)))

variable (m : (ℓ : Loc nD τ sig) → Buf (Elt Ideal) ℓ)

/-- The projected rows, the gain, the spatial weights and the spatial bias. -/
abbrev zA (c : Dev nD) : Vec Ideal S8192x6144 .f32 := m ((c : Thread nD τ).loc main_arg0)
abbrev gA (c : Dev nD) : Vec Ideal S1x2048 .f32 := m ((c : Thread nD τ).loc main_arg1)
abbrev wA (c : Dev nD) : Vec Ideal S1x8x128x128 .f32 := m ((c : Thread nD τ).loc main_arg2)
abbrev bA (c : Dev nD) : Vec Ideal S1x8x128 .f32 := m ((c : Thread nD τ).loc main_arg3)

theorem V_v3 (c : Dev nD) (k : Fin 2048) : (V m c main_v3 : Vec Ideal S1x2048 .f32) (ix2 0 k) = gA m c (ix2 0 k) := by
  have h : (V m c main_v3 : Vec Ideal S1x2048 .f32) = shapeCast S1x2048 (shapeCast S2048 (gA m c) shapeCasts_S1x2048_S2048) shapeCasts_S2048_S1x2048 := by
    unfold_abbrev_sides
    after_results
    rfl
  rw [h]
  generalize gA m c = a
  pointwise []

theorem V_v1 (c : Dev nD) (h : Fin 8) (i j : Fin 128) : (V m c main_v1 : Vec Ideal S8x128x128 .f32) (ix3 h i j) = wA m c (ix4 0 h i j) := by
  have h : (V m c main_v1 : Vec Ideal S8x128x128 .f32) = shapeCast S8x128x128 (wA m c) shapeCasts_S1x8x128x128_S8x128x128 := by
    unfold_abbrev_sides
    after_results
    rfl
  rw [h]
  generalize wA m c = a
  pointwise []

theorem V_v4 (c : Dev nD) (i : Fin 128) (h : Fin 8) : (V m c main_v4 : Vec Ideal S128x8 .f32) (ix2 i h) = bA m c (ix3 0 h i) := by
  have h : (V m c main_v4 : Vec Ideal S128x8 .f32) = transpose S128x8 [1, 0] (shapeCast S8x128 (bA m c) shapeCasts_S1x8x128_S8x128) transposes_S8x128_S128x8_1_0 := by
    unfold_abbrev_sides
    after_results
    rfl
  rw [h]
  generalize bA m c = a
  pointwise []

theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = t.val ∧ win0_1.index t 1 = 1 := (by decide +kernel : ∀ t : Fin grid0.N, win0_1.index t 0 = t.val ∧ win0_1.index t 1 = 1)
theorem index2 : ∀ t : Fin cfg0.N, win0_2.index t 0 = t.val ∧ win0_2.index t 1 = 2 := (by decide +kernel : ∀ t : Fin grid0.N, win0_2.index t 0 = t.val ∧ win0_2.index t 1 = 2)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 ∧ win0_4.index t 2 = 0 := (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = t.val ∧ win0_6.index t 1 = 0 := (by decide +kernel : ∀ t : Fin grid0.N, win0_6.index t 0 = t.val ∧ win0_6.index t 1 = 0)
theorem index7 : ∀ t : Fin cfg0.N, win0_7.index t 0 = 0 ∧ win0_7.index t 1 = 0 := (by decide +kernel : ∀ t : Fin grid0.N, win0_7.index t 0 = 0 ∧ win0_7.index t 1 = 0)

theorem lt16 (t : Fin cfg0.N) : t.val < 16 := by have h : cfg0.N = 16 := N_0; have := t.isLt; omega

/-- Row `r` of the point's block, as a row of the whole array. -/
def rowOf (t : Fin cfg0.N) (r : Fin 512) : Fin 8192 := ⟨t.val * 512 + r.val, by have := lt16 t; have := r.isLt; omega⟩

theorem iblk0_apply (c : Dev nD) (t : Fin cfg0.N) (r : Fin 512) (k : Fin 2048) : (iblk m c 0 t : Vec Ideal S512x2048 .f32) (ix2 r k) = zA m c (ix2 (rowOf t r) ⟨k.val, by omega⟩) := by
  have hi := index0 t
  unfold iblk
  rw [View.read_apply]
  refine (?_ : _ = V m c main_arg0 _).trans (congrFun (V_main_arg0 m c) _)
  show V m c main_arg0 _ = V m c main_arg0 _
  congr 1
  funext a
  apply Fin.ext
  match a with
  | ⟨0, _⟩ => show win0_0.index t 0 * 512 + 1 * r.val = t.val * 512 + r.val; rw [hi.1]; omega
  | ⟨1, _⟩ => show win0_0.index t 1 * 2048 + 1 * k.val = k.val; rw [hi.2]; omega

theorem iblk1_apply (c : Dev nD) (t : Fin cfg0.N) (r : Fin 512) (k : Fin 2048) : (iblk m c 1 t : Vec Ideal S512x2048 .f32) (ix2 r k) = zA m c (ix2 (rowOf t r) ⟨2048 + k.val, by omega⟩) := by
  have hi := index1 t
  unfold iblk
  rw [View.read_apply]
  refine (?_ : _ = V m c main_arg0 _).trans (congrFun (V_main_arg0 m c) _)
  show V m c main_arg0 _ = V m c main_arg0 _
  congr 1
  funext a
  apply Fin.ext
  match a with
  | ⟨0, _⟩ => show win0_1.index t 0 * 512 + 1 * r.val = t.val * 512 + r.val; rw [hi.1]; omega
  | ⟨1, _⟩ => show win0_1.index t 1 * 2048 + 1 * k.val = 2048 + k.val; rw [hi.2]; omega

theorem iblk2_apply (c : Dev nD) (t : Fin cfg0.N) (r : Fin 512) (k : Fin 2048) : (iblk m c 2 t : Vec Ideal S512x2048 .f32) (ix2 r k) = zA m c (ix2 (rowOf t r) ⟨4096 + k.val, by omega⟩) := by
  have hi := index2 t
  unfold iblk
  rw [View.read_apply]
  refine (?_ : _ = V m c main_arg0 _).trans (congrFun (V_main_arg0 m c) _)
  show V m c main_arg0 _ = V m c main_arg0 _
  congr 1
  funext a
  apply Fin.ext
  match a with
  | ⟨0, _⟩ => show win0_2.index t 0 * 512 + 1 * r.val = t.val * 512 + r.val; rw [hi.1]; omega
  | ⟨1, _⟩ => show win0_2.index t 1 * 2048 + 1 * k.val = 4096 + k.val; rw [hi.2]; omega

theorem iblk3_apply (c : Dev nD) (t : Fin cfg0.N) (k : Fin 2048) : (iblk m c 3 t : Vec Ideal S1x2048 .f32) (ix2 0 k) = gA m c (ix2 0 k) := by
  have hi := index3 t
  rw [← V_v3]
  unfold iblk
  rw [View.read_apply]
  show V m c main_v3 _ = V m c main_v3 _
  congr 1
  funext a
  apply Fin.ext
  match a with
  | ⟨0, _⟩ => show win0_3.index t 0 * 1 + 1 * 0 = 0; rw [hi.1]
  | ⟨1, _⟩ => show win0_3.index t 1 * 2048 + 1 * k.val = k.val; rw [hi.2]; omega

theorem iblk4_apply (c : Dev nD) (t : Fin cfg0.N) (h : Fin 8) (i j : Fin 128) : (iblk m c 4 t : Vec Ideal S8x128x128 .f32) (ix3 h i j) = wA m c (ix4 0 h i j) := by
  have hi := index4 t
  rw [← V_v1]
  unfold iblk
  rw [View.read_apply]
  show V m c main_v1 _ = V m c main_v1 _
  congr 1
  funext a
  apply Fin.ext
  match a with
  | ⟨0, _⟩ => show win0_4.index t 0 * 8 + 1 * h.val = h.val; rw [hi.1]; omega
  | ⟨1, _⟩ => show win0_4.index t 1 * 128 + 1 * i.val = i.val; rw [hi.2.1]; omega
  | ⟨2, _⟩ => show win0_4.index t 2 * 128 + 1 * j.val = j.val; rw [hi.2.2]; omega

theorem iblk5_apply (c : Dev nD) (t : Fin cfg0.N) (i : Fin 128) (h : Fin 8) : (iblk m c 5 t : Vec Ideal S128x8 .f32) (ix2 i h) = bA m c (ix3 0 h i) := by
  have hi := index5 t
  rw [← V_v4]
  unfold iblk
  rw [View.read_apply]
  show V m c main_v4 _ = V m c main_v4 _
  congr 1
  funext a
  apply Fin.ext
  match a with
  | ⟨0, _⟩ => show win0_5.index t 0 * 128 + 1 * i.val = i.val; rw [hi.1]; omega
  | ⟨1, _⟩ => show win0_5.index t 1 * 8 + 1 * h.val = h.val; rw [hi.2]; omega

/-- Row `r` of the last chunk, as a row of the whole array. -/
def lastRow (r : Fin 128) : Fin 8192 := ⟨8064 + r.val, by omega⟩

/-- The two result arrays. -/
def G6 (c : Dev nD) : Buf (Elt Ideal) ((c : Thread nD τ).loc main_v5_0) := fun j : S8192x2048.Idx => outOf (zA m c) (gA m c) (wA m c) (bA m c) (j 0) (j 1)
def G7 (c : Dev nD) : Buf (Elt Ideal) ((c : Thread nD τ).loc main_v5_1) := fun j : S128x2048.Idx => vOf (zA m c) (gA m c) (lastRow (j 0)) (j 1)

theorem block_apply (c : Dev nD) (t : Fin cfg0.N) (r : Fin 512) (k : Fin 2048) :
    blockAt (iblk m c 0 t) (iblk m c 1 t) (iblk m c 2 t) (iblk m c 3 t) (iblk m c 4 t) (iblk m c 5 t) r k = outOf (zA m c) (gA m c) (wA m c) (bA m c) (rowOf t r) k := by
  unfold blockAt outOf vOf
  simp only [iblk0_apply, iblk1_apply, iblk2_apply, iblk3_apply, iblk4_apply, iblk5_apply]
  have e1 : (⟨(rowOf t r).val % 128, by omega⟩ : Fin 128) = ⟨r.val % 128, by omega⟩ := Fin.ext (by show (t.val * 512 + r.val) % 128 = r.val % 128; omega)
  have e2 : ∀ x : Fin 128, rowOf t ⟨r.val / 128 * 128 + x.val, by omega⟩ = ⟨(rowOf t r).val / 128 * 128 + x.val, by omega⟩ := fun x =>
    Fin.ext (by show t.val * 512 + (r.val / 128 * 128 + x.val) = (t.val * 512 + r.val) / 128 * 128 + x.val; omega)
  simp only [e1, e2]

theorem out6_apply (c : Dev nD) (t : Fin cfg0.N) (r : Fin 512) (k : Fin 2048) :
    (out0_6 (iblk m c 0 t) (iblk m c 1 t) (iblk m c 2 t) (iblk m c 3 t) (iblk m c 4 t) (iblk m c 5 t) : Vec Ideal S512x2048 .bf16) (ix2 r k)
      = outOf (zA m c) (gA m c) (wA m c) (bA m c) (rowOf t r) k := by
  rw [out6_eq, canon_pieces]
  exact block_apply m c t r k

theorem out7_apply (c : Dev nD) (t : Fin cfg0.N) (ht : t.val = 15) (r : Fin 128) (k : Fin 2048) :
    (out0_7 (iblk m c 0 t) (iblk m c 1 t) (iblk m c 2 t) (iblk m c 3 t) (iblk m c 4 t) (iblk m c 5 t) : Vec Ideal S128x2048 .f32) (ix2 r k)
      = vOf (zA m c) (gA m c) (lastRow r) k := by
  rw [out7_eq, nrm_apply]
  unfold vOf
  refine congrArg₂ (fun p q => normed p q k) (funext fun l => ?_) (funext fun l => iblk3_apply m c t l)
  have e : View.ld (iblk m c 1 t : Vec Ideal S512x2048 .f32) (Rect.unit (s := S512x2048) ![384, 0] S128x2048.size inb_S512x2048_S128x2048_384_0) (ix2 r l) = (iblk m c 1 t : Vec Ideal S512x2048 .f32) (ix2 ⟨384 + r.val, by omega⟩ l) := by
    generalize (iblk m c 1 t : Vec Ideal S512x2048 .f32) = w
    pointwise
  refine e.trans ((iblk1_apply m c t _ l).trans (congrArg (fun R => zA m c (ix2 R _)) (Fin.ext ?_)))
  show t.val * 512 + (384 + r.val) = 8064 + r.val
  omega

theorem flushed6_eq (c : Dev nD) (t : Fin cfg0.N) (_ : (cfg0.win 6).flush t = true) :
    (dats m 0 c).flushed 6 t = ((cfg0.win 6).blk t).view.read (Elt Ideal) (G6 m c) := by
  have hi := index6 t
  have ho := out6_apply m c t
  rw [Value.flushed6]
  generalize out0_6 (iblk m c 0 t) (iblk m c 1 t) (iblk m c 2 t) (iblk m c 3 t) (iblk m c 4 t) (iblk m c 5 t) = o at ho
  funext j
  rw [View.read_apply]
  have hj : o j = outOf (zA m c) (gA m c) (wA m c) (bA m c) (rowOf t (j 0)) (j 1) := (congrArg o (eq_ix2 (n0 := 512) (n1 := 2048) j)).trans (ho (j 0) (j 1))
  refine hj.trans ?_
  unfold G6
  refine congrArg₂ (outOf (zA m c) (gA m c) (wA m c) (bA m c)) (Fin.ext ?_) (Fin.ext ?_)
  · show t.val * 512 + (j 0).val = win0_6.index t 0 * 512 + 1 * (j 0).val; rw [hi.1]; omega
  · show (j 1).val = win0_6.index t 1 * 2048 + 1 * (j 1).val; rw [hi.2]; omega

theorem mem6 (t : Fin cfg0.N) (i : S8192x2048.Idx) : i ∈ ((cfg0.win 6).blk t).view.set ↔ ∀ a, win0_6.index t a * (![512, 2048] : Fin 2 → Nat) a ≤ (i a).val ∧ (i a).val < win0_6.index t a * (![512, 2048] : Fin 2 → Nat) a + (![512, 2048] : Fin 2 → Nat) a := by
  show i ∈ ((View.whole main_v5_0).slice (win0_6.rect t)).set ↔ _
  rw [View.set_slice_whole, Rect.mem_set_unit]

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0 : Nat) / 512 := ⟨⟨(i 0 : Nat) / 512, by omega⟩, rfl⟩
  have hi := index6 t
  refine ⟨t, flush0_6 t, (mem6 t i).mpr fun a => ?_⟩
  match a with
  | ⟨0, _⟩ => show win0_6.index t 0 * 512 ≤ (i 0).val ∧ (i 0).val < win0_6.index t 0 * 512 + 512; rw [hi.1]; omega
  | ⟨1, _⟩ => show win0_6.index t 1 * 2048 ≤ (i 1).val ∧ (i 1).val < win0_6.index t 1 * 2048 + 2048; rw [hi.2]; omega

theorem final6 (c : Dev nD) : (dats m 0 c).arrAt 6 cfg0.N = G6 m c := (dats m 0 c).arrAt_eq_of_cover 6 (G6 m c) (flushed6_eq m c) cover6

theorem flushed7_eq (c : Dev nD) (t : Fin cfg0.N) (hf : (cfg0.win 7).flush t = true) :
    (dats m 0 c).flushed 7 t = ((cfg0.win 7).blk t).view.read (Elt Ideal) (G7 m c) := by
  have hi := index7 t
  have ht : t.val = 15 := by have h := (flush0_7 t).mp hf; have := lt16 t; omega
  have ho := out7_apply m c t ht
  rw [Value.flushed7]
  generalize out0_7 (iblk m c 0 t) (iblk m c 1 t) (iblk m c 2 t) (iblk m c 3 t) (iblk m c 4 t) (iblk m c 5 t) = o at ho
  funext j
  rw [View.read_apply]
  have hj : o j = vOf (zA m c) (gA m c) (lastRow (j 0)) (j 1) := (congrArg o (eq_ix2 (n0 := 128) (n1 := 2048) j)).trans (ho (j 0) (j 1))
  refine hj.trans ?_
  unfold G7
  refine congrArg₂ (vOf (zA m c) (gA m c)) (Fin.ext ?_) (Fin.ext ?_)
  · show 8064 + (j 0).val = 8064 + (win0_7.index t 0 * 128 + 1 * (j 0).val); rw [hi.1]; omega
  · show (j 1).val = win0_7.index t 1 * 2048 + 1 * (j 1).val; rw [hi.2]; omega

theorem mem7 (t : Fin cfg0.N) (i : S128x2048.Idx) : i ∈ ((cfg0.win 7).blk t).view.set ↔ ∀ a, win0_7.index t a * (![128, 2048] : Fin 2 → Nat) a ≤ (i a).val ∧ (i a).val < win0_7.index t a * (![128, 2048] : Fin 2 → Nat) a + (![128, 2048] : Fin 2 → Nat) a := by
  show i ∈ ((View.whole main_v5_1).slice (win0_7.rect t)).set ↔ _
  rw [View.set_slice_whole, Rect.mem_set_unit]

theorem cover7 (i : S128x2048.Idx) : ∃ t : Fin cfg0.N, (cfg0.win 7).flush t = true ∧ i ∈ ((cfg0.win 7).blk t).view.set := by
  have h0 : (i 0 : Nat) < 128 := (i 0).isLt
  have h1 : (i 1 : Nat) < 2048 := (i 1).isLt
  have hN : cfg0.N = 16 := N_0
  obtain ⟨t, ht⟩ : ∃ t : Fin cfg0.N, t.val = 15 := ⟨⟨15, by omega⟩, rfl⟩
  have hi := index7 t
  refine ⟨t, (flush0_7 t).mpr (by omega), (mem7 t i).mpr fun a => ?_⟩
  match a with
  | ⟨0, _⟩ => show win0_7.index t 0 * 128 ≤ (i 0).val ∧ (i 0).val < win0_7.index t 0 * 128 + 128; rw [hi.1]; omega
  | ⟨1, _⟩ => show win0_7.index t 1 * 2048 ≤ (i 1).val ∧ (i 1).val < win0_7.index t 1 * 2048 + 2048; rw [hi.2]; omega

theorem final7 (c : Dev nD) : (dats m 0 c).arrAt 7 cfg0.N = G7 m c := (dats m 0 c).arrAt_eq_of_cover 7 (G7 m c) (flushed7_eq m c) cover7

end Cert.Gate
-- ==== Proof.Gate.Tie.lean ====
/-
  The spatial gate, the kernel's and the reference's, is one function of the arguments.
-/
module

public import proofs.«01_k».proof.Defs
public import proofs.«01_k».proof.Proof.Gate.Array
public import proofs.«01_k».proof.Proof.Gen.Reference4Ideal.Run
public import proofs.«01_k».proof.Proof.Gen.Reference4Ideal.Read
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.Gate

section Reference

open Cert.Reference4Ideal Cert.Reference4Ideal.Read

variable (z : Vec Ideal S8192x6144 .f32) (vg : Vec Ideal S1x2048 .f32) (ws : Vec Ideal S1x8x128x128 .f32) (b : Vec Ideal S1x8x128 .f32)

theorem v_eq (R : Fin 8192) (C : Fin 2048) : val_main_v16 (F := Ideal) z vg (ix2 R C) = vOf z vg R C := by
  pointwise [vOf, normed, val_main_v16, val_main_v15, val_main_v14, val_main_v13, val_main_v12, val_main_v11, val_main_v10, val_main_v9, val_main_v8, val_main_v7, val_main_v6, val_main_v5, val_main_v4, val_main_v3, val_main_v1, val_main_cst, val_main_cst_0, val_main_cst_1]

theorem term_eq (i x : Fin 128) (v w : EReal) :
    v * Scalar.select (Scalar.select (IntOp.cmpi CmpIPredicate.sge (IntOp.addi (BitVec.ofNat 32 i.val) 0#32) (BitVec.ofNat 32 x.val)) 1#1 0#1) w (FloatOps.sitofp (F := Ideal) FTy.f32 0#32)
      = Scalar.select (lower i x) (w * v) 0 := by
  have h0 : (FloatOps.sitofp (F := Ideal) FTy.f32 0#32 : EReal) = 0 := sitofp_zero
  have ha : IntOp.addi (BitVec.ofNat 32 i.val) 0#32 = BitVec.ofNat 32 i.val := BitVec.add_zero _
  rw [h0, ha]
  unfold lower
  generalize IntOp.cmpi CmpIPredicate.sge (BitVec.ofNat 32 i.val) (BitVec.ofNat 32 x.val) = c
  obtain rfl | rfl : c = 0#1 ∨ c = 1#1 := by revert c; decide
  · exact mul_zero v
  · exact mul_comm v w

theorem mixed_eq (n : Fin 64) (i : Fin 128) (h : Fin 8) (c : Fin 256) : val_main_v29 (F := Ideal) z vg ws b (ix4 n i h c)
    = ∑ x : Fin 128, Scalar.select (lower i x) (ws (ix4 0 h i x) * vOf z vg ⟨n.val * 128 + x.val, by omega⟩ ⟨h.val * 256 + c.val, by omega⟩) 0 + b (ix3 0 h i) := by
  pointwise [val_main_v29, val_main_v28, val_main_v27, val_main_v26, val_main_v25, val_main_v24, val_main_v23, val_main_v22, val_main_v21, val_main_v20, val_main_v19, val_main_v18, val_main_v17, val_main_c, val_main_call0_v0, val_main_call0_c, val_main_call0_v1, val_main_call0_v2, val_main_call0_v3, val_main_call0_v4, val_main_call0_c_0, val_main_call0_v5, val_main_c_2, val_main_call1_v0, val_main_call1_v1, val_main_call1_v2]
  simp only [term_eq, v_eq]

theorem ref_apply (R : Fin 8192) (C : Fin 2048) : val_main_v34 (F := Ideal) z vg ws b (ix2 R C) = outOf z vg ws b R C := by
  pointwise [val_main_v34, val_main_v33, val_main_v32, val_main_v31, val_main_v30, val_main_call2_v0, val_main_call2_v1, val_main_call2_cst, val_main_call2_v2, val_main_call2_v3, val_main_call2_cst_0, val_main_call2_v4, val_main_call2_v5, val_main_v0, val_main_v2]
  rw [mixed_eq]
  unfold outOf Ideal.logistic
  have e : (⟨C.val / 256 * 256 + C.val % 256, by omega⟩ : Fin 2048) = C := Fin.ext (by dsimp only; omega)
  simp only [e]

theorem ref_last (r : Fin 128) (C : Fin 2048) : val_main_v35 (F := Ideal) z vg (ix2 r C) = vOf z vg (lastRow r) C := by
  pointwise [val_main_v35]
  exact v_eq z vg (lastRow r) C

end Reference

open Cert.Kernel4Ideal Cert.Kernel4Ideal.Gen

/-- The spatial gate is the reference's at every launch. -/
theorem algebraic : Cert.algebraic_Kernel4Ideal_Reference4Ideal := by
  intro m g m' g' _ hagree
  refine ⟨fun c => G6 m c, fun c => G7 m c, ?_, ?_⟩
  · refine (θ_run _ _ _).mono (fun r h c => ?_) (Cert.Kernel4Ideal.Value.run_blocks (F := Ideal) m g)
    obtain ⟨h6, h7, ha⟩ := h c
    exact ⟨h6.trans (final6 m c), h7.trans (final7 m c), ha⟩
  · refine (θ_run _ _ _).mono (fun r h c => ?_) (Cert.Reference4Ideal.Value.run (F := Ideal) m' g')
    obtain ⟨h6, h7, ha⟩ := h c
    obtain ⟨e0, e1, e2, e3⟩ := hagree c
    refine ⟨?_, ?_, ha⟩
    · funext i
      obtain ⟨R, C, rfl⟩ : ∃ (R : Fin 8192) (C : Fin 2048), i = ix2 R C := ⟨i 0, i 1, eq_ix2 i⟩
      rw [h6, Cert.Reference4Ideal.Read.val_main_v34_eq, e0, e1, e2, e3]
      exact ref_apply _ _ _ _ R C
    · funext i
      obtain ⟨R, C, rfl⟩ : ∃ (R : Fin 128) (C : Fin 2048), i = ix2 R C := ⟨i 0, i 1, eq_ix2 i⟩
      rw [h7, Cert.Reference4Ideal.Read.val_main_v35_eq, e0, e1]
      exact ref_last _ _ R C

end Cert.Gate
-- ==== Proof.GateRow.Value.lean ====
/-
  The sample's spatial gate: what the kernel leaves in its two result arrays.
-/
module

public import proofs.«01_k».proof.Proof.Gen.Kernel5Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GateRow

/-- Element `c` of a row of values after the root mean square norm. -/
def normed (x g : Fin 2048 → EReal) (c : Fin 2048) : EReal :=
  x c * Ideal.rsqrt (Ideal.div (∑ l, x l * x l) (Ideal.ofBits FTy.f32 0x45000000#32) + Ideal.ofBits FTy.f32 0x358637BD#32) * g c

/-- Element `(R, C)` of the sample's normed values. -/
def vOf (z : FVec Ideal ⟨2, ![32, 6144]⟩ .f32) (vg : FVec Ideal ⟨2, ![1, 2048]⟩ .f32) (R : Fin 32) (C : Fin 2048) : EReal :=
  normed (fun l => z (ix2 R ⟨2048 + l.val, by omega⟩)) (fun l => vg (ix2 0 l)) C

/-- Element `(R, C)` of the sample's gated rows. -/
def outOf (z : FVec Ideal ⟨2, ![32, 6144]⟩ .f32) (vg : FVec Ideal ⟨2, ![1, 2048]⟩ .f32) (ws : FVec Ideal ⟨4, ![1, 8, 128, 128]⟩ .f32) (b : FVec Ideal ⟨3, ![1, 8, 128]⟩ .f32)
    (R : Fin 32) (C : Fin 2048) : EReal :=
  z (ix2 R ⟨C.val, by omega⟩) * (ws (ix4 0 ⟨C.val / 256, by omega⟩ 0 0) * vOf z vg R C + b (ix3 0 ⟨C.val / 256, by omega⟩ 0))
    * (z (ix2 R ⟨4096 + C.val, by omega⟩) * Ideal.logistic (z (ix2 R ⟨4096 + C.val, by omega⟩)))

section Kernel
open Cert.Kernel5Ideal Cert.Kernel5Ideal.Gen

theorem hz : (![0, 0] : Fin 2 → Nat) = fun _ => 0 := funext fun a => by fin_cases a <;> rfl

theorem pay1_apply (x : Vec Ideal S32x2048 .f32) (gain : Vec Ideal S1x2048 .f32) (r : Fin 32) (c : Fin 2048) :
    k0_pay1 x gain (ix2 r c) = normed (fun l => x (ix2 r l)) (fun l => gain (ix2 0 l)) c := by
  pointwise [k0_pay1, normed]

theorem pay2_apply (x : Vec Ideal S32x2048 .f32) (gain w b : Vec Ideal S1x2048 .f32) (u g : Vec Ideal S32x2048 .f32) (r : Fin 32) (c : Fin 2048) :
    k0_pay2 x gain w b u g (ix2 r c) = u (ix2 r c) * (w (ix2 0 c) * normed (fun l => x (ix2 r l)) (fun l => gain (ix2 0 l)) c + b (ix2 0 c))
      * (g (ix2 r c) * Ideal.logistic (g (ix2 r c))) := by
  pointwise [k0_pay2, k0_pay1, normed]
  try unfold Ideal.logistic
  try rfl

variable (m : (ℓ : Loc nD τ sig) → Buf (Elt Ideal) ℓ)

/-- The projected rows, the gain, the spatial weights and the spatial bias. -/
abbrev zA (c : Dev nD) : Vec Ideal S32x6144 .f32 := m ((c : Thread nD τ).loc main_arg0)
abbrev gA (c : Dev nD) : Vec Ideal S1x2048 .f32 := m ((c : Thread nD τ).loc main_arg1)
abbrev wA (c : Dev nD) : Vec Ideal S1x8x128x128 .f32 := m ((c : Thread nD τ).loc main_arg2)
abbrev bA (c : Dev nD) : Vec Ideal S1x8x128 .f32 := m ((c : Thread nD τ).loc main_arg3)

theorem V_v0 (c : Dev nD) (r : Fin 32) (k : Fin 2048) : (V m c main_v0 : Vec Ideal S32x2048 .f32) (ix2 r k) = zA m c (ix2 r ⟨k.val, by omega⟩) := by
  have h : (V m c main_v0 : Vec Ideal S32x2048 .f32) = extractStridedSlice S32x2048 ![0, 0] (zA m c) slices_S32x6144_S32x2048_0_0 := by
    unfold_abbrev_sides
    after_results
    all_goals rfl
  rw [h]
  generalize zA m c = a
  pointwise []

theorem V_v1 (c : Dev nD) (r : Fin 32) (k : Fin 2048) : (V m c main_v1 : Vec Ideal S32x2048 .f32) (ix2 r k) = zA m c (ix2 r ⟨2048 + k.val, by omega⟩) := by
  have h : (V m c main_v1 : Vec Ideal S32x2048 .f32) = extractStridedSlice S32x2048 ![0, 2048] (zA m c) slices_S32x6144_S32x2048_0_2048 := by
    unfold_abbrev_sides
    after_results
    all_goals rfl
  rw [h]
  generalize zA m c = a
  pointwise []

theorem V_v2 (c : Dev nD) (r : Fin 32) (k : Fin 2048) : (V m c main_v2 : Vec Ideal S32x2048 .f32) (ix2 r k) = zA m c (ix2 r ⟨4096 + k.val, by omega⟩) := by
  have h : (V m c main_v2 : Vec Ideal S32x2048 .f32) = extractStridedSlice S32x2048 ![0, 4096] (zA m c) slices_S32x6144_S32x2048_0_4096 := by
    unfold_abbrev_sides
    after_results
    all_goals rfl
  rw [h]
  generalize zA m c = a
  pointwise []

theorem V_v16 (c : Dev nD) (k : Fin 2048) : (V m c main_v16 : Vec Ideal S1x2048 .f32) (ix2 0 k) = gA m c (ix2 0 k) := by
  have h : (V m c main_v16 : Vec Ideal S1x2048 .f32) = shapeCast S1x2048 (shapeCast S2048 (gA m c) shapeCasts_S1x2048_S2048) shapeCasts_S2048_S1x2048 := by
    unfold_abbrev_sides
    after_results
    all_goals rfl
  rw [h]
  generalize gA m c = a
  pointwise []

theorem V_v10 (c : Dev nD) (k : Fin 2048) : (V m c main_v10 : Vec Ideal S1x2048 .f32) (ix2 0 k) = wA m c (ix4 0 ⟨k.val / 256, by omega⟩ 0 0) := by
  have h : (V m c main_v10 : Vec Ideal S1x2048 .f32) = shapeCast S1x2048 (shapeCast S2048 (broadcastInDim S8x256 ![0] bcast_S8_S8x256_0 (shapeCast S8 (extractStridedSlice S8x1x1 ![0, 0, 0] (shapeCast S8x128x128 (wA m c) shapeCasts_S1x8x128x128_S8x128x128) slices_S8x128x128_S8x1x1_0_0_0) shapeCasts_S8x1x1_S8)) shapeCasts_S8x256_S2048) shapeCasts_S2048_S1x2048 := by
    unfold_abbrev_sides
    after_results
    all_goals rfl
  rw [h]
  generalize wA m c = a
  pointwise []

theorem V_v15 (c : Dev nD) (k : Fin 2048) : (V m c main_v15 : Vec Ideal S1x2048 .f32) (ix2 0 k) = bA m c (ix3 0 ⟨k.val / 256, by omega⟩ 0) := by
  have h : (V m c main_v15 : Vec Ideal S1x2048 .f32) = shapeCast S1x2048 (shapeCast S2048 (broadcastInDim S8x256 ![0] bcast_S8_S8x256_0 (shapeCast S8 (extractStridedSlice S8x1 ![0, 0] (shapeCast S8x128 (bA m c) shapeCasts_S1x8x128_S8x128) slices_S8x128_S8x1_0_0) shapeCasts_S8x1_S8)) shapeCasts_S8x256_S2048) shapeCasts_S2048_S1x2048 := by
    unfold_abbrev_sides
    after_results
    all_goals rfl
  rw [h]
  generalize bA m c = a
  pointwise []

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = 0 ∧ win0_6.index t 1 = 0 := (by decide +kernel : ∀ t : Fin grid0.N, win0_6.index t 0 = 0 ∧ win0_6.index t 1 = 0)
theorem index7 : ∀ t : Fin cfg0.N, win0_7.index t 0 = 0 ∧ win0_7.index t 1 = 0 := (by decide +kernel : ∀ t : Fin grid0.N, win0_7.index t 0 = 0 ∧ win0_7.index t 1 = 0)

theorem iblk0_apply (c : Dev nD) (t : Fin cfg0.N) (r : Fin 32) (k : Fin 2048) : (iblk m c 0 t : Vec Ideal S32x2048 .f32) (ix2 r k) = zA m c (ix2 r ⟨k.val, by omega⟩) := by
  refine Eq.trans ?_ (V_v0 m c r k)
  have hi := index0 t
  unfold iblk
  rw [View.read_apply]
  show V m c main_v0 _ = V m c main_v0 _
  congr 1
  funext a
  apply Fin.ext
  match a with
  | ⟨0, _⟩ => show win0_0.index t 0 * 32 + 1 * r.val = r.val; rw [hi.1]; all_goals omega
  | ⟨1, _⟩ => show win0_0.index t 1 * 2048 + 1 * k.val = k.val; rw [hi.2]; omega

theorem iblk1_apply (c : Dev nD) (t : Fin cfg0.N) (r : Fin 32) (k : Fin 2048) : (iblk m c 1 t : Vec Ideal S32x2048 .f32) (ix2 r k) = zA m c (ix2 r ⟨2048 + k.val, by omega⟩) := by
  refine Eq.trans ?_ (V_v1 m c r k)
  have hi := index1 t
  unfold iblk
  rw [View.read_apply]
  show V m c main_v1 _ = V m c main_v1 _
  congr 1
  funext a
  apply Fin.ext
  match a with
  | ⟨0, _⟩ => show win0_1.index t 0 * 32 + 1 * r.val = r.val; rw [hi.1]; all_goals omega
  | ⟨1, _⟩ => show win0_1.index t 1 * 2048 + 1 * k.val = k.val; rw [hi.2]; omega

theorem iblk2_apply (c : Dev nD) (t : Fin cfg0.N) (r : Fin 32) (k : Fin 2048) : (iblk m c 2 t : Vec Ideal S32x2048 .f32) (ix2 r k) = zA m c (ix2 r ⟨4096 + k.val, by omega⟩) := by
  refine Eq.trans ?_ (V_v2 m c r k)
  have hi := index2 t
  unfold iblk
  rw [View.read_apply]
  show V m c main_v2 _ = V m c main_v2 _
  congr 1
  funext a
  apply Fin.ext
  match a with
  | ⟨0, _⟩ => show win0_2.index t 0 * 32 + 1 * r.val = r.val; rw [hi.1]; all_goals omega
  | ⟨1, _⟩ => show win0_2.index t 1 * 2048 + 1 * k.val = k.val; rw [hi.2]; omega

theorem iblk3_apply (c : Dev nD) (t : Fin cfg0.N) (k : Fin 2048) : (iblk m c 3 t : Vec Ideal S1x2048 .f32) (ix2 0 k) = gA m c (ix2 0 k) := by
  refine Eq.trans ?_ (V_v16 m c k)
  have hi := index3 t
  unfold iblk
  rw [View.read_apply]
  show V m c main_v16 _ = V m c main_v16 _
  congr 1
  funext a
  apply Fin.ext
  match a with
  | ⟨0, _⟩ => show win0_3.index t 0 * 1 + 1 * 0 = 0; rw [hi.1]; all_goals omega
  | ⟨1, _⟩ => show win0_3.index t 1 * 2048 + 1 * k.val = k.val; rw [hi.2]; omega

theorem iblk4_apply (c : Dev nD) (t : Fin cfg0.N) (k : Fin 2048) : (iblk m c 4 t : Vec Ideal S1x2048 .f32) (ix2 0 k) = wA m c (ix4 0 ⟨k.val / 256, by omega⟩ 0 0) := by
  refine Eq.trans ?_ (V_v10 m c k)
  have hi := index4 t
  unfold iblk
  rw [View.read_apply]
  show V m c main_v10 _ = V m c main_v10 _
  congr 1
  funext a
  apply Fin.ext
  match a with
  | ⟨0, _⟩ => show win0_4.index t 0 * 1 + 1 * 0 = 0; rw [hi.1]; all_goals omega
  | ⟨1, _⟩ => show win0_4.index t 1 * 2048 + 1 * k.val = k.val; rw [hi.2]; omega

theorem iblk5_apply (c : Dev nD) (t : Fin cfg0.N) (k : Fin 2048) : (iblk m c 5 t : Vec Ideal S1x2048 .f32) (ix2 0 k) = bA m c (ix3 0 ⟨k.val / 256, by omega⟩ 0) := by
  refine Eq.trans ?_ (V_v15 m c k)
  have hi := index5 t
  unfold iblk
  rw [View.read_apply]
  show V m c main_v15 _ = V m c main_v15 _
  congr 1
  funext a
  apply Fin.ext
  match a with
  | ⟨0, _⟩ => show win0_5.index t 0 * 1 + 1 * 0 = 0; rw [hi.1]; all_goals omega
  | ⟨1, _⟩ => show win0_5.index t 1 * 2048 + 1 * k.val = k.val; rw [hi.2]; omega

/-- The result arrays: the gated rows, and the normed values. -/
def G6 (c : Dev nD) : Buf (Elt Ideal) ((c : Thread nD τ).loc main_v17_0) := fun j : S32x2048.Idx => outOf (zA m c) (gA m c) (wA m c) (bA m c) (j 0) (j 1)
def G7 (c : Dev nD) : Buf (Elt Ideal) ((c : Thread nD τ).loc main_v17_1) := fun j : S32x2048.Idx => vOf (zA m c) (gA m c) (j 0) (j 1)

theorem out6_apply (c : Dev nD) (t : Fin cfg0.N) (r : Fin 32) (k : Fin 2048) :
    (out0_6 (iblk m c 0 t) (iblk m c 1 t) (iblk m c 2 t) (iblk m c 3 t) (iblk m c 4 t) (iblk m c 5 t) : Vec Ideal S32x2048 .bf16) (ix2 r k) = outOf (zA m c) (gA m c) (wA m c) (bA m c) r k := by
  unfold out0_6 r0_1 r0_0
  rw [View.canon_unit_zero hz]
  simp only [View.ld_unit_zero (S := S32x2048) hz, View.ld_unit_zero (S := S1x2048) hz]
  rw [pay2_apply]
  simp only [iblk0_apply, iblk1_apply, iblk2_apply, iblk3_apply, iblk4_apply, iblk5_apply]
  rfl

theorem out7_apply (c : Dev nD) (t : Fin cfg0.N) (r : Fin 32) (k : Fin 2048) :
    (out0_7 (iblk m c 0 t) (iblk m c 1 t) (iblk m c 2 t) (iblk m c 3 t) (iblk m c 4 t) (iblk m c 5 t) : Vec Ideal S32x2048 .f32) (ix2 r k) = vOf (zA m c) (gA m c) r k := by
  unfold out0_7 r0_1 r0_0
  rw [View.canon_unit_zero hz]
  simp only [View.ld_unit_zero (S := S32x2048) hz, View.ld_unit_zero (S := S1x2048) hz]
  rw [pay1_apply]
  simp only [iblk1_apply, iblk3_apply]
  rfl

theorem flushed6_eq (c : Dev nD) (t : Fin cfg0.N) (_ : (cfg0.win 6).flush t = true) :
    (dats m 0 c).flushed 6 t = ((cfg0.win 6).blk t).view.read (Elt Ideal) (G6 m c) := by
  have hi := index6 t
  have ho := out6_apply m c t
  rw [Value.flushed6]
  generalize out0_6 (iblk m c 0 t) (iblk m c 1 t) (iblk m c 2 t) (iblk m c 3 t) (iblk m c 4 t) (iblk m c 5 t) = o at ho
  funext j
  rw [View.read_apply]
  have hj : o j = outOf (zA m c) (gA m c) (wA m c) (bA m c) (j 0) (j 1) := (congrArg o (eq_ix2 (n0 := 32) (n1 := 2048) j)).trans (ho (j 0) (j 1))
  refine hj.trans ?_
  unfold G6
  refine congrArg₂ (outOf (zA m c) (gA m c) (wA m c) (bA m c)) (Fin.ext ?_) (Fin.ext ?_)
  · show (j 0).val = win0_6.index t 0 * 32 + 1 * (j 0).val; rw [hi.1]; omega
  · show (j 1).val = win0_6.index t 1 * 2048 + 1 * (j 1).val; rw [hi.2]; omega

theorem cover6 (i : S32x2048.Idx) : ∃ t : Fin cfg0.N, (cfg0.win 6).flush t = true ∧ i ∈ ((cfg0.win 6).blk t).view.set := by
  have h0 : (i 0 : Nat) < 32 := (i 0).isLt
  have h1 : (i 1 : Nat) < 2048 := (i 1).isLt
  have hi := index6 t0_0
  refine ⟨t0_0, flush0_6 t0_0, ?_⟩
  show i ∈ ((View.whole main_v17_0).slice (win0_6.rect t0_0)).set
  rw [View.set_slice_whole, Rect.mem_set_unit]
  intro a
  match a with
  | ⟨0, _⟩ => show win0_6.index t0_0 0 * 32 ≤ (i 0).val ∧ (i 0).val < win0_6.index t0_0 0 * 32 + 32; rw [hi.1]; omega
  | ⟨1, _⟩ => show win0_6.index t0_0 1 * 2048 ≤ (i 1).val ∧ (i 1).val < win0_6.index t0_0 1 * 2048 + 2048; rw [hi.2]; omega

theorem final6 (c : Dev nD) : (dats m 0 c).arrAt 6 cfg0.N = G6 m c := (dats m 0 c).arrAt_eq_of_cover 6 (G6 m c) (flushed6_eq m c) cover6

theorem flushed7_eq (c : Dev nD) (t : Fin cfg0.N) (_ : (cfg0.win 7).flush t = true) :
    (dats m 0 c).flushed 7 t = ((cfg0.win 7).blk t).view.read (Elt Ideal) (G7 m c) := by
  have hi := index7 t
  have ho := out7_apply m c t
  rw [Value.flushed7]
  generalize out0_7 (iblk m c 0 t) (iblk m c 1 t) (iblk m c 2 t) (iblk m c 3 t) (iblk m c 4 t) (iblk m c 5 t) = o at ho
  funext j
  rw [View.read_apply]
  have hj : o j = vOf (zA m c) (gA m c) (j 0) (j 1) := (congrArg o (eq_ix2 (n0 := 32) (n1 := 2048) j)).trans (ho (j 0) (j 1))
  refine hj.trans ?_
  unfold G7
  refine congrArg₂ (vOf (zA m c) (gA m c)) (Fin.ext ?_) (Fin.ext ?_)
  · show (j 0).val = win0_7.index t 0 * 32 + 1 * (j 0).val; rw [hi.1]; omega
  · show (j 1).val = win0_7.index t 1 * 2048 + 1 * (j 1).val; rw [hi.2]; omega

theorem cover7 (i : S32x2048.Idx) : ∃ t : Fin cfg0.N, (cfg0.win 7).flush t = true ∧ i ∈ ((cfg0.win 7).blk t).view.set := by
  have h0 : (i 0 : Nat) < 32 := (i 0).isLt
  have h1 : (i 1 : Nat) < 2048 := (i 1).isLt
  have hi := index7 t0_0
  refine ⟨t0_0, flush0_7 t0_0, ?_⟩
  show i ∈ ((View.whole main_v17_1).slice (win0_7.rect t0_0)).set
  rw [View.set_slice_whole, Rect.mem_set_unit]
  intro a
  match a with
  | ⟨0, _⟩ => show win0_7.index t0_0 0 * 32 ≤ (i 0).val ∧ (i 0).val < win0_7.index t0_0 0 * 32 + 32; rw [hi.1]; omega
  | ⟨1, _⟩ => show win0_7.index t0_0 1 * 2048 ≤ (i 1).val ∧ (i 1).val < win0_7.index t0_0 1 * 2048 + 2048; rw [hi.2]; omega

theorem final7 (c : Dev nD) : (dats m 0 c).arrAt 7 cfg0.N = G7 m c := (dats m 0 c).arrAt_eq_of_cover 7 (G7 m c) (flushed7_eq m c) cover7

end Kernel

end Cert.GateRow
-- ==== Proof.GateRow.Tie.lean ====
/-
  The sample's spatial gate: the reference's padded chunk of one row comes to the kernel's single product.
-/
module

public import proofs.«01_k».proof.Defs
public import proofs.«01_k».proof.Proof.GateRow.Value
public import proofs.«01_k».proof.Proof.Gen.Reference5Ideal.Run
public import proofs.«01_k».proof.Proof.Gen.Reference5Ideal.Read
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.GateRow

section Reference

open Cert.Reference5Ideal Cert.Reference5Ideal.Read

variable (z : Vec Ideal S32x6144 .f32) (vg : Vec Ideal S1x2048 .f32) (ws : Vec Ideal S1x8x128x128 .f32) (b : Vec Ideal S1x8x128 .f32)

theorem v_eq (R : Fin 32) (C : Fin 2048) : val_main_v17 (F := Ideal) z vg (ix3 R 0 C) = vOf z vg R C := by
  pointwise [vOf, normed, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]

/-- Row 0 of the mask keeps no column after column 0. -/
theorem masked : ∀ x : Fin 127, IntOp.cmpi CmpIPredicate.sge (IntOp.addi 0#32 0#32) (BitVec.ofNat 32 (1 + x.val)) = 0#1 := by decide +kernel

theorem masked_term (x : Fin 127) (v w : EReal) :
    v * Scalar.select (Scalar.select (IntOp.cmpi CmpIPredicate.sge (IntOp.addi 0#32 0#32) (BitVec.ofNat 32 (1 + x.val))) 1#1 0#1) w (FloatOps.sitofp (F := Ideal) FTy.f32 0#32) = 0 := by
  have h0 : (FloatOps.sitofp (F := Ideal) FTy.f32 0#32 : EReal) = 0 := sitofp_zero
  rw [masked x, h0]
  exact mul_zero v

theorem mixed_eq (R : Fin 32) (h : Fin 8) (c : Fin 256) : val_main_v31 (F := Ideal) z vg ws b (ix5 R 0 0 h c)
    = ws (ix4 0 h 0 0) * vOf z vg R ⟨h.val * 256 + c.val, by omega⟩ + b (ix3 0 h 0) := by
  pointwise [val_main_v31, val_main_v30, val_main_v29, val_main_v28, val_main_v27, val_main_v26, val_main_v25, val_main_v24, val_main_call2_v2, val_main_call2_v1, val_main_call2_v0, val_main_c_3, val_main_v23, val_main_call1_v5, val_main_call1_c_0, val_main_call1_v4, val_main_call1_v3, val_main_call1_v2, val_main_call1_v1, val_main_call1_c, val_main_call1_v0, val_main_v22, val_main_c_2, val_main_v21, val_main_v20, val_main_call0_v0, val_main_c, val_main_v19, val_main_v18]
  have hlt : h.val * 256 + c.val < 2048 := by omega
  rw [Finset.sum_eq_zero fun x _ => masked_term x _ _, add_zero, Fin.sum_univ_one, dif_pos hlt, v_eq]
  exact congrArg (· + _) (mul_comm _ _)

theorem ref_apply (R : Fin 32) (C : Fin 2048) : val_main_v38 (F := Ideal) z vg ws b (ix2 R C) = outOf z vg ws b R C := by
  pointwise [val_main_v38, val_main_v37, val_main_v36, val_main_v35, val_main_call3_v5, val_main_call3_v4, val_main_call3_cst_0, val_main_call3_v3, val_main_call3_v2, val_main_call3_cst, val_main_call3_v1, val_main_call3_v0, val_main_v34, val_main_v33, val_main_v32, val_main_v2, val_main_v4, val_main_v0]
  rw [mixed_eq]
  unfold outOf Ideal.logistic
  have e : (⟨C.val / 256 * 256 + C.val % 256, by omega⟩ : Fin 2048) = C := Fin.ext (by dsimp only; omega)
  simp only [e]
  have e1 : val_main_v1 (F := Ideal) z (ix3 R 0 C) = z (ix2 R ⟨C.val, by omega⟩) := by pointwise [val_main_v1, val_main_v0]
  have e3 : val_main_v3 (F := Ideal) z (ix3 R 0 C) = z (ix2 R ⟨4096 + C.val, by omega⟩) := by pointwise [val_main_v3, val_main_v0]
  rw [e1, e3]

theorem ref_row (R : Fin 32) (C : Fin 2048) : val_main_v39 (F := Ideal) z vg (ix2 R C) = vOf z vg R C := by
  pointwise [val_main_v39]
  exact v_eq z vg R C

end Reference

open Cert.Kernel5Ideal Cert.Kernel5Ideal.Gen

/-- The sample's spatial gate is the reference's at every launch. -/
theorem algebraic : Cert.algebraic_Kernel5Ideal_Reference5Ideal := by
  intro m g m' g' _ hagree
  refine ⟨fun c => G6 m c, fun c => G7 m c, ?_, ?_⟩
  · refine (θ_run _ _ _).mono (fun r h c => ?_) (Cert.Kernel5Ideal.Value.run_blocks (F := Ideal) m g)
    obtain ⟨h6, h7, ha⟩ := h c
    exact ⟨h6.trans (final6 m c), h7.trans (final7 m c), ha⟩
  · refine (θ_run _ _ _).mono (fun r h c => ?_) (Cert.Reference5Ideal.Value.run (F := Ideal) m' g')
    obtain ⟨h6, h7, ha⟩ := h c
    obtain ⟨e0, e1, e2, e3⟩ := hagree c
    refine ⟨?_, ?_, ha⟩
    · funext i
      obtain ⟨R, C, rfl⟩ : ∃ (R : Fin 32) (C : Fin 2048), i = ix2 R C := ⟨i 0, i 1, eq_ix2 i⟩
      rw [h6, Cert.Reference5Ideal.Read.val_main_v38_eq, e0, e1, e2, e3]
      exact ref_apply _ _ _ _ R C
    · funext i
      obtain ⟨R, C, rfl⟩ : ∃ (R : Fin 32) (C : Fin 2048), i = ix2 R C := ⟨i 0, i 1, eq_ix2 i⟩
      rw [h7, Cert.Reference5Ideal.Read.val_main_v39_eq, e0, e1]
      exact ref_row _ _ R C

end Cert.GateRow
-- ==== Proof.InProjRow.Block.lean ====
/-
  The sample's input projection: what a grid point leaves in its three output blocks and in its scratch.
-/
module

public import proofs.«01_k».proof.Proof.InProj.Array
public import proofs.«01_k».proof.Proof.Gen.Kernel6Ideal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRow

open Cert.Kernel6Ideal Cert.Kernel6Ideal.Gen
open Cert.KernelIdeal.InProj (hd scale normed hdOf bitOf hz)

variable {F : FTy → Type} [FloatOps F]

/-- Columns `o … o+127` of the rows, each row scaled by one over its root mean square where the bit is set. -/
def head (b : BitVec 1) (z : FVec F S32x1024 .f32) (o : Nat) (h : S32x1024.Slices ![0, o] S32x128) : FVec F S32x128 .f32 :=
  mulf (extractStridedSlice S32x128 ![0, o] z h)
    (broadcastTo S32x128
      (Scalar.select b
        (rsqrt (addf
          (divf (shapeCast S32x1 (multiReduction .add [1] S32
              (mulf (extractStridedSlice S32x128 ![0, o] z h) (extractStridedSlice S32x128 ![0, o] z h))
              0x00000000#32 reduces_S32x128_S32 (.inl rfl) rfl) shapeCasts_S32_S32x1)
            (broadcast S32x1 (Scalar.ofBits .f32 0x43000000#32)))
          (broadcast S32x1 (Scalar.ofBits .f32 0x358637BD#32))))
        (broadcast S32x1 (Scalar.ofBits .f32 0x3F800000#32)))
      broadcasts_S32x1_S32x128)

/-- The eight heads of the rows side by side, times the row of column gains. -/
def chunk (b : BitVec 1) (z : FVec F S32x1024 .f32) (g : Vec F S1x1024 .f32) : FVec F S32x1024 .f32 :=
  mulf (concatenate S32x1024 1
      [⟨S32x128, head b z 0 slices_S32x1024_o0_0_S32x128⟩, ⟨S32x128, head b z 128 slices_S32x1024_o0_128_S32x128⟩,
       ⟨S32x128, head b z 256 slices_S32x1024_o0_256_S32x128⟩, ⟨S32x128, head b z 384 slices_S32x1024_o0_384_S32x128⟩,
       ⟨S32x128, head b z 512 slices_S32x1024_o0_512_S32x128⟩, ⟨S32x128, head b z 640 slices_S32x1024_o0_640_S32x128⟩,
       ⟨S32x128, head b z 768 slices_S32x1024_o0_768_S32x128⟩, ⟨S32x128, head b z 896 slices_S32x1024_o0_896_S32x128⟩]
      concatenates_S32x128_S32x128_S32x128_S32x128_S32x128_S32x128_S32x128_S32x128_S32x1024_d1)
    (broadcastTo S32x1024 (shapeCast S1x1024 g shapeCasts_S1x1024_S1x1024) broadcasts_S1x1024_S32x1024)

/-- The product of the rows with the rounded block of weights. -/
def prod (w : Vec F S2048x1024 .f32) (h : Vec F S32x2048 .bf16) : FVec F S32x1024 .f32 :=
  matmul dot_S32x2048_S2048x1024_S32x1024_1_0_0_1_n_n none h (truncf .bf16 (shapeCast S2048x1024 w shapeCasts_S2048x1024_S2048x1024) bitsLt_bf16_f32)
    (constant S32x1024 .f32 0x00000000#32)

/-- The bit that says column block `j` is one of those whose heads are normalised. -/
def bit (i : grid0.Coords) : BitVec 1 := Scalar.cmpi .slt (BitVec.ofNat 32 (i 1).val) 2#32

theorem hbit (i : grid0.Coords) : Scalar.cmpi .slt (BitVec.ofNat 32 (i 1).val) 2#32 = bit i := rfl

/-- A load from a buffer whose one covering store put `w` there loads from `w`. -/
theorem readCov_whole {S : Shape} {e : EltTy} {κ : Kind} {sp : Space} (v : View sig κ sp S e) {off : Fin S.rank → Nat} (h : off = fun _ => 0)
    (inb : ∀ a, off a + S.size a ≤ S.size a) (w : S.Idx → Elt F e) (R : Rect S) :
    v.readCov (Val := Elt F) [⟨Rect.unit off S.size inb, w⟩] R = View.ld w R := by
  rw [View.readCov_eq_canon_ld _ _ _ (fun y => ⟨_, List.mem_singleton_self _, View.mem_set_unit_zero h inb y⟩), View.canon_unit_zero h]

theorem head_apply (b : BitVec 1) (z : FVec Ideal S32x1024 .f32) (o : Nat) (h) (r : Fin 32) (l : Fin 128) (c : Fin 1024)
    (hc : c.val = o + l.val) (ho : c.val / 128 * 128 = o) :
    head b z o h (ix2 r l) = z (ix2 r c) * scale b fun x => z (ix2 r (hd c x)) := by
  subst ho
  have hl : (⟨c.val / 128 * 128 + l.val, by have := c.isLt; omega⟩ : Fin 1024) = c := Fin.ext hc.symm
  pointwise [head, scale]
  rw [hl]
  rfl

theorem chunk_apply (b : BitVec 1) (z : FVec Ideal S32x1024 .f32) (g : Vec Ideal S1x1024 .f32) (r : Fin 32) (c : Fin 1024) :
    chunk b z g (ix2 r c) = z (ix2 r c) * (scale b fun x => z (ix2 r (hd c x))) * g (ix2 0 c) := by
  have := c.isLt
  pointwise [chunk]
  refine congrArg (· * g (ix2 0 c)) ?_
  split_ifs <;> exact head_apply b z _ _ r _ c (by dsimp only; omega) (by omega)

theorem prod_apply (w : Vec Ideal S2048x1024 .f32) (h : Vec Ideal S32x2048 .bf16) (r : Fin 32) (c : Fin 1024) :
    prod w h (ix2 r c) = ∑ k : Fin 2048, h (ix2 r k) * w (ix2 k c) := by
  pointwise [prod]

theorem pay3_apply (x : Vec Ideal S32x2048 .f32) (g : Vec Ideal S1x2048 .f32) (r : Fin 32) (k : Fin 2048) :
    k0_pay3 x g (ix2 r k) = normed (fun l => x (ix2 r l)) (fun l => g (ix2 0 l)) k := by
  pointwise [k0_pay3, normed]

theorem pay4_apply (w : Vec Ideal S2048x1024 .f32) (k : Fin 2048) (c : Fin 1024) : k0_pay4 w (ix2 k c) = w (ix2 k c) := by
  pointwise [k0_pay4]

theorem chunk_0 (i : grid0.Coords) (w : Vec F S2048x1024 .f32) (h : Vec F S32x2048 .bf16) (g : Vec F S1x1024 .f32) :
    k0_pay1 (k0_pay5 w h) (bit i) (k0_pay6 i w h) (k0_pay7 i w h) (k0_pay10 (bit i) (k0_pay8 w h) (k0_pay9 w h)) (k0_pay11 (k0_pay5 w h) (bit i)) (k0_pay12 (k0_pay5 w h) (bit i)) (k0_pay13 (k0_pay5 w h)) (k0_pay14 (k0_pay5 w h)) g
      = chunk (bit i) (prod w h) g := by
  simp only [k0_pay1, k0_pay4, k0_pay5, k0_pay6, k0_pay7, k0_pay8, k0_pay9, k0_pay10, k0_pay11, k0_pay12, k0_pay13, k0_pay14, chunk, head, prod, bit]

theorem chunkB_0 (i : grid0.Coords) (w : Vec F S2048x1024 .f32) (h : Vec F S32x2048 .bf16) (g : Vec F S1x1024 .f32) :
    k0_pay2 (k0_pay5 w h) (bit i) (k0_pay6 i w h) (k0_pay7 i w h) (k0_pay10 (bit i) (k0_pay8 w h) (k0_pay9 w h)) (k0_pay11 (k0_pay5 w h) (bit i)) (k0_pay12 (k0_pay5 w h) (bit i)) (k0_pay13 (k0_pay5 w h)) (k0_pay14 (k0_pay5 w h)) g
      = truncf .bf16 (chunk (bit i) (prod w h) g) bitsLt_bf16_f32 := by
  rw [← chunk_0]
  rfl

set_option maxHeartbeats 1000000 in
theorem out_B_4 (c : Dev nD) (i : grid0.Coords) (a2 h2 a3 h3 a4 h4 a5 h5 a6 h6 a7 h7 a8 h8 a9 h9) (hc : ¬cond0_0 i) (x0 x1 x2 x3 xs0) :
    out0_B_4 (F := F) c i a2 h2 a3 h3 a4 h4 a5 h5 a6 h6 a7 h7 a8 h8 a9 h9 hc x0 x1 x2 x3 xs0 = chunk (bit i) (prod x2 xs0) x3 := by
  unfold out0_B_4
  rw [View.read_writes_eq_canon _ _ _ (cover0_B_4 c i a2 h2 a3 h3 a4 h4 a5 h5 a6 h6 a7 h7 a8 h8 a9 h9 hc x0 x1 x2 x3 xs0)]
  unfold kernelRun0_B
  dsimp only
  sl_unfold_words
  rw [View.canon_unit_zero hz]
  simp only [View.readAt_eq_ld, h4.read_unread, h5.read_unread, h9.read_unread, View.ld_unit_zero (S := S2048x1024) hz, View.ld_unit_zero (S := S1x1024) hz, View.ld_unit_zero (S := S32x2048) hz, View.ld_unit_zero (S := S1x2048) hz]
  simp only [hbit]
  rw [chunk_0]

set_option maxHeartbeats 1000000 in
theorem out_B_5 (c : Dev nD) (i : grid0.Coords) (a2 h2 a3 h3 a4 h4 a5 h5 a6 h6 a7 h7 a8 h8 a9 h9) (hc : ¬cond0_0 i) (x0 x1 x2 x3 xs0) :
    out0_B_5 (F := F) c i a2 h2 a3 h3 a4 h4 a5 h5 a6 h6 a7 h7 a8 h8 a9 h9 hc x0 x1 x2 x3 xs0 = truncf .bf16 (chunk (bit i) (prod x2 xs0) x3) bitsLt_bf16_f32 := by
  unfold out0_B_5
  rw [View.read_writes_eq_canon _ _ _ (cover0_B_5 c i a2 h2 a3 h3 a4 h4 a5 h5 a6 h6 a7 h7 a8 h8 a9 h9 hc x0 x1 x2 x3 xs0)]
  unfold kernelRun0_B
  dsimp only
  sl_unfold_words
  rw [View.canon_unit_zero hz]
  simp only [View.readAt_eq_ld, h4.read_unread, h5.read_unread, h9.read_unread, View.ld_unit_zero (S := S2048x1024) hz, View.ld_unit_zero (S := S1x1024) hz, View.ld_unit_zero (S := S32x2048) hz, View.ld_unit_zero (S := S1x2048) hz]
  simp only [hbit]
  rw [chunkB_0]

set_option maxHeartbeats 1000000 in
theorem out_B_6 (c : Dev nD) (i : grid0.Coords) (a2 h2 a3 h3 a4 h4 a5 h5 a6 h6 a7 h7 a8 h8 a9 h9) (hc : ¬cond0_0 i) (x0 x1 x2 x3 xs0) :
    out0_B_6 (F := F) c i a2 h2 a3 h3 a4 h4 a5 h5 a6 h6 a7 h7 a8 h8 a9 h9 hc x0 x1 x2 x3 xs0 = k0_pay4 x2 := by
  unfold out0_B_6
  rw [View.read_writes_eq_canon _ _ _ (cover0_B_6 c i a2 h2 a3 h3 a4 h4 a5 h5 a6 h6 a7 h7 a8 h8 a9 h9 hc x0 x1 x2 x3 xs0)]
  unfold kernelRun0_B
  dsimp only
  sl_unfold_words
  rw [View.canon_unit_zero hz]
  simp only [View.readAt_eq_ld, h4.read_unread, h5.read_unread, h9.read_unread, View.ld_unit_zero (S := S2048x1024) hz, View.ld_unit_zero (S := S1x1024) hz, View.ld_unit_zero (S := S32x2048) hz, View.ld_unit_zero (S := S1x2048) hz]

set_option maxHeartbeats 1000000 in
theorem out_A_4 (c : Dev nD) (i : grid0.Coords) (a2 h2 a3 h3 a4 h4 a5 h5 a6 h6 a7 h7 a8 h8 a9 h9) (hc : cond0_0 i) (x0 x1 x2 x3) :
    out0_A_4 (F := F) c i a2 h2 a3 h3 a4 h4 a5 h5 a6 h6 a7 h7 a8 h8 a9 h9 hc x0 x1 x2 x3 = chunk (bit i) (prod x2 (k0_pay3 x0 x1)) x3 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S2048x1024) hz, View.ld_unit_zero (S := S1x1024) hz, View.ld_unit_zero (S := S32x2048) hz, View.ld_unit_zero (S := S1x2048) hz]
  have hld : ∀ (w : Vec F S32x2048 .bf16) (R : Rect S32x2048), a9.view.readCov (Val := Elt F) [⟨Rect.unit ![0, 0] ![32, 2048] inb_S32x2048_S32x2048_0_0, w⟩] R = View.ld w R := fun w R =>
    readCov_whole (S := S32x2048) a9.view hz inb_S32x2048_S32x2048_0_0 w R
  simp only [hld, View.ld_unit_zero (S := S32x2048) hz]
  simp only [hbit]
  rw [chunk_0]

set_option maxHeartbeats 1000000 in
theorem out_A_5 (c : Dev nD) (i : grid0.Coords) (a2 h2 a3 h3 a4 h4 a5 h5 a6 h6 a7 h7 a8 h8 a9 h9) (hc : cond0_0 i) (x0 x1 x2 x3) :
    out0_A_5 (F := F) c i a2 h2 a3 h3 a4 h4 a5 h5 a6 h6 a7 h7 a8 h8 a9 h9 hc x0 x1 x2 x3 = truncf .bf16 (chunk (bit i) (prod x2 (k0_pay3 x0 x1)) x3) bitsLt_bf16_f32 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S2048x1024) hz, View.ld_unit_zero (S := S1x1024) hz, View.ld_unit_zero (S := S32x2048) hz, View.ld_unit_zero (S := S1x2048) hz]
  have hld : ∀ (w : Vec F S32x2048 .bf16) (R : Rect S32x2048), a9.view.readCov (Val := Elt F) [⟨Rect.unit ![0, 0] ![32, 2048] inb_S32x2048_S32x2048_0_0, w⟩] R = View.ld w R := fun w R =>
    readCov_whole (S := S32x2048) a9.view hz inb_S32x2048_S32x2048_0_0 w R
  simp only [hld, View.ld_unit_zero (S := S32x2048) hz]
  simp only [hbit]
  rw [chunkB_0]

set_option maxHeartbeats 1000000 in
theorem out_A_6 (c : Dev nD) (i : grid0.Coords) (a2 h2 a3 h3 a4 h4 a5 h5 a6 h6 a7 h7 a8 h8 a9 h9) (hc : cond0_0 i) (x0 x1 x2 x3) :
    out0_A_6 (F := F) c i a2 h2 a3 h3 a4 h4 a5 h5 a6 h6 a7 h7 a8 h8 a9 h9 hc x0 x1 x2 x3 = k0_pay4 x2 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S2048x1024) hz, View.ld_unit_zero (S := S1x1024) hz, View.ld_unit_zero (S := S32x2048) hz, View.ld_unit_zero (S := S1x2048) hz]

/-- What the first point leaves in the scratch: the normalised rows. -/
theorem sout_A (c : Dev nD) (i : grid0.Coords) (a2 h2 a3 h3 a4 h4 a5 h5 a6 h6 a7 h7 a8 h8 a9 h9) (hc : cond0_0 i) (x0 x1 x2 x3) :
    sout0_A_0 (F := F) c i a2 h2 a3 h3 a4 h4 a5 h5 a6 h6 a7 h7 a8 h8 a9 h9 hc x0 x1 x2 x3 = k0_pay3 x0 x1 := by
  unfold sout0_A_0
  rw [View.read_writes_eq_canon _ _ _ (scover0_A_0 c i a2 h2 a3 h3 a4 h4 a5 h5 a6 h6 a7 h7 a8 h8 a9 h9 hc x0 x1 x2 x3)]
  unfold kernelRun0_A
  dsimp only
  sl_unfold_words
  rw [View.canon_unit_zero hz]
  simp only [View.readAt_eq_ld, h2.read_unread, h3.read_unread, View.ld_unit_zero (S := S32x2048) hz, View.ld_unit_zero (S := S1x2048) hz]

end Cert.InProjRow
-- ==== Proof.InProjRow.Array.lean ====
/-
  The three result arrays of the sample's input projection, element by element, from the arrays its windows read.
-/
module

public import proofs.«01_k».proof.Proof.InProjRow.Block
public import proofs.«01_k».proof.Proof.Gen.Kernel6Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRow

open Cert.Kernel6Ideal Cert.Kernel6Ideal.Gen
open Cert.KernelIdeal.InProj (hd scale normed hdOf bitOf hz)

variable (m : (ℓ : Loc nD τ sig) → Buf (Elt Ideal) ℓ)

/-- The activations, the gain, the weights and the column gains as the windows read them. -/
abbrev xA (c : Dev nD) : Vec Ideal S32x2048 .f32 := V m c main_v12
abbrev gA (c : Dev nD) : Vec Ideal S1x2048 .f32 := V m c main_v16
abbrev wA (c : Dev nD) : Vec Ideal S2048x6144 .f32 := V m c main_v15
abbrev cA (c : Dev nD) : Vec Ideal S1x6144 .f32 := V m c main_v17

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = t.val % 6 := (by decide +kernel : ∀ t : Fin grid0.N, win0_2.index t 0 = 0 ∧ win0_2.index t 1 = t.val % 6)
theorem index3 : ∀ t : Fin cfg0.N, win0_3.index t 0 = 0 ∧ win0_3.index t 1 = t.val % 6 := (by decide +kernel : ∀ t : Fin grid0.N, win0_3.index t 0 = 0 ∧ win0_3.index t 1 = t.val % 6)
theorem index4 : ∀ t : Fin cfg0.N, win0_4.index t 0 = 0 ∧ win0_4.index t 1 = t.val % 6 := (by decide +kernel : ∀ t : Fin grid0.N, win0_4.index t 0 = 0 ∧ win0_4.index t 1 = t.val % 6)
theorem index5 : ∀ t : Fin cfg0.N, win0_5.index t 0 = 0 ∧ win0_5.index t 1 = min (t.val % 6) 3 := (by decide +kernel : ∀ t : Fin grid0.N, win0_5.index t 0 = 0 ∧ win0_5.index t 1 = min (t.val % 6) 3)
theorem index6 : ∀ t : Fin cfg0.N, win0_6.index t 0 = 0 ∧ win0_6.index t 1 = t.val % 6 := (by decide +kernel : ∀ t : Fin grid0.N, win0_6.index t 0 = 0 ∧ win0_6.index t 1 = t.val % 6)
theorem flush5 : ∀ t : Fin cfg0.N, (cfg0.win 5).flush t = true ↔ (t.val % 6 < 3 ∨ t.val % 6 = 5) := (by decide +kernel : ∀ t : Fin grid0.N, (cfg0.win 5).flush t = true ↔ (t.val % 6 < 3 ∨ t.val % 6 = 5))
theorem coord1 : ∀ t : Fin cfg0.N, (grid0.coords t 1).val = t.val % 6 := (by decide +kernel : ∀ t : Fin grid0.N, (grid0.coords t 1).val = t.val % 6)

/-- Column `x` of the point's column block, as a column of the whole array. -/
def colOf (t : Fin cfg0.N) (x : Fin 1024) : Fin 6144 := ⟨t.val % 6 * 1024 + x.val, by have := x.isLt; omega⟩

theorem iblk0_apply (c : Dev nD) (t : Fin cfg0.N) (r : Fin 32) (k : Fin 2048) : (iblk m c 0 t : Vec Ideal S32x2048 .f32) (ix2 r k) = xA m c (ix2 r k) := by
  have hi := index0 t
  unfold iblk
  rw [View.read_apply]
  show V m c main_v12 _ = V m c main_v12 _
  congr 1
  funext a
  apply Fin.ext
  match a with
  | ⟨0, _⟩ => show win0_0.index t 0 * 32 + 1 * r.val = r.val; rw [hi.1]; all_goals omega
  | ⟨1, _⟩ => show win0_0.index t 1 * 2048 + 1 * k.val = k.val; rw [hi.2]; omega

theorem iblk1_apply (c : Dev nD) (t : Fin cfg0.N) (k : Fin 2048) : (iblk m c 1 t : Vec Ideal S1x2048 .f32) (ix2 0 k) = gA m c (ix2 0 k) := by
  have hi := index1 t
  unfold iblk
  rw [View.read_apply]
  show V m c main_v16 _ = V m c main_v16 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem iblk2_apply (c : Dev nD) (t : Fin cfg0.N) (k : Fin 2048) (x : Fin 1024) : (iblk m c 2 t : Vec Ideal S2048x1024 .f32) (ix2 k x) = wA m c (ix2 k (colOf t x)) := by
  have hi := index2 t
  unfold iblk
  rw [View.read_apply]
  show V m c main_v15 _ = V m c main_v15 _
  congr 1
  funext a
  apply Fin.ext
  match a with
  | ⟨0, _⟩ => show win0_2.index t 0 * 2048 + 1 * k.val = k.val; rw [hi.1]; all_goals omega
  | ⟨1, _⟩ => show win0_2.index t 1 * 1024 + 1 * x.val = t.val % 6 * 1024 + x.val; rw [hi.2]; omega

theorem iblk3_apply (c : Dev nD) (t : Fin cfg0.N) (x : Fin 1024) : (iblk m c 3 t : Vec Ideal S1x1024 .f32) (ix2 0 x) = cA m c (ix2 0 (colOf t x)) := by
  have hi := index3 t
  unfold iblk
  rw [View.read_apply]
  show V m c main_v17 _ = V m c main_v17 _
  congr 1
  funext a
  apply Fin.ext
  match a with
  | ⟨0, _⟩ => show win0_3.index t 0 * 1 + 1 * 0 = 0; rw [hi.1]
  | ⟨1, _⟩ => show win0_3.index t 1 * 1024 + 1 * x.val = t.val % 6 * 1024 + x.val; rw [hi.2]; omega

/-- The scratch after any point holds the normalised rows. -/
theorem scratch_apply (c : Dev nD) : ∀ (n : ℕ) (hn : n < cfg0.N) (r : Fin 32) (k : Fin 2048),
    (outsAt0 m c n hn).2.2.2 (ix2 r k) = normed (fun l => xA m c (ix2 r l)) (fun l => gA m c (ix2 0 l)) k := by
  intro n
  induction n with
  | zero =>
    intro hn r k
    have h := congrArg (fun p => p.2.2.2 (ix2 r k)) (outsAt0_A m c ⟨0, hn⟩ rfl)
    refine h.trans ?_
    dsimp only
    rw [sout_A, pay3_apply]
    simp only [iblk0_apply, iblk1_apply]
  | succ n ih =>
    intro hn r k
    by_cases h0 : (n + 1) % 6 = 0
    · have h := congrArg (fun p => p.2.2.2 (ix2 r k)) (outsAt0_A m c ⟨n + 1, hn⟩ h0)
      refine h.trans ?_
      dsimp only
      rw [sout_A, pay3_apply]
      simp only [iblk0_apply, iblk1_apply]
    · have h := congrArg (fun p => p.2.2.2 (ix2 r k)) (outsAt0_B m c ⟨n + 1, hn⟩ h0)
      refine h.trans ?_
      dsimp only [sout0_B_0]
      exact ih (Nat.lt_of_succ_lt hn) r k

/-- Element `(R, C)` of the product of the normalised rows with the weights. -/
def zOf (c : Dev nD) (R : Fin 32) (C : Fin 6144) : EReal :=
  ∑ k : Fin 2048, normed (fun l => xA m c (ix2 R l)) (fun l => gA m c (ix2 0 l)) k * wA m c (ix2 k C)

/-- Element `(R, C)` of the projection. -/
def outOf (c : Dev nD) (R : Fin 32) (C : Fin 6144) : EReal :=
  zOf m c R C * (scale (bitOf C) fun x => zOf m c R (hdOf C x)) * cA m c (ix2 0 C)

/-- A point's block is the projection at the block's columns, whichever of the two cases runs. -/
theorem chunk_eq (c : Dev nD) (t : Fin cfg0.N) (h : Vec Ideal S32x2048 .bf16)
    (hh : ∀ r k, h (ix2 r k) = normed (fun l => xA m c (ix2 r l)) (fun l => gA m c (ix2 0 l)) k) (r : Fin 32) (x : Fin 1024) :
    chunk (bit (grid0.coords t)) (prod (iblk m c 2 t) h) (iblk m c 3 t) (ix2 r x) = outOf m c r (colOf t x) := by
  have hzz : ∀ r x, prod (iblk m c 2 t) h (ix2 r x) = zOf m c r (colOf t x) := fun r x => by
    rw [prod_apply]
    unfold zOf
    refine Finset.sum_congr rfl fun k _ => ?_
    rw [hh, iblk2_apply]
  have hb : bit (grid0.coords t) = bitOf (colOf t x) := by
    unfold bit bitOf
    rw [coord1]
    have : (colOf t x).val / 1024 = t.val % 6 := by show (t.val % 6 * 1024 + x.val) / 1024 = _; have := x.isLt; omega
    rw [this]
  have hhd : ∀ y, colOf t (hd x y) = hdOf (colOf t x) y := fun y => Fin.ext (by
    show t.val % 6 * 1024 + (x.val / 128 * 128 + y.val) = (t.val % 6 * 1024 + x.val) / 128 * 128 + y.val
    omega)
  rw [chunk_apply]
  unfold outOf
  simp only [hzz, hhd, hb, iblk3_apply]

/-- The rows the first point makes and stores. -/
theorem first_apply (c : Dev nD) (t : Fin cfg0.N) (r : Fin 32) (k : Fin 2048) :
    k0_pay3 (iblk m c 0 t) (iblk m c 1 t) (ix2 r k) = normed (fun l => xA m c (ix2 r l)) (fun l => gA m c (ix2 0 l)) k := by
  rw [pay3_apply]
  simp only [iblk0_apply, iblk1_apply]

theorem outs4_apply (c : Dev nD) (t : Fin cfg0.N) (r : Fin 32) (x : Fin 1024) :
    (outsAt0 m c t.val t.isLt).1 (ix2 r x) = outOf m c r (colOf t x) := by
  by_cases h0 : t.val % 6 = 0
  · rw [outsAt0_A m c t h0]
    dsimp only
    rw [out_A_4]
    exact chunk_eq m c t _ (first_apply m c t) r x
  · rw [outsAt0_B m c t h0]
    dsimp only
    rw [out_B_4]
    exact chunk_eq m c t _ (scratch_apply m c _ _) r x

theorem outs5_apply (c : Dev nD) (t : Fin cfg0.N) (r : Fin 32) (x : Fin 1024) :
    (outsAt0 m c t.val t.isLt).2.1 (ix2 r x) = outOf m c r (colOf t x) := by
  by_cases h0 : t.val % 6 = 0
  · rw [outsAt0_A m c t h0]
    dsimp only
    rw [out_A_5]
    exact chunk_eq m c t _ (first_apply m c t) r x
  · rw [outsAt0_B m c t h0]
    dsimp only
    rw [out_B_5]
    exact chunk_eq m c t _ (scratch_apply m c _ _) r x

theorem outs6_apply (c : Dev nD) (t : Fin cfg0.N) (k : Fin 2048) (x : Fin 1024) :
    (outsAt0 m c t.val t.isLt).2.2.1 (ix2 k x) = wA m c (ix2 k (colOf t x)) := by
  by_cases h0 : t.val % 6 = 0
  · rw [outsAt0_A m c t h0]
    dsimp only
    rw [out_A_6, pay4_apply, iblk2_apply]
  · rw [outsAt0_B m c t h0]
    dsimp only
    rw [out_B_6, pay4_apply, iblk2_apply]

/-- The first result. -/
def G4 (c : Dev nD) : Buf (Elt Ideal) ((c : Thread nD τ).loc main_v18_0) := fun j : S32x6144.Idx => outOf m c (j 0) (j 1)

/-- The second result: its last column block holds what the last point wrote. -/
def G5 (c : Dev nD) : Buf (Elt Ideal) ((c : Thread nD τ).loc main_v18_1) := fun j : S32x4096.Idx =>
  outOf m c (j 0) (if (j 1).val < 3072 then ⟨(j 1).val, by have : (j 1).val < 4096 := (j 1).isLt; omega⟩ else ⟨(j 1).val + 2048, by have : (j 1).val < 4096 := (j 1).isLt; omega⟩)

/-- The third result: the weights. -/
def G6 (c : Dev nD) : Buf (Elt Ideal) ((c : Thread nD τ).loc main_v18_2) := fun j : S2048x6144.Idx => wA m c (ix2 (j 0) (j 1))

theorem G5_lt (c : Dev nD) (R : Fin 32) (C : Fin 4096) (h : C.val < 3072) : (G5 m c : Vec Ideal S32x4096 .bf16) (ix2 R C) = outOf m c R ⟨C.val, by omega⟩ := by
  show outOf m c R (if C.val < 3072 then _ else _) = _
  rw [if_pos h]
  rfl

theorem flushed4_eq (c : Dev nD) (t : Fin cfg0.N) (_ : (cfg0.win 4).flush t = true) :
    (dats m 0 c).flushed 4 t = ((cfg0.win 4).blk t).view.read (Elt Ideal) (G4 m c) := by
  have hi := index4 t
  have ho := outs4_apply m c t
  rw [Value.flushed4]
  generalize (outsAt0 m c t.val t.isLt).1 = o at ho
  funext j
  rw [View.read_apply]
  have hj := (congrArg o (eq_ix2 (n0 := 32) (n1 := 1024) j)).trans (ho (j 0) (j 1))
  refine hj.trans ?_
  unfold G4
  refine congrArg₂ (outOf m c) (Fin.ext ?_) (Fin.ext ?_)
  · show (j 0).val = win0_4.index t 0 * 32 + 1 * (j 0).val; rw [hi.1]; omega
  · show t.val % 6 * 1024 + (j 1).val = win0_4.index t 1 * 1024 + 1 * (j 1).val; rw [hi.2]; omega

theorem flushed6_eq (c : Dev nD) (t : Fin cfg0.N) (_ : (cfg0.win 6).flush t = true) :
    (dats m 0 c).flushed 6 t = ((cfg0.win 6).blk t).view.read (Elt Ideal) (G6 m c) := by
  have hi := index6 t
  have ho := outs6_apply m c t
  rw [Value.flushed6]
  generalize (outsAt0 m c t.val t.isLt).2.2.1 = o at ho
  funext j
  rw [View.read_apply]
  have hj := (congrArg o (eq_ix2 (n0 := 2048) (n1 := 1024) j)).trans (ho (j 0) (j 1))
  refine hj.trans ?_
  unfold G6
  refine congrArg₂ (fun R C => wA m c (ix2 R C)) (Fin.ext ?_) (Fin.ext ?_)
  · show (j 0).val = win0_6.index t 0 * 2048 + 1 * (j 0).val; rw [hi.1]; omega
  · show t.val % 6 * 1024 + (j 1).val = win0_6.index t 1 * 1024 + 1 * (j 1).val; rw [hi.2]; omega

theorem flushed5_eq (c : Dev nD) (t : Fin cfg0.N) (hf : (cfg0.win 5).flush t = true) :
    (dats m 0 c).flushed 5 t = ((cfg0.win 5).blk t).view.read (Elt Ideal) (G5 m c) := by
  have hi := index5 t
  have h5 := (flush5 t).mp hf
  have ho := outs5_apply m c t
  rw [Value.flushed5]
  generalize (outsAt0 m c t.val t.isLt).2.1 = o at ho
  funext j
  rw [View.read_apply]
  have hj : o j = outOf m c (j 0) (colOf t (j 1)) := (congrArg o (eq_ix2 (n0 := 32) (n1 := 1024) j)).trans (ho (j 0) (j 1))
  refine hj.trans ?_
  have hx : (j 1).val < 1024 := (j 1).isLt
  unfold G5
  have hc : ((((cfg0.win 5).blk t).view.emb j) (1 : Fin 2)).val = min (t.val % 6) 3 * 1024 + (j 1).val := by
    show win0_5.index t 1 * 1024 + 1 * (j 1).val = _; rw [hi.2]; omega
  refine congrArg₂ (outOf m c) (Fin.ext ?_) (Fin.ext ?_)
  · show (j 0).val = win0_5.index t 0 * 32 + 1 * (j 0).val; rw [hi.1]; omega
  · rcases h5 with h | h
    · rw [if_pos (by rw [hc]; omega)]
      show t.val % 6 * 1024 + (j 1).val = _
      rw [hc]; omega
    · rw [if_neg (by rw [hc]; omega)]
      show t.val % 6 * 1024 + (j 1).val = _ + 2048
      rw [hc]; omega

theorem cover4 (i : S32x6144.Idx) : ∃ t : Fin cfg0.N, (cfg0.win 4).flush t = true ∧ i ∈ ((cfg0.win 4).blk t).view.set := by
  have h0 : (i 0 : Nat) < 32 := (i 0).isLt
  have h1 : (i 1 : Nat) < 6144 := (i 1).isLt
  have hN : cfg0.N = 6 := N_0
  obtain ⟨t, ht⟩ : ∃ t : Fin cfg0.N, t.val = (i 1 : Nat) / 1024 := ⟨⟨(i 1 : Nat) / 1024, by omega⟩, rfl⟩
  have hi := index4 t
  refine ⟨t, flush0_4 t, ?_⟩
  show i ∈ ((View.whole main_v18_0).slice (win0_4.rect t)).set
  rw [View.set_slice_whole, Rect.mem_set_unit]
  intro a
  match a with
  | ⟨0, _⟩ => show win0_4.index t 0 * 32 ≤ (i 0).val ∧ (i 0).val < win0_4.index t 0 * 32 + 32; rw [hi.1]; omega
  | ⟨1, _⟩ => show win0_4.index t 1 * 1024 ≤ (i 1).val ∧ (i 1).val < win0_4.index t 1 * 1024 + 1024; rw [hi.2]; omega

theorem cover5 (i : S32x4096.Idx) : ∃ t : Fin cfg0.N, (cfg0.win 5).flush t = true ∧ i ∈ ((cfg0.win 5).blk t).view.set := by
  have h0 : (i 0 : Nat) < 32 := (i 0).isLt
  have h1 : (i 1 : Nat) < 4096 := (i 1).isLt
  have hN : cfg0.N = 6 := N_0
  obtain ⟨q, hq⟩ : ∃ q : Nat, q < 6 ∧ (q < 3 ∨ q = 5) ∧ min q 3 = (i 1 : Nat) / 1024 := by
    by_cases h : (i 1 : Nat) / 1024 < 3
    · exact ⟨_, by omega, Or.inl h, by omega⟩
    · exact ⟨5, by omega, Or.inr rfl, by omega⟩
  obtain ⟨t, ht⟩ : ∃ t : Fin cfg0.N, t.val = q := ⟨⟨q, by omega⟩, rfl⟩
  have hi := index5 t
  refine ⟨t, (flush5 t).mpr (by omega), ?_⟩
  show i ∈ ((View.whole main_v18_1).slice (win0_5.rect t)).set
  rw [View.set_slice_whole, Rect.mem_set_unit]
  intro a
  match a with
  | ⟨0, _⟩ => show win0_5.index t 0 * 32 ≤ (i 0).val ∧ (i 0).val < win0_5.index t 0 * 32 + 32; rw [hi.1]; omega
  | ⟨1, _⟩ => show win0_5.index t 1 * 1024 ≤ (i 1).val ∧ (i 1).val < win0_5.index t 1 * 1024 + 1024; rw [hi.2]; omega

theorem cover6 (i : S2048x6144.Idx) : ∃ t : Fin cfg0.N, (cfg0.win 6).flush t = true ∧ i ∈ ((cfg0.win 6).blk t).view.set := by
  have h0 : (i 0 : Nat) < 2048 := (i 0).isLt
  have h1 : (i 1 : Nat) < 6144 := (i 1).isLt
  have hN : cfg0.N = 6 := N_0
  obtain ⟨t, ht⟩ : ∃ t : Fin cfg0.N, t.val = (i 1 : Nat) / 1024 := ⟨⟨(i 1 : Nat) / 1024, by omega⟩, rfl⟩
  have hi := index6 t
  refine ⟨t, flush0_6 t, ?_⟩
  show i ∈ ((View.whole main_v18_2).slice (win0_6.rect t)).set
  rw [View.set_slice_whole, Rect.mem_set_unit]
  intro a
  match a with
  | ⟨0, _⟩ => show win0_6.index t 0 * 2048 ≤ (i 0).val ∧ (i 0).val < win0_6.index t 0 * 2048 + 2048; rw [hi.1]; omega
  | ⟨1, _⟩ => show win0_6.index t 1 * 1024 ≤ (i 1).val ∧ (i 1).val < win0_6.index t 1 * 1024 + 1024; rw [hi.2]; omega

theorem final4 (c : Dev nD) : (dats m 0 c).arrAt 4 cfg0.N = G4 m c := (dats m 0 c).arrAt_eq_of_cover 4 (G4 m c) (flushed4_eq m c) cover4
theorem final5 (c : Dev nD) : (dats m 0 c).arrAt 5 cfg0.N = G5 m c := (dats m 0 c).arrAt_eq_of_cover 5 (G5 m c) (flushed5_eq m c) cover5
theorem final6 (c : Dev nD) : (dats m 0 c).arrAt 6 cfg0.N = G6 m c := (dats m 0 c).arrAt_eq_of_cover 6 (G6 m c) (flushed6_eq m c) cover6

end Cert.InProjRow
-- ==== Proof.InProjRow.Host.lean ====
/-
  The arrays the windows of the sample's input projection read, element by element, from the arguments.
-/
module

public import proofs.«01_k».proof.Proof.InProj.Host
public import proofs.«01_k».proof.Proof.Gen.Kernel6Ideal.Frame
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRow

open Cert.Kernel6Ideal Cert.Kernel6Ideal.Gen
open Cert.KernelIdeal.InProj (colGain)

variable (m : (ℓ : Loc nD τ sig) → Buf (Elt Ideal) ℓ) (c : Dev nD)

/-- Argument `b` as launched. -/
abbrev arg (b : Ref sig .tc) : Buf (Elt Ideal) ((c : Thread nD τ).loc b) := m ((c : Thread nD τ).loc b)

/-- The flattened activations at an index. -/
theorem flat_apply (a : Vec Ideal S32x1x2048 .f32) (r : Fin 32) (k : Fin 2048) : shapeCast S32x2048 a shapeCasts_S32x1x2048_S32x2048 (ix2 r k) = a (ix3 r 0 k) := by
  pointwise []

theorem V_x (r : Fin 32) (k : Fin 2048) : (V m c main_v12 : Vec Ideal S32x2048 .f32) (ix2 r k) = (arg m c main_arg0 : Vec Ideal S32x1x2048 .f32) (ix3 r 0 k) := by
  have h : (V m c main_v12 : Vec Ideal S32x2048 .f32) = shapeCast S32x2048 (arg m c main_arg0 : Vec Ideal S32x1x2048 .f32) shapeCasts_S32x1x2048_S32x2048 := by
    unfold_abbrev_sides
    after_results
    all_goals rfl
  rw [h]
  exact flat_apply _ r k

/-- The flattened weights at an index. -/
theorem flatW_apply (a : Vec Ideal S1x2048x6144 .f32) (k : Fin 2048) (C : Fin 6144) : shapeCast S2048x6144 a shapeCasts_S1x2048x6144_S2048x6144 (ix2 k C) = a (ix3 0 k C) := by
  pointwise []

theorem V_w (k : Fin 2048) (C : Fin 6144) : (V m c main_v15 : Vec Ideal S2048x6144 .f32) (ix2 k C) = (arg m c main_arg2 : Vec Ideal S1x2048x6144 .f32) (ix3 0 k C) := by
  have h : (V m c main_v15 : Vec Ideal S2048x6144 .f32) = shapeCast S2048x6144 (arg m c main_arg2 : Vec Ideal S1x2048x6144 .f32) shapeCasts_S1x2048x6144_S2048x6144 := by
    unfold_abbrev_sides
    after_results
    all_goals rfl
  rw [h]
  exact flatW_apply _ k C

theorem V_g (k : Fin 2048) : (V m c main_v16 : Vec Ideal S1x2048 .f32) (ix2 0 k) = (arg m c main_arg1 : Vec Ideal S2x2048 .f32) (ix2 0 k) := by
  have h : (V m c main_v16 : Vec Ideal S1x2048 .f32) = shapeCast S1x2048 (shapeCast S2048 (extractStridedSlice S1x2048 ![0, 0] (arg m c main_arg1 : Vec Ideal S2x2048 .f32) slices_S2x2048_S1x2048_0_0) shapeCasts_S1x2048_S2048) shapeCasts_S2048_S1x2048 := by
    unfold_abbrev_sides
    after_results
    all_goals rfl
  rw [h]
  generalize (arg m c main_arg1 : Vec Ideal S2x2048 .f32) = a
  pointwise []

/-- The row of column gains. -/
def gainRow (q k : Vec Ideal S1x128 .f32) : Vec Ideal S1x6144 .f32 :=
  have q0 : Vec Ideal S128 .f32 := shapeCast S128 q shapeCasts_S1x128_S128
  have cst : Vec Ideal S_ .f32 := constant (F := Ideal) S_ .f32 0x3E0293EE#32
  have q1 : Vec Ideal S128 .f32 := broadcastInDim S128 ![] bcast_S_S128 cst
  have q2 : Vec Ideal S128 .f32 := mulf (F := Ideal) (φ := .f32) q0 q1
  have q3 : Vec Ideal S1x128 .f32 := shapeCast S1x128 q2 shapeCasts_S128_S1x128
  have q4 : Vec Ideal S8x128 .f32 := broadcastInDim S8x128 ![0, 1] bcast_S1x128_S8x128_0_1 q3
  have q5 : Vec Ideal S1024 .f32 := shapeCast S1024 q4 shapeCasts_S8x128_S1024
  have k0 : Vec Ideal S128 .f32 := shapeCast S128 k shapeCasts_S1x128_S128
  have k1 : Vec Ideal S1x128 .f32 := shapeCast S1x128 k0 shapeCasts_S128_S1x128
  have k2 : Vec Ideal S8x128 .f32 := broadcastInDim S8x128 ![0, 1] bcast_S1x128_S8x128_0_1 k1
  have k3 : Vec Ideal S1024 .f32 := shapeCast S1024 k2 shapeCasts_S8x128_S1024
  have one : Vec Ideal S_ .f32 := constant (F := Ideal) S_ .f32 0x3F800000#32
  have ones : Vec Ideal S4096 .f32 := broadcastInDim S4096 ![] bcast_S_S4096 one
  have row : Vec Ideal S6144 .f32 := concatenate S6144 0 [⟨S1024, q5⟩, ⟨S1024, k3⟩, ⟨S4096, ones⟩] concatenates_S1024_S1024_S4096_S6144_d0
  shapeCast S1x6144 row shapeCasts_S6144_S1x6144

theorem gainRow_apply (q k : Vec Ideal S1x128 .f32) (C : Fin 6144) : gainRow q k (ix2 0 C) = colGain (fun d => q (ix2 0 d)) (fun d => k (ix2 0 d)) C := by
  pointwise [gainRow, colGain]
  by_cases h1 : C.val < 1024
  · rw [dif_pos h1, if_pos h1]
  rw [dif_neg h1, if_neg h1]
  by_cases h2 : C.val < 2048
  · have e : (C.val - 1024) % 128 = C.val % 128 := by omega
    rw [dif_pos (by omega), if_pos h2]
    simp only [e]
  · rw [dif_neg (by omega), if_neg h2]

theorem V_c (C : Fin 6144) : (V m c main_v17 : Vec Ideal S1x6144 .f32) (ix2 0 C)
    = colGain (fun d => (arg m c main_arg3 : Vec Ideal S1x128 .f32) (ix2 0 d)) (fun d => (arg m c main_arg4 : Vec Ideal S1x128 .f32) (ix2 0 d)) C := by
  have h : (V m c main_v17 : Vec Ideal S1x6144 .f32) = gainRow (arg m c main_arg3) (arg m c main_arg4) := by
    unfold_abbrev_sides
    after_results
    dsimp only [Matrix.cons_val]
    simp only [↓ StableHlo.readResult, ↓ StableHlo.readPieces, -eq_self]
    rfl
  rw [h, gainRow_apply]

end Cert.InProjRow
-- ==== Proof.InProjRow.Ref.lean ====
/-
  The results of the sample's input projection of the reference, element by element.
-/
module

public import proofs.«01_k».proof.Proof.Gen.Reference6Ideal.Read
public import proofs.«01_k».proof.Proof.InProj.Ref
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRow

open Cert.Reference6Ideal Cert.Reference6Ideal.Gen Cert.Reference6Ideal.Read
open Cert.ReferenceIdeal.InProj (headOut)

variable (x : Vec Ideal S32x1x2048 .f32) (g : Vec Ideal S2x2048 .f32) (w : Vec Ideal S1x2048x6144 .f32) (q k : Vec Ideal S1x128 .f32)

/-- Element `(R, C)` of the projection before the heads are normalised. -/
def zRef (R : Fin 32) (C : Fin 6144) : EReal := val_main_v16 (F := Ideal) x g w (ix3 R 0 C)

theorem zRef_eq (R : Fin 32) (C : Fin 6144) : zRef x g w R C
    = ∑ j : Fin 2048, (x (ix3 R 0 j) * Ideal.rsqrt (Ideal.div (∑ l : Fin 2048, x (ix3 R 0 l) * x (ix3 R 0 l)) (Ideal.ofBits FTy.f32 0x45000000#32) + Ideal.ofBits FTy.f32 0x358637BD#32) * g (ix2 0 j)) * w (ix3 0 j C) := by
  pointwise [zRef, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem z_fold (R : Fin 32) (C : Fin 6144) : val_main_v16 (F := Ideal) x g w (ix3 R 0 C) = zRef x g w R C := rfl

/-- The query columns. -/
theorem q_eq (R : Fin 32) (h : Fin 8) (d : Fin 128) : val_main_v53 (F := Ideal) x g w q (ix4 R 0 h d)
    = headOut (fun y => zRef x g w R ⟨h.val * 128 + y.val, by omega⟩) d (q (ix2 0 d)) * Ideal.ofBits FTy.f32 0x3E0293EE#32 := by
  pointwise [val_main_v53, val_main_v52, val_main_v36, val_main_v35, val_main_v34, val_main_v33, val_main_v32, val_main_v31, val_main_v30, val_main_v29, val_main_v28, val_main_v27, val_main_v26, val_main_v25, val_main_v24, val_main_v23, val_main_v22, val_main_v17, val_main_cst_8, val_main_cst_2, val_main_cst_3, val_main_cst_4]
  simp only [z_fold]
  rfl

/-- The key columns. -/
theorem k_eq (R : Fin 32) (h : Fin 8) (d : Fin 128) : val_main_v51 (F := Ideal) x g w k (ix4 R 0 h d)
    = headOut (fun y => zRef x g w R ⟨1024 + (h.val * 128 + y.val), by omega⟩) d (k (ix2 0 d)) := by
  pointwise [val_main_v51, val_main_v50, val_main_v49, val_main_v48, val_main_v47, val_main_v46, val_main_v45, val_main_v44, val_main_v43, val_main_v42, val_main_v41, val_main_v40, val_main_v39, val_main_v38, val_main_v37, val_main_v18, val_main_cst_5, val_main_cst_6, val_main_cst_7]
  simp only [z_fold]
  rfl

/-- Element `(R, C)` of the reference's projection. -/
def refOut (R : Fin 32) (C : Fin 6144) : EReal :=
  if C.val < 1024 then headOut (fun y => zRef x g w R ⟨C.val / 128 * 128 + y.val, by omega⟩) ⟨C.val % 128, by omega⟩ (q (ix2 0 ⟨C.val % 128, by omega⟩)) * Ideal.ofBits FTy.f32 0x3E0293EE#32
  else if C.val < 2048 then headOut (fun y => zRef x g w R ⟨C.val / 128 * 128 + y.val, by omega⟩) ⟨C.val % 128, by omega⟩ (k (ix2 0 ⟨C.val % 128, by omega⟩))
  else zRef x g w R C

theorem ref57 (R : Fin 32) (C : Fin 6144) : val_main_v57 (F := Ideal) x g w q k (ix2 R C) = refOut x g w q k R C := by
  pointwise [val_main_v57, val_main_v56, val_main_v55, val_main_v54, val_main_v19, val_main_v20, val_main_v21]
  simp only [z_fold, q_eq, k_eq]
  unfold refOut
  by_cases h1 : C.val < 1024
  · rw [dif_pos h1, if_pos h1]
  rw [dif_neg h1, if_neg h1]
  by_cases h2 : C.val < 2048
  · rw [dif_pos (by omega), if_pos h2]
    have e : ∀ y : Fin 128, 1024 + ((C.val - 1024) / 128 * 128 + y.val) = C.val / 128 * 128 + y.val := fun y => by omega
    have e' : (C.val - 1024) % 128 = C.val % 128 := by omega
    simp only [e, e']
  rw [dif_neg (by omega), if_neg h2]
  by_cases h3 : C.val < 3072
  · rw [dif_pos (by omega)]; exact congrArg (zRef x g w R) (Fin.ext (by dsimp only; omega))
  rw [dif_neg (by omega)]
  by_cases h4 : C.val < 4096
  · rw [dif_pos (by omega)]; exact congrArg (zRef x g w R) (Fin.ext (by dsimp only; omega))
  rw [dif_neg (by omega)]; exact congrArg (zRef x g w R) (Fin.ext (by dsimp only; omega))

theorem ref61 (R : Fin 32) (C : Fin 4096) (hC : C.val < 3072) : val_main_v61 (F := Ideal) x g w q k (ix2 R C) = refOut x g w q k R ⟨C.val, by omega⟩ := by
  pointwise [val_main_v61, val_main_v60, val_main_v59, val_main_v55, val_main_v54, val_main_v19, val_main_v58]
  simp only [z_fold, q_eq, k_eq]
  unfold refOut
  dsimp only
  by_cases h1 : C.val < 1024
  · rw [dif_pos h1, if_pos h1]
  rw [dif_neg h1, if_neg h1]
  by_cases h2 : C.val < 2048
  · rw [dif_pos (by omega), if_pos h2]
    have e : ∀ y : Fin 128, 1024 + ((C.val - 1024) / 128 * 128 + y.val) = C.val / 128 * 128 + y.val := fun y => by omega
    have e' : (C.val - 1024) % 128 = C.val % 128 := by omega
    simp only [e, e']
  rw [dif_neg (by omega), if_neg h2, dif_pos (by omega)]; exact congrArg (zRef x g w R) (Fin.ext (by dsimp only; omega))

theorem ref63 (k : Fin 2048) (C : Fin 6144) : val_main_v63 (F := Ideal) w (ix2 k C) = w (ix3 0 k C) := by
  pointwise [val_main_v63, val_main_v62]

end Cert.InProjRow
-- ==== Proof.InProjRow.Tie.lean ====
/-
  The three results of the sample's input projection and the reference's are the same functions of the arguments.
-/
module

public import proofs.«01_k».proof.Defs
public import proofs.«01_k».proof.Proof.InProj.Tie
public import proofs.«01_k».proof.Proof.InProjRow.Array
public import proofs.«01_k».proof.Proof.InProjRow.Host
public import proofs.«01_k».proof.Proof.InProjRow.Ref
public import proofs.«01_k».proof.Proof.Gen.Reference6Ideal.Run
public import proofs.«01_k».proof.Proof.Gen.On_projected_sample

@[expose] public section

set_option maxRecDepth 16384

noncomputable section

open Idealize.ShloMosaic Idealize.ShloMosaic.TcCoe Idealize.SL.Sem

namespace Cert.InProjRow

open Cert.Kernel6Ideal Cert.Kernel6Ideal.Gen
open Cert.KernelIdeal.InProj (hd scale normed hdOf bitOf colGain)
open Cert.ReferenceIdeal.InProj (headOut)
open Cert.InProj (bitOf_lt bitOf_ge scale_one scale_zero slt3072)

variable (m : (ℓ : Loc nD τ sig) → Buf (Elt Ideal) ℓ) (c : Dev nD)

theorem z_tie (R : Fin 32) (C : Fin 6144) : zOf m c R C = zRef (arg m c main_arg0) (arg m c main_arg1) (arg m c main_arg2) R C := by
  rw [zRef_eq]
  unfold zOf
  refine Finset.sum_congr rfl fun k _ => ?_
  have hx : (fun l => xA m c (ix2 R l)) = fun l => (arg m c main_arg0 : Vec Ideal S32x1x2048 .f32) (ix3 R 0 l) := funext fun l => V_x m c R l
  have hg : (fun l => gA m c (ix2 0 l)) = fun l => (arg m c main_arg1 : Vec Ideal S2x2048 .f32) (ix2 0 l) := funext fun l => V_g m c l
  have hw : wA m c (ix2 k C) = (arg m c main_arg2 : Vec Ideal S1x2048x6144 .f32) (ix3 0 k C) := V_w m c k C
  rw [hx, hg, hw]
  rfl

theorem out_tie (R : Fin 32) (C : Fin 6144) : outOf m c R C
    = refOut (arg m c main_arg0) (arg m c main_arg1) (arg m c main_arg2) (arg m c main_arg3) (arg m c main_arg4) R C := by
  have hh : ∀ h, (⟨C.val / 128 * 128 + C.val % 128, h⟩ : Fin 6144) = C := fun h => Fin.ext (by dsimp only; omega)
  unfold outOf refOut cA
  rw [V_c]
  unfold colGain
  simp only [z_tie]
  by_cases h1 : C.val < 1024
  · rw [bitOf_lt C (by omega), scale_one, if_pos h1, if_pos h1]
    unfold headOut
    simp only [hh, hdOf, mul_assoc]
  rw [if_neg h1, if_neg h1]
  by_cases h2 : C.val < 2048
  · rw [bitOf_lt C h2, scale_one, if_pos h2, if_pos h2]
    unfold headOut
    simp only [hh, hdOf]
  · rw [bitOf_ge C h2, scale_zero, if_neg h2, if_neg h2, mul_one, mul_one]

/-- A column the mask selects in the second result is a query, key or value column. -/
theorem mask5 (x0 : FVec Ideal Cert.On_projected_sample.S32x1x2048 .f32) (x1 : FVec Ideal Cert.On_projected_sample.S2x2048 .f32) (x2 : FVec Ideal Cert.On_projected_sample.S1x2048x6144 .f32) (x3 x4 : FVec Ideal Cert.On_projected_sample.S1x128 .f32) (R : Fin 32) (C : Fin 4096)
    (h : (Cert.On_projected_sample.fn (F := Ideal) x0 x1 x2 x3 x4).2.1 (ix2 R C) = 1#1) : C.val < 3072 := by
  have e : (Cert.On_projected_sample.fn (F := Ideal) x0 x1 x2 x3 x4).2.1 (ix2 R C) = IntOp.cmpi .slt (BitVec.ofNat 32 C.val) 3072#32 := by
    pointwise [Cert.On_projected_sample.fn]
  exact slt3072 C (e.symm.trans h)

theorem algebraic : Cert.algebraic_Kernel6Ideal_Reference6Ideal_on_projected_sample := by
  intro m g m' g' _ hagree
  refine ⟨fun c => G4 m c, fun c => G5 m c, fun c => G6 m c, ?_, ?_⟩
  · refine (θ_run _ _ _).mono (fun r h c => ?_) (Cert.Kernel6Ideal.Value.run_blocks (F := Ideal) m g)
    obtain ⟨h4, h5, h6, ha⟩ := h c
    exact ⟨fun i _ => by rw [h4, final4], fun i _ => by rw [h5, final5], fun i _ => by rw [h6, final6], ha⟩
  · refine (θ_run _ _ _).mono (fun r h c => ?_) (Cert.Reference6Ideal.Value.run (F := Ideal) m' g')
    obtain ⟨h4, h5, h6, ha⟩ := h c
    obtain ⟨e0, e1, e2, e3, e4⟩ := hagree c
    refine ⟨fun i _ => ?_, fun i hi => ?_, fun i _ => ?_, ha⟩
    · obtain ⟨R, C, rfl⟩ : ∃ (R : Fin 32) (C : Fin 6144), i = ix2 R C := ⟨i 0, i 1, eq_ix2 i⟩
      rw [h4, Cert.Reference6Ideal.Read.val_main_v57_eq, e0, e1, e2, e3, e4]
      exact (ref57 _ _ _ _ _ R C).trans (out_tie m c R C).symm
    · obtain ⟨R, C, rfl⟩ : ∃ (R : Fin 32) (C : Fin 4096), i = ix2 R C := ⟨i 0, i 1, eq_ix2 i⟩
      have hC := mask5 _ _ _ _ _ R C hi
      rw [h5, Cert.Reference6Ideal.Read.val_main_v61_eq, e0, e1, e2, e3, e4]
      exact (ref61 _ _ _ _ _ R C hC).trans ((out_tie m c R _).symm.trans (G5_lt m c R C hC).symm)
    · obtain ⟨k, C, rfl⟩ : ∃ (k : Fin 2048) (C : Fin 6144), i = ix2 k C := ⟨i 0, i 1, eq_ix2 i⟩
      rw [h6, Cert.Reference6Ideal.Read.val_main_v63_eq, e2]
      exact (ref63 _ k C).trans (V_w m c k C).symm

end Cert.InProjRow
-- ==== Proof.OutProjRow.Value.lean ====
/-
  The sample's output projection: the sample rows plus the product of the gated rows with the weights, and the weights
  themselves; both arrays are the reference's.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProjRow

open Cert.Kernel7Ideal Cert.Kernel7Ideal.Gen

theorem hz : (![0, 0] : Fin 2 → Nat) = fun _ => 0 := funext fun a => by fin_cases a <;> rfl

theorem pay1_apply (w : Vec Ideal S2048x2048 .f32) (j k : Fin 2048) : k0_pay1 w (ix2 j k) = w (ix2 j k) := by
  pointwise [k0_pay1]

theorem pay2_apply (w : Vec Ideal S2048x2048 .f32) (x : Vec Ideal S32x2048 .f32) (a : Vec Ideal S32x2048 .bf16) (r : Fin 32) (k : Fin 2048) :
    k0_pay2 w x a (ix2 r k) = x (ix2 r k) + ∑ j : Fin 2048, a (ix2 r j) * w (ix2 j k) := by
  pointwise [k0_pay2, k0_pay1]

variable (m : (ℓ : Loc nD τ sig) → Buf (Elt Ideal) ℓ)

/-- The gated rows, the weights and the sample rows. -/
abbrev aA (c : Dev nD) : Vec Ideal S32x2048 .bf16 := m ((c : Thread nD τ).loc main_arg0)
abbrev wA (c : Dev nD) : Vec Ideal S1x2048x2048 .f32 := m ((c : Thread nD τ).loc main_arg1)
abbrev xA (c : Dev nD) : Vec Ideal S32x2048 .f32 := m ((c : Thread nD τ).loc main_arg2)

theorem V_v0 (c : Dev nD) (j k : Fin 2048) : (V m c main_v0 : Vec Ideal S2048x2048 .f32) (ix2 j k) = wA m c (ix3 0 j k) := by
  have h : (V m c main_v0 : Vec Ideal S2048x2048 .f32) = shapeCast S2048x2048 (wA m c) shapeCasts_S1x2048x2048_S2048x2048 := by
    unfold_abbrev_sides
    after_results
    all_goals rfl
  rw [h]
  generalize wA m c = a
  pointwise []

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)

theorem iblk0_apply (c : Dev nD) (t : Fin cfg0.N) (r : Fin 32) (k : Fin 2048) : (iblk m c 0 t : Vec Ideal S32x2048 .bf16) (ix2 r k) = aA m c (ix2 r k) := by
  refine Eq.trans ?_ (congrFun (V_main_arg0 m c) (ix2 r k))
  have hi := index0 t
  unfold iblk
  rw [View.read_apply]
  show V m c main_arg0 _ = V m c main_arg0 _
  congr 1
  funext a
  apply Fin.ext
  match a with
  | ⟨0, _⟩ => show win0_0.index t 0 * 32 + 1 * r.val = r.val; rw [hi.1]; omega
  | ⟨1, _⟩ => show win0_0.index t 1 * 2048 + 1 * k.val = k.val; rw [hi.2]; omega

theorem iblk1_apply (c : Dev nD) (t : Fin cfg0.N) (r : Fin 2048) (k : Fin 2048) : (iblk m c 1 t : Vec Ideal S2048x2048 .f32) (ix2 r k) = wA m c (ix3 0 r k) := by
  refine Eq.trans ?_ (V_v0 m c r k)
  have hi := index1 t
  unfold iblk
  rw [View.read_apply]
  show V m c main_v0 _ = V m c main_v0 _
  congr 1
  funext a
  apply Fin.ext
  match a with
  | ⟨0, _⟩ => show win0_1.index t 0 * 2048 + 1 * r.val = r.val; rw [hi.1]; omega
  | ⟨1, _⟩ => show win0_1.index t 1 * 2048 + 1 * k.val = k.val; rw [hi.2]; omega

theorem iblk2_apply (c : Dev nD) (t : Fin cfg0.N) (r : Fin 32) (k : Fin 2048) : (iblk m c 2 t : Vec Ideal S32x2048 .f32) (ix2 r k) = xA m c (ix2 r k) := by
  refine Eq.trans ?_ (congrFun (V_main_arg2 m c) (ix2 r k))
  have hi := index2 t
  unfold iblk
  rw [View.read_apply]
  show V m c main_arg2 _ = V m c main_arg2 _
  congr 1
  funext a
  apply Fin.ext
  match a with
  | ⟨0, _⟩ => show win0_2.index t 0 * 32 + 1 * r.val = r.val; rw [hi.1]; omega
  | ⟨1, _⟩ => show win0_2.index t 1 * 2048 + 1 * k.val = k.val; rw [hi.2]; omega

/-- Element `(R, C)` of the result. -/
def outOf (c : Dev nD) (R : Fin 32) (C : Fin 2048) : EReal :=
  xA m c (ix2 R C) + ∑ j : Fin 2048, aA m c (ix2 R j) * wA m c (ix3 0 j C)

/-- Element `(R, C)` of the weights. -/
def wOf (c : Dev nD) (R C : Fin 2048) : EReal := wA m c (ix3 0 R C)

/-- The result arrays. -/
def G3 (c : Dev nD) : Buf (Elt Ideal) ((c : Thread nD τ).loc main_v1_0) := fun j : S32x2048.Idx => outOf m c (j 0) (j 1)
def G4 (c : Dev nD) : Buf (Elt Ideal) ((c : Thread nD τ).loc main_v1_1) := fun j : S2048x2048.Idx => wOf m c (j 0) (j 1)

theorem out3_apply (c : Dev nD) (t : Fin cfg0.N) (r : Fin 32) (k : Fin 2048) :
    (out0_3 (iblk m c 0 t) (iblk m c 1 t) (iblk m c 2 t) : Vec Ideal S32x2048 .f32) (ix2 r k) = outOf m c r k := by
  unfold out0_3 r0_1 r0_0
  rw [View.canon_unit_zero hz]
  simp only [View.ld_unit_zero (S := S32x2048) hz, View.ld_unit_zero (S := S2048x2048) hz]
  rw [pay2_apply]
  simp only [iblk0_apply, iblk1_apply, iblk2_apply]
  rfl

theorem out4_apply (c : Dev nD) (t : Fin cfg0.N) (r k : Fin 2048) :
    (out0_4 (iblk m c 0 t) (iblk m c 1 t) (iblk m c 2 t) : Vec Ideal S2048x2048 .bf16) (ix2 r k) = wOf m c r k := by
  unfold out0_4 r0_0
  rw [View.canon_unit_zero hz]
  simp only [View.ld_unit_zero (S := S2048x2048) hz]
  rw [pay1_apply]
  simp only [iblk1_apply]
  rfl

theorem flushed3_eq (c : Dev nD) (t : Fin cfg0.N) (_ : (cfg0.win 3).flush t = true) :
    (dats m 0 c).flushed 3 t = ((cfg0.win 3).blk t).view.read (Elt Ideal) (G3 m c) := by
  have hi := index3 t
  have ho := out3_apply m c t
  rw [Value.flushed3]
  generalize out0_3 (iblk m c 0 t) (iblk m c 1 t) (iblk m c 2 t) = o at ho
  funext j
  rw [View.read_apply]
  have hj : o j = outOf m c (j 0) (j 1) := (congrArg o (eq_ix2 (n0 := 32) (n1 := 2048) j)).trans (ho (j 0) (j 1))
  refine hj.trans ?_
  unfold G3
  refine congrArg₂ (outOf m c) (Fin.ext ?_) (Fin.ext ?_)
  · show (j 0).val = win0_3.index t 0 * 32 + 1 * (j 0).val; rw [hi.1]; omega
  · show (j 1).val = win0_3.index t 1 * 2048 + 1 * (j 1).val; rw [hi.2]; omega

theorem cover3 (i : S32x2048.Idx) : ∃ t : Fin cfg0.N, (cfg0.win 3).flush t = true ∧ i ∈ ((cfg0.win 3).blk t).view.set := by
  have h0 : (i 0 : Nat) < 32 := (i 0).isLt
  have h1 : (i 1 : Nat) < 2048 := (i 1).isLt
  have hi := index3 t0_0
  refine ⟨t0_0, flush0_3 t0_0, ?_⟩
  show i ∈ ((View.whole main_v1_0).slice (win0_3.rect t0_0)).set
  rw [View.set_slice_whole, Rect.mem_set_unit]
  intro a
  match a with
  | ⟨0, _⟩ => show win0_3.index t0_0 0 * 32 ≤ (i 0).val ∧ (i 0).val < win0_3.index t0_0 0 * 32 + 32; rw [hi.1]; omega
  | ⟨1, _⟩ => show win0_3.index t0_0 1 * 2048 ≤ (i 1).val ∧ (i 1).val < win0_3.index t0_0 1 * 2048 + 2048; rw [hi.2]; omega

theorem final3 (c : Dev nD) : (dats m 0 c).arrAt 3 cfg0.N = G3 m c := (dats m 0 c).arrAt_eq_of_cover 3 (G3 m c) (flushed3_eq m c) cover3

theorem flushed4_eq (c : Dev nD) (t : Fin cfg0.N) (_ : (cfg0.win 4).flush t = true) :
    (dats m 0 c).flushed 4 t = ((cfg0.win 4).blk t).view.read (Elt Ideal) (G4 m c) := by
  have hi := index4 t
  have ho := out4_apply m c t
  rw [Value.flushed4]
  generalize out0_4 (iblk m c 0 t) (iblk m c 1 t) (iblk m c 2 t) = o at ho
  funext j
  rw [View.read_apply]
  have hj : o j = wOf m c (j 0) (j 1) := (congrArg o (eq_ix2 (n0 := 2048) (n1 := 2048) j)).trans (ho (j 0) (j 1))
  refine hj.trans ?_
  unfold G4
  refine congrArg₂ (wOf m c) (Fin.ext ?_) (Fin.ext ?_)
  · show (j 0).val = win0_4.index t 0 * 2048 + 1 * (j 0).val; rw [hi.1]; omega
  · show (j 1).val = win0_4.index t 1 * 2048 + 1 * (j 1).val; rw [hi.2]; omega

theorem cover4 (i : S2048x2048.Idx) : ∃ t : Fin cfg0.N, (cfg0.win 4).flush t = true ∧ i ∈ ((cfg0.win 4).blk t).view.set := by
  have h0 : (i 0 : Nat) < 2048 := (i 0).isLt
  have h1 : (i 1 : Nat) < 2048 := (i 1).isLt
  have hi := index4 t0_0
  refine ⟨t0_0, flush0_4 t0_0, ?_⟩
  show i ∈ ((View.whole main_v1_1).slice (win0_4.rect t0_0)).set
  rw [View.set_slice_whole, Rect.mem_set_unit]
  intro a
  match a with
  | ⟨0, _⟩ => show win0_4.index t0_0 0 * 2048 ≤ (i 0).val ∧ (i 0).val < win0_4.index t0_0 0 * 2048 + 2048; rw [hi.1]; omega
  | ⟨1, _⟩ => show win0_4.index t0_0 1 * 2048 ≤ (i 1).val ∧ (i 1).val < win0_4.index t0_0 1 * 2048 + 2048; rw [hi.2]; omega

theorem final4 (c : Dev nD) : (dats m 0 c).arrAt 4 cfg0.N = G4 m c := (dats m 0 c).arrAt_eq_of_cover 4 (G4 m c) (flushed4_eq m c) cover4

section Reference

open Cert.Reference7Ideal.Read

theorem ref_apply (a : Vec Ideal S32x2048 .bf16) (w : Vec Ideal S1x2048x2048 .f32) (x : Vec Ideal S32x2048 .f32) (R : Fin 32) (C : Fin 2048) :
    val_main_v3 (F := Ideal) a w x (ix2 R C) = x (ix2 R C) + ∑ j : Fin 2048, a (ix2 R j) * w (ix3 0 j C) := by
  pointwise [val_main_v3, val_main_v2, val_main_v1, val_main_v0]

theorem ref_w (w : Vec Ideal S1x2048x2048 .f32) (R C : Fin 2048) : val_main_v5 (F := Ideal) w (ix2 R C) = w (ix3 0 R C) := by
  pointwise [val_main_v5, val_main_v4]

end Reference

/-- The sample's output projection is the reference's at every launch. -/
theorem algebraic : Cert.algebraic_Kernel7Ideal_Reference7Ideal := by
  intro m g m' g' _ hagree
  refine ⟨fun c => G3 m c, fun c => G4 m c, ?_, ?_⟩
  · refine (θ_run _ _ _).mono (fun r h c => ?_) (Cert.Kernel7Ideal.Value.run_blocks (F := Ideal) m g)
    obtain ⟨h3, h4, ha⟩ := h c
    exact ⟨h3.trans (final3 m c), h4.trans (final4 m c), ha⟩
  · refine (θ_run _ _ _).mono (fun r h c => ?_) (Cert.Reference7Ideal.Value.run (F := Ideal) m' g')
    obtain ⟨h3, h4, ha⟩ := h c
    obtain ⟨e0, e1, e2⟩ := hagree c
    refine ⟨?_, ?_, ha⟩
    · funext i
      obtain ⟨R, C, rfl⟩ : ∃ (R : Fin 32) (C : Fin 2048), i = ix2 R C := ⟨i 0, i 1, eq_ix2 i⟩
      rw [h3, Cert.Reference7Ideal.Read.val_main_v3_eq, e0, e1, e2]
      exact ref_apply _ _ _ R C
    · funext i
      obtain ⟨R, C, rfl⟩ : ∃ (R C : Fin 2048), i = ix2 R C := ⟨i 0, i 1, eq_ix2 i⟩
      rw [h4, Cert.Reference7Ideal.Read.val_main_v5_eq, e1]
      exact ref_w _ R C

end Cert.OutProjRow
-- ==== Proof.PoolRow.Block.lean ====
/-
  The sample's pooling: what the body leaves in its output block.
-/
module

public import proofs.«01_k».proof.Proof.Gen.Kernel8Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.PoolRow

open Cert.Kernel8Ideal Cert.Kernel8Ideal.Gen

section Term

variable {F : FTy → Type} [FloatOps F]

theorem hz : (![0, 0] : Fin 2 → Nat) = fun _ => 0 := funext fun a => by fin_cases a <;> rfl

theorem slices_cols (o : Nat) (ho : o + 256 ≤ 1024) : S32x1024.Slices ![0, o] S32x256 :=
  ⟨rfl, fun a => by
    match a with
    | ⟨0, _⟩ => show 0 + 32 ≤ 32; omega
    | ⟨1, _⟩ => show o + 256 ≤ 1024; omega⟩

theorem inb_prev (k o : Nat) (hk : k ≤ 14) (ho : o + 256 ≤ 1024) : ∀ a, (![k, 0, o] : Fin 3 → Nat) a + S1x32x256.size a ≤ S15x32x1024.size a := fun a => by
  match a with
  | ⟨0, _⟩ => show k + 1 ≤ 15; omega
  | ⟨1, _⟩ => show 0 + 32 ≤ 32; omega
  | ⟨2, _⟩ => show o + 256 ≤ 1024; omega

/-- The new row and the `b` rows before it, summed as the body sums them; `o` is the group's first column. -/
def win (o : Nat) (ho : o + 256 ≤ 1024) (p : FVec F S32x1024 .f32) (x1 : Vec F S15x32x1024 .f32) : Nat → FVec F S32x256 .f32
  | 0 => extractStridedSlice S32x256 ![0, o] p (slices_cols o ho)
  | b + 1 => addf (win o ho p x1 b) (shapeCast S32x256 (View.ld x1 (Rect.unit (s := S15x32x1024) ![14 - b, 0, o] S1x32x256.size (inb_prev (14 - b) o (Nat.sub_le 14 b) ho))) shapeCasts_S1x32x256_S32x256)

/-- One group of the output: `s` holds the window's sums, `inv` the inverse of its length. -/
def grp (o og : Nat) (h : S32x1024.Slices ![0, o] S32x256) (hg : S32x2048.Slices ![0, og] S32x256) (inv : BitVec 32) (p : FVec F S32x1024 .f32) (s : FVec F S32x256 .f32)
    (g : FVec F S32x2048 .f32) (w : Vec F S1x256x256 .bf16) (sc : Vec F S1x256 .f32) : FVec F S32x256 .bf16 :=
  truncf .bf16 (mulf (mulf
      (matmul dot_S32x256_S256x256_S32x256_1_0_0_1_n_n none (truncf .bf16 (subf (mulf s (broadcast S32x256 (Scalar.ofBits .f32 inv))) (extractStridedSlice S32x256 ![0, o] p h)) bitsLt_bf16_f32)
        (shapeCast S256x256 w shapeCasts_S1x256x256_S256x256) (constant S32x256 .f32 0x00000000#32))
      (broadcastTo S32x256 (shapeCast S1x256 sc shapeCasts_S1x256_S1x256) broadcasts_S1x256_S32x256))
    (mulf (extractStridedSlice S32x256 ![0, og] g hg) (logistic (extractStridedSlice S32x256 ![0, og] g hg)))) bitsLt_bf16_f32

/-- The five pieces of the block, as the body stores them: the last one first. -/
def pieces (x0 : Vec F S32x1024 .f32) (x1 : Vec F S15x32x1024 .f32) (x2 : Vec F S32x1024 .f32) (x3 : Vec F S32x2048 .f32) (x4 : Vec F S4x256x256 .bf16) (x5 : Vec F S1x1024 .f32) : List (View.Piece (Elt F) S32x2048 .bf16) :=
  [⟨Rect.unit (s := S32x2048) ![0, 1792] S32x256.size inb_S32x2048_S32x256_0_1792, grp 768 1792 slices_S32x1024_o0_768_S32x256 slices_S32x2048_o0_1792_S32x256 0x3D800000#32 (k0_pay3 x0) (win 768 (by decide) (k0_pay3 x0) x1 15) (k0_pay11 x3)
      (View.ld x4 (Rect.unit (s := S4x256x256) ![3, 0, 0] S1x256x256.size inb_S4x256x256_S1x256x256_3_0_0)) (View.ld x5 (Rect.unit (s := S1x1024) ![0, 768] S1x256.size inb_S1x1024_S1x256_0_768))⟩,
   ⟨Rect.unit (s := S32x2048) ![0, 1536] S32x256.size inb_S32x2048_S32x256_0_1536, grp 512 1536 slices_S32x1024_o0_512_S32x256 slices_S32x2048_o0_1536_S32x256 0x3E000000#32 (k0_pay3 x0) (win 512 (by decide) (k0_pay3 x0) x1 7) (k0_pay11 x3)
      (View.ld x4 (Rect.unit (s := S4x256x256) ![2, 0, 0] S1x256x256.size inb_S4x256x256_S1x256x256_2_0_0)) (View.ld x5 (Rect.unit (s := S1x1024) ![0, 512] S1x256.size inb_S1x1024_S1x256_0_512))⟩,
   ⟨Rect.unit (s := S32x2048) ![0, 1280] S32x256.size inb_S32x2048_S32x256_0_1280, grp 256 1280 slices_S32x1024_o0_256_S32x256 slices_S32x2048_o0_1280_S32x256 0x3E800000#32 (k0_pay3 x0) (win 256 (by decide) (k0_pay3 x0) x1 3) (k0_pay11 x3)
      (View.ld x4 (Rect.unit (s := S4x256x256) ![1, 0, 0] S1x256x256.size inb_S4x256x256_S1x256x256_1_0_0)) (View.ld x5 (Rect.unit (s := S1x1024) ![0, 256] S1x256.size inb_S1x1024_S1x256_0_256))⟩,
   ⟨Rect.unit (s := S32x2048) ![0, 1024] S32x256.size inb_S32x2048_S32x256_0_1024, grp 0 1024 slices_S32x1024_o0_0_S32x256 slices_S32x2048_o0_1024_S32x256 0x3F000000#32 (k0_pay3 x0) (win 0 (by decide) (k0_pay3 x0) x1 1) (k0_pay11 x3)
      (View.ld x4 (Rect.unit (s := S4x256x256) ![0, 0, 0] S1x256x256.size inb_S4x256x256_S1x256x256_0_0_0)) (View.ld x5 (Rect.unit (s := S1x1024) ![0, 0] S1x256.size inb_S1x1024_S1x256_0_0))⟩,
   ⟨Rect.unit (s := S32x2048) ![0, 0] S32x1024.size inb_S32x2048_S32x1024_0_0, k0_pay12 x2 x3⟩]

set_option maxHeartbeats 2000000 in
theorem out6_eq (c : Dev nD) (a0 h0 a1 h1 a2 h2 a3 h3 a4 h4 a5 h5 a6 h6 x0 x1 x2 x3 x4 x5) :
    out0_A_6 (F := F) c a0 h0 a1 h1 a2 h2 a3 h3 a4 h4 a5 h5 a6 h6 x0 x1 x2 x3 x4 x5 = View.canon (pieces x0 x1 x2 x3 x4 x5) := by
  unfold out0_A_6
  rw [View.read_writes_eq_canon _ _ _ (cover0_A_6 c a0 h0 a1 h1 a2 h2 a3 h3 a4 h4 a5 h5 a6 h6 x0 x1 x2 x3 x4 x5)]
  unfold kernelRun0_A
  dsimp only
  sl_unfold_words
  simp only [View.readAt_eq_ld, h0.read_unread, h1.read_unread, h2.read_unread, h3.read_unread, h4.read_unread, h5.read_unread, View.ld_unit_zero (S := S32x1024) hz, View.ld_unit_zero (S := S32x2048) hz]
  rfl

end Term

end Cert.PoolRow
-- ==== Proof.PoolRow.Value.lean ====
/-
  The sample's pooling: the elements of the kernel's output block.
-/
module

public import proofs.«01_k».proof.Proof.PoolRow.Block
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.PoolRow

/-- A new element and the `b` elements before it, the latest first. -/
def accu (p : EReal) (q : Fin 15 → EReal) : Nat → EReal
  | 0 => p
  | b + 1 => accu p q b + q ⟨14 - b, by omega⟩

/-- The inverse of the length of a group's window. -/
def inv : Nat → BitVec 32
  | 0 => 0x3F000000#32
  | 1 => 0x3E800000#32
  | 2 => 0x3E000000#32
  | _ => 0x3D800000#32

/-- How many rows before the new one a group's window takes. -/
def back : Nat → Nat
  | 0 => 1
  | 1 => 3
  | 2 => 7
  | _ => 15

/-- The mean over the window of group `gi`, less the new element. -/
def pooled (gi : Nat) (p : EReal) (q : Fin 15 → EReal) : EReal :=
  accu p q (back gi) * Ideal.ofBits FTy.f32 (inv gi) - p

section Kernel
open Cert.Kernel8Ideal Cert.Kernel8Ideal.Gen

/-- Element `(r, C)` of the block. -/
def blockAt (x0 : Vec Ideal S32x1024 .f32) (x1 : Vec Ideal S15x32x1024 .f32) (x2 : Vec Ideal S32x1024 .f32) (x3 : Vec Ideal S32x2048 .f32) (x4 : Vec Ideal S4x256x256 .bf16) (x5 : Vec Ideal S1x1024 .f32)
    (r : Fin 32) (C : Fin 2048) : EReal :=
  if h : C.val < 1024 then x2 (ix2 r ⟨C.val, h⟩) * (x3 (ix2 r C) * Ideal.logistic (x3 (ix2 r C)))
  else (∑ x : Fin 256, pooled ((C.val - 1024) / 256) (x0 (ix2 r ⟨(C.val - 1024) / 256 * 256 + x.val, by omega⟩)) (fun k => x1 (ix3 k r ⟨(C.val - 1024) / 256 * 256 + x.val, by omega⟩))
      * x4 (ix3 ⟨(C.val - 1024) / 256, by omega⟩ x ⟨(C.val - 1024) % 256, by omega⟩)) * x5 (ix2 0 ⟨C.val - 1024, by omega⟩) * (x3 (ix2 r C) * Ideal.logistic (x3 (ix2 r C)))

theorem pay3_apply (x : Vec Ideal S32x1024 .f32) (r : Fin 32) (c : Fin 1024) : k0_pay3 x (ix2 r c) = x (ix2 r c) := by
  pointwise [k0_pay3]

theorem pay11_apply (x : Vec Ideal S32x2048 .f32) (r : Fin 32) (c : Fin 2048) : k0_pay11 x (ix2 r c) = x (ix2 r c) := by
  pointwise [k0_pay11]

theorem pay12_apply (x2 : Vec Ideal S32x1024 .f32) (x3 : Vec Ideal S32x2048 .f32) (r : Fin 32) (c : Fin 1024) :
    k0_pay12 x2 x3 (ix2 r c) = x2 (ix2 r c) * (x3 (ix2 r ⟨c.val, by omega⟩) * Ideal.logistic (x3 (ix2 r ⟨c.val, by omega⟩))) := by
  pointwise [k0_pay12, k0_pay11]

theorem cast_apply (v : FVec Ideal S1x32x256 .f32) (h) (r : Fin 32) (c : Fin 256) : shapeCast S32x256 v h (ix2 r c) = v (ix3 0 r c) := by
  pointwise

theorem ld_prev (x1 : Vec Ideal S15x32x1024 .f32) (k o : Nat) (hk : k < 15) (ho : o + 256 ≤ 1024) (inb) (r : Fin 32) (c : Fin 256) :
    View.ld x1 (Rect.unit (s := S15x32x1024) ![k, 0, o] S1x32x256.size inb) (ix3 0 r c) = x1 (ix3 ⟨k, hk⟩ r ⟨o + c.val, by omega⟩) := by
  pointwise

theorem win_apply (o : Nat) (ho : o + 256 ≤ 1024) (p : FVec Ideal S32x1024 .f32) (x1 : Vec Ideal S15x32x1024 .f32) (b : Nat) (r : Fin 32) (c : Fin 256) :
    win o ho p x1 b (ix2 r c) = accu (p (ix2 r ⟨o + c.val, by omega⟩)) (fun k => x1 (ix3 k r ⟨o + c.val, by omega⟩)) b := by
  induction b with
  | zero =>
    unfold win accu
    pointwise
  | succ b ih =>
    unfold win accu
    exact congrArg₂ (· + ·) ih ((cast_apply _ _ r c).trans (ld_prev x1 (14 - b) o _ ho _ r c))

theorem grp_apply (o og : Nat) (ho : o + 256 ≤ 1024) (hog : og + 256 ≤ 2048) (h : S32x1024.Slices ![0, o] S32x256) (hg : S32x2048.Slices ![0, og] S32x256) (iv : BitVec 32) (p : FVec Ideal S32x1024 .f32) (s : FVec Ideal S32x256 .f32)
    (g : FVec Ideal S32x2048 .f32) (w : Vec Ideal S1x256x256 .bf16) (sc : Vec Ideal S1x256 .f32) (r : Fin 32) (d : Fin 256) :
    grp o og h hg iv p s g w sc (ix2 r d) = (∑ x : Fin 256, (s (ix2 r x) * Ideal.ofBits FTy.f32 iv - p (ix2 r ⟨o + x.val, by omega⟩)) * w (ix3 0 x d)) * sc (ix2 0 d)
      * (g (ix2 r ⟨og + d.val, by omega⟩) * Ideal.logistic (g (ix2 r ⟨og + d.val, by omega⟩))) := by
  pointwise [grp]

theorem piece_apply (gi o og : Nat) (hgi : gi < 4) (hO : o = gi * 256) (hOg : og = 1024 + gi * 256) (ho : o + 256 ≤ 1024) (h hg) (iv : BitVec 32) (hiv : iv = inv gi) (b : Nat) (hb : b = back gi) (inb6 inb4 inb5)
    (x0 : Vec Ideal S32x1024 .f32) (x1 : Vec Ideal S15x32x1024 .f32) (x2 : Vec Ideal S32x1024 .f32) (x3 : Vec Ideal S32x2048 .f32) (x4 : Vec Ideal S4x256x256 .bf16) (x5 : Vec Ideal S1x1024 .f32)
    (y : (Rect.unit (s := S32x2048) ![0, og] S32x256.size inb6).shape.Idx) :
    grp o og h hg iv (k0_pay3 x0) (win o ho (k0_pay3 x0) x1 b) (k0_pay11 x3) (View.ld x4 (Rect.unit (s := S4x256x256) ![gi, 0, 0] S1x256x256.size inb4)) (View.ld x5 (Rect.unit (s := S1x1024) ![0, o] S1x256.size inb5)) y
      = blockAt x0 x1 x2 x3 x4 x5 (((Rect.unit (s := S32x2048) ![0, og] S32x256.size inb6).emb y) 0) (((Rect.unit (s := S32x2048) ![0, og] S32x256.size inb6).emb y) 1) := by
  obtain ⟨r, d, rfl⟩ : ∃ (r : Fin 32) (d : Fin 256), y = ix2 r d := ⟨y 0, y 1, eq_ix2 y⟩
  have hr : ((Rect.unit (s := S32x2048) ![0, og] S32x256.size inb6).emb (ix2 r d)) 0 = r := Fin.ext (by show 0 + 1 * r.val = _; omega)
  have hc : ((Rect.unit (s := S32x2048) ![0, og] S32x256.size inb6).emb (ix2 r d)) 1 = (⟨og + d.val, by omega⟩ : Fin 2048) := Fin.ext (by show og + 1 * d.val = _; dsimp only; omega)
  rw [hr, hc]
  refine (grp_apply o og ho (by omega) h hg iv _ _ _ _ _ r d).trans ?_
  unfold blockAt
  rw [dif_neg (by dsimp only; omega)]
  dsimp only
  have n1 : (og + d.val - 1024) / 256 = gi := by omega
  have e2 : (⟨(og + d.val - 1024) / 256, by omega⟩ : Fin 4) = ⟨gi, hgi⟩ := Fin.ext (by dsimp only; omega)
  have e3 : (⟨(og + d.val - 1024) % 256, by omega⟩ : Fin 256) = d := Fin.ext (by dsimp only; omega)
  have e4 : (⟨og + d.val - 1024, by omega⟩ : Fin 1024) = ⟨o + d.val, by omega⟩ := Fin.ext (by dsimp only; omega)
  have e5 : ∀ x : Fin 256, (⟨(og + d.val - 1024) / 256 * 256 + x.val, by omega⟩ : Fin 1024) = ⟨o + x.val, by omega⟩ := fun x => Fin.ext (by dsimp only; omega)
  simp only [e2, e3, e4, e5]
  have l5 : View.ld x5 (Rect.unit (s := S1x1024) ![0, o] S1x256.size inb5) (ix2 0 d) = x5 (ix2 0 ⟨o + d.val, by omega⟩) := by pointwise
  have l4 : ∀ x : Fin 256, View.ld x4 (Rect.unit (s := S4x256x256) ![gi, 0, 0] S1x256x256.size inb4) (ix3 0 x d) = x4 (ix3 ⟨gi, hgi⟩ x d) := fun x => by pointwise
  rw [l5, n1, pay11_apply]
  refine congrArg (fun t : EReal => t * _ * _) (Finset.sum_congr rfl fun x _ => ?_)
  rw [l4, win_apply, pay3_apply, hiv, hb]
  rfl

theorem piece_first (inb6) (x0 : Vec Ideal S32x1024 .f32) (x1 : Vec Ideal S15x32x1024 .f32) (x2 : Vec Ideal S32x1024 .f32) (x3 : Vec Ideal S32x2048 .f32) (x4 : Vec Ideal S4x256x256 .bf16) (x5 : Vec Ideal S1x1024 .f32)
    (y : (Rect.unit (s := S32x2048) ![0, 0] S32x1024.size inb6).shape.Idx) :
    k0_pay12 x2 x3 y = blockAt x0 x1 x2 x3 x4 x5 (((Rect.unit (s := S32x2048) ![0, 0] S32x1024.size inb6).emb y) 0) (((Rect.unit (s := S32x2048) ![0, 0] S32x1024.size inb6).emb y) 1) := by
  obtain ⟨r, d, rfl⟩ : ∃ (r : Fin 32) (d : Fin 1024), y = ix2 r d := ⟨y 0, y 1, eq_ix2 y⟩
  have hr : ((Rect.unit (s := S32x2048) ![0, 0] S32x1024.size inb6).emb (ix2 r d)) 0 = r := Fin.ext (by show 0 + 1 * r.val = _; omega)
  have hc : ((Rect.unit (s := S32x2048) ![0, 0] S32x1024.size inb6).emb (ix2 r d)) 1 = (⟨d.val, by omega⟩ : Fin 2048) := Fin.ext (by show 0 + 1 * d.val = _; dsimp only; omega)
  rw [hr, hc]
  refine (pay12_apply x2 x3 r d).trans ?_
  unfold blockAt
  rw [dif_pos d.isLt]

theorem canon_pieces (x0 : Vec Ideal S32x1024 .f32) (x1 : Vec Ideal S15x32x1024 .f32) (x2 : Vec Ideal S32x1024 .f32) (x3 : Vec Ideal S32x2048 .f32) (x4 : Vec Ideal S4x256x256 .bf16) (x5 : Vec Ideal S1x1024 .f32) (y : S32x2048.Idx)
    (hy : ∃ p ∈ pieces x0 x1 x2 x3 x4 x5, y ∈ p.1.set) :
    View.canon (pieces x0 x1 x2 x3 x4 x5) y = blockAt x0 x1 x2 x3 x4 x5 (y 0) (y 1) := by
  refine View.canon_apply_of_pieces (fun y => blockAt x0 x1 x2 x3 x4 x5 (y 0) (y 1)) _ ?_ y hy
  unfold pieces
  refine List.forall_mem_cons.mpr ⟨fun x => piece_apply 3 768 1792 (by decide) rfl rfl (by decide) _ _ _ rfl _ rfl inb_S32x2048_S32x256_0_1792 inb_S4x256x256_S1x256x256_3_0_0 inb_S1x1024_S1x256_0_768 x0 x1 x2 x3 x4 x5 x, ?_⟩
  refine List.forall_mem_cons.mpr ⟨fun x => piece_apply 2 512 1536 (by decide) rfl rfl (by decide) _ _ _ rfl _ rfl inb_S32x2048_S32x256_0_1536 inb_S4x256x256_S1x256x256_2_0_0 inb_S1x1024_S1x256_0_512 x0 x1 x2 x3 x4 x5 x, ?_⟩
  refine List.forall_mem_cons.mpr ⟨fun x => piece_apply 1 256 1280 (by decide) rfl rfl (by decide) _ _ _ rfl _ rfl inb_S32x2048_S32x256_0_1280 inb_S4x256x256_S1x256x256_1_0_0 inb_S1x1024_S1x256_0_256 x0 x1 x2 x3 x4 x5 x, ?_⟩
  refine List.forall_mem_cons.mpr ⟨fun x => piece_apply 0 0 1024 (by decide) rfl rfl (by decide) _ _ _ rfl _ rfl inb_S32x2048_S32x256_0_1024 inb_S4x256x256_S1x256x256_0_0_0 inb_S1x1024_S1x256_0_0 x0 x1 x2 x3 x4 x5 x, ?_⟩
  refine List.forall_mem_cons.mpr ⟨fun x => piece_first inb_S32x2048_S32x1024_0_0 x0 x1 x2 x3 x4 x5 x, ?_⟩
  exact fun p hp => absurd hp (List.not_mem_nil)

theorem cover_pieces (x0 : Vec Ideal S32x1024 .f32) (x1 : Vec Ideal S15x32x1024 .f32) (x2 : Vec Ideal S32x1024 .f32) (x3 : Vec Ideal S32x2048 .f32) (x4 : Vec Ideal S4x256x256 .bf16) (x5 : Vec Ideal S1x1024 .f32) (y : S32x2048.Idx) :
    ∃ p ∈ pieces x0 x1 x2 x3 x4 x5, y ∈ p.1.set := by
  have h0 : (y 0 : Nat) < 32 := (y 0).isLt
  have h1 : (y 1 : Nat) < 2048 := (y 1).isLt
  have key : ∀ (o n : Nat) (inb), o ≤ (y 1).val → (y 1).val < o + n → y ∈ (Rect.unit (s := S32x2048) ![0, o] ![32, n] inb).set := fun o n inb hl hu => by
    rw [Rect.mem_set_unit]
    intro a
    match a with
    | ⟨0, _⟩ => show 0 ≤ (y 0).val ∧ (y 0).val < 0 + 32; omega
    | ⟨1, _⟩ => show o ≤ (y 1).val ∧ (y 1).val < o + n; omega
  unfold pieces
  by_cases c1 : (y 1).val < 1024
  · exact ⟨_, List.mem_cons_of_mem _ (List.mem_cons_of_mem _ (List.mem_cons_of_mem _ (List.mem_cons_of_mem _ (List.mem_singleton_self _)))), key 0 1024 inb_S32x2048_S32x1024_0_0 (by omega) (by omega)⟩
  by_cases c2 : (y 1).val < 1280
  · exact ⟨_, List.mem_cons_of_mem _ (List.mem_cons_of_mem _ (List.mem_cons_of_mem _ (List.mem_cons_self))), key 1024 256 inb_S32x2048_S32x256_0_1024 (by omega) (by omega)⟩
  by_cases c3 : (y 1).val < 1536
  · exact ⟨_, List.mem_cons_of_mem _ (List.mem_cons_of_mem _ (List.mem_cons_self)), key 1280 256 inb_S32x2048_S32x256_0_1280 (by omega) (by omega)⟩
  by_cases c4 : (y 1).val < 1792
  · exact ⟨_, List.mem_cons_of_mem _ (List.mem_cons_self), key 1536 256 inb_S32x2048_S32x256_0_1536 (by omega) (by omega)⟩
  · exact ⟨_, List.mem_cons_self, key 1792 256 inb_S32x2048_S32x256_0_1792 (by omega) (by omega)⟩

end Kernel

end Cert.PoolRow
-- ==== Proof.PoolRow.Array.lean ====
/-
  The sample's pooling: what the kernel leaves in its result array, and the pooling state the host code makes.
-/
module

public import proofs.«01_k».proof.Proof.PoolRow.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.PoolRow

/-- Element `(R, C)` of the gated rows. -/
def outOf (z : FVec Ideal ⟨2, ![32, 6144]⟩ .f32) (oa : FVec Ideal ⟨2, ![32, 1024]⟩ .f32) (sp : FVec Ideal ⟨4, ![1, 32, 15, 1024]⟩ .f32) (wp : FVec Ideal ⟨4, ![1, 4, 256, 256]⟩ .f32) (sc : FVec Ideal ⟨2, ![1, 1024]⟩ .f32)
    (R : Fin 32) (C : Fin 2048) : EReal :=
  if h : C.val < 1024 then oa (ix2 R ⟨C.val, h⟩) * (z (ix2 R ⟨4096 + C.val, by omega⟩) * Ideal.logistic (z (ix2 R ⟨4096 + C.val, by omega⟩)))
  else (∑ x : Fin 256, pooled ((C.val - 1024) / 256) (z (ix2 R ⟨3072 + ((C.val - 1024) / 256 * 256 + x.val), by omega⟩)) (fun k => sp (ix4 0 R k ⟨(C.val - 1024) / 256 * 256 + x.val, by omega⟩))
      * wp (ix4 0 ⟨(C.val - 1024) / 256, by omega⟩ x ⟨(C.val - 1024) % 256, by omega⟩)) * sc (ix2 0 ⟨C.val - 1024, by omega⟩)
    * (z (ix2 R ⟨4096 + C.val, by omega⟩) * Ideal.logistic (z (ix2 R ⟨4096 + C.val, by omega⟩)))

/-- Element `(R, k, C)` of the new pooling state: the old rows but the first, then the new row. -/
def stateOf (z : FVec Ideal ⟨2, ![32, 6144]⟩ .f32) (sp : FVec Ideal ⟨4, ![1, 32, 15, 1024]⟩ .f32) (R : Fin 32) (k : Fin 15) (C : Fin 1024) : EReal :=
  if h : k.val < 14 then sp (ix4 0 R ⟨k.val + 1, by omega⟩ C) else z (ix2 R ⟨3072 + C.val, by omega⟩)

open Cert.Kernel8Ideal Cert.Kernel8Ideal.Gen

variable (m : (ℓ : Loc nD τ sig) → Buf (Elt Ideal) ℓ)

/-- The projected rows, the attention's output, the pooling state, the pooling weights and the scale. -/
abbrev zA (c : Dev nD) : Vec Ideal S32x6144 .f32 := m ((c : Thread nD τ).loc main_arg0)
abbrev oA (c : Dev nD) : Vec Ideal S32x1024 .f32 := m ((c : Thread nD τ).loc main_arg1)
abbrev spA (c : Dev nD) : Vec Ideal S1x32x15x1024 .f32 := m ((c : Thread nD τ).loc main_arg2)
abbrev wA (c : Dev nD) : Vec Ideal S1x4x256x256 .f32 := m ((c : Thread nD τ).loc main_arg3)
abbrev scA (c : Dev nD) : Vec Ideal S1x1024 .f32 := m ((c : Thread nD τ).loc main_arg4)

theorem V_v2 (c : Dev nD) (r : Fin 32) (k : Fin 1024) : (V m c main_v2 : Vec Ideal S32x1024 .f32) (ix2 r k) = zA m c (ix2 r ⟨3072 + k.val, by omega⟩) := by
  have h : (V m c main_v2 : Vec Ideal S32x1024 .f32) = extractStridedSlice S32x1024 ![0, 3072] (zA m c) slices_S32x6144_S32x1024_0_3072 := by
    unfold_abbrev_sides
    after_results
    all_goals rfl
  rw [h]
  generalize zA m c = a
  pointwise []

theorem V_v10 (c : Dev nD) (r : Fin 32) (k : Fin 2048) : (V m c main_v10 : Vec Ideal S32x2048 .f32) (ix2 r k) = zA m c (ix2 r ⟨4096 + k.val, by omega⟩) := by
  have h : (V m c main_v10 : Vec Ideal S32x2048 .f32) = extractStridedSlice S32x2048 ![0, 4096] (zA m c) slices_S32x6144_S32x2048_0_4096 := by
    unfold_abbrev_sides
    after_results
    all_goals rfl
  rw [h]
  generalize zA m c = a
  pointwise []

theorem V_v4 (c : Dev nD) (j : Fin 15) (r : Fin 32) (k : Fin 1024) : (V m c main_v4 : Vec Ideal S15x32x1024 .f32) (ix3 j r k) = spA m c (ix4 0 r j k) := by
  have h : (V m c main_v4 : Vec Ideal S15x32x1024 .f32) = transpose S15x32x1024 [1, 0, 2] (shapeCast S32x15x1024 (spA m c) shapeCasts_S1x32x15x1024_S32x15x1024) transposes_S32x15x1024_S15x32x1024_1_0_2 := by
    unfold_abbrev_sides
    after_results
    all_goals rfl
  rw [h]
  generalize spA m c = a
  pointwise []

theorem V_v1 (c : Dev nD) (j : Fin 4) (r k : Fin 256) : (V m c main_v1 : Vec Ideal S4x256x256 .bf16) (ix3 j r k) = wA m c (ix4 0 j r k) := by
  have h : (V m c main_v1 : Vec Ideal S4x256x256 .bf16) = truncf (F := Ideal) .bf16 (shapeCast S4x256x256 (wA m c) shapeCasts_S1x4x256x256_S4x256x256 : FVec Ideal S4x256x256 .f32) bitsLt_bf16_f32 := by
    unfold_abbrev_sides
    after_results
    all_goals rfl
  rw [h]
  generalize wA m c = a
  pointwise []

theorem V_v12 (c : Dev nD) (k : Fin 1024) : (V m c main_v12 : Vec Ideal S1x1024 .f32) (ix2 0 k) = scA m c (ix2 0 k) := by
  have h : (V m c main_v12 : Vec Ideal S1x1024 .f32) = shapeCast S1x1024 (shapeCast S1024 (scA m c) shapeCasts_S1x1024_S1024) shapeCasts_S1024_S1x1024 := by
    unfold_abbrev_sides
    after_results
    all_goals rfl
  rw [h]
  generalize scA m c = a
  pointwise []

/-- The new pooling state, as the host code makes it. -/
def stateTerm (z : Vec Ideal S32x6144 .f32) (sp : Vec Ideal S1x32x15x1024 .f32) : Vec Ideal S1x32x15x1024 .f32 :=
  have old : Vec Ideal S32x14x1024 .f32 := extractStridedSlice S32x14x1024 ![0, 1, 0] (shapeCast S32x15x1024 sp shapeCasts_S1x32x15x1024_S32x15x1024) slices_S32x15x1024_S32x14x1024_0_1_0
  have new : Vec Ideal S32x1x1024 .f32 := broadcastInDim S32x1x1024 ![0, 2] bcast_S32x1024_S32x1x1024_0_2 (extractStridedSlice S32x1024 ![0, 3072] z slices_S32x6144_S32x1024_0_3072)
  have both : Vec Ideal S32x15x1024 .f32 := concatenate S32x15x1024 1 [⟨S32x14x1024, old⟩, ⟨S32x1x1024, new⟩] concatenates_S32x14x1024_S32x1x1024_S32x15x1024_d1
  broadcastInDim S1x32x15x1024 ![1, 2, 3] bcast_S32x15x1024_S1x32x15x1024_1_2_3 both

theorem stateTerm_apply (z : Vec Ideal S32x6144 .f32) (sp : Vec Ideal S1x32x15x1024 .f32) (R : Fin 32) (k : Fin 15) (C : Fin 1024) : stateTerm z sp (ix4 0 R k C) = stateOf z sp R k C := by
  pointwise [stateTerm, stateOf]
  by_cases h : k.val < 14
  · rw [dif_pos h, dif_pos h]
    exact congrArg (fun t => sp (ix4 0 R t C)) (Fin.ext (Nat.add_comm _ _))
  · rw [dif_neg h, dif_neg h]

theorem V_v9 (c : Dev nD) : (V m c main_v9 : Vec Ideal S1x32x15x1024 .f32) = stateTerm (zA m c) (spA m c) := by
  unfold_abbrev_sides
  after_results
  all_goals first | rfl | (dsimp only [Matrix.cons_val]; simp only [↓ StableHlo.readResult, ↓ StableHlo.readPieces, -eq_self]; rfl)

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = 0 ∧ win0_1.index t 1 = 0 ∧ win0_1.index t 2 = 0 := (by decide +kernel : ∀ t : Fin grid0.N, win0_1.index t 0 = 0 ∧ win0_1.index t 1 = 0 ∧ win0_1.index t 2 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 ∧ win0_4.index t 2 = 0 := (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = 0 ∧ win0_6.index t 1 = 0 := (by decide +kernel : ∀ t : Fin grid0.N, win0_6.index t 0 = 0 ∧ win0_6.index t 1 = 0)

theorem iblk0_apply (c : Dev nD) (t : Fin cfg0.N) (r : Fin 32) (k : Fin 1024) : (iblk m c 0 t : Vec Ideal S32x1024 .f32) (ix2 r k) = zA m c (ix2 r ⟨3072 + k.val, by omega⟩) := by
  refine Eq.trans ?_ (V_v2 m c r k)
  have hi := index0 t
  unfold iblk
  rw [View.read_apply]
  show V m c main_v2 _ = V m c main_v2 _
  congr 1
  funext a
  apply Fin.ext
  match a with
  | ⟨0, _⟩ => show win0_0.index t 0 * 32 + 1 * r.val = r.val; rw [hi.1]; all_goals omega
  | ⟨1, _⟩ => show win0_0.index t 1 * 1024 + 1 * k.val = k.val; rw [hi.2]; all_goals omega

theorem iblk1_apply (c : Dev nD) (t : Fin cfg0.N) (j : Fin 15) (r : Fin 32) (k : Fin 1024) : (iblk m c 1 t : Vec Ideal S15x32x1024 .f32) (ix3 j r k) = spA m c (ix4 0 r j k) := by
  refine Eq.trans ?_ (V_v4 m c j r k)
  have hi := index1 t
  unfold iblk
  rw [View.read_apply]
  show V m c main_v4 _ = V m c main_v4 _
  congr 1
  funext a
  apply Fin.ext
  match a with
  | ⟨0, _⟩ => show win0_1.index t 0 * 15 + 1 * j.val = j.val; rw [hi.1]; all_goals omega
  | ⟨1, _⟩ => show win0_1.index t 1 * 32 + 1 * r.val = r.val; rw [hi.2.1]; all_goals omega
  | ⟨2, _⟩ => show win0_1.index t 2 * 1024 + 1 * k.val = k.val; rw [hi.2.2]; all_goals omega

theorem iblk2_apply (c : Dev nD) (t : Fin cfg0.N) (r : Fin 32) (k : Fin 1024) : (iblk m c 2 t : Vec Ideal S32x1024 .f32) (ix2 r k) = oA m c (ix2 r k) := by
  refine Eq.trans ?_ (congrFun (V_main_arg1 m c) (ix2 r k))
  have hi := index2 t
  unfold iblk
  rw [View.read_apply]
  show V m c main_arg1 _ = V m c main_arg1 _
  congr 1
  funext a
  apply Fin.ext
  match a with
  | ⟨0, _⟩ => show win0_2.index t 0 * 32 + 1 * r.val = r.val; rw [hi.1]; all_goals omega
  | ⟨1, _⟩ => show win0_2.index t 1 * 1024 + 1 * k.val = k.val; rw [hi.2]; all_goals omega

theorem iblk3_apply (c : Dev nD) (t : Fin cfg0.N) (r : Fin 32) (k : Fin 2048) : (iblk m c 3 t : Vec Ideal S32x2048 .f32) (ix2 r k) = zA m c (ix2 r ⟨4096 + k.val, by omega⟩) := by
  refine Eq.trans ?_ (V_v10 m c r k)
  have hi := index3 t
  unfold iblk
  rw [View.read_apply]
  show V m c main_v10 _ = V m c main_v10 _
  congr 1
  funext a
  apply Fin.ext
  match a with
  | ⟨0, _⟩ => show win0_3.index t 0 * 32 + 1 * r.val = r.val; rw [hi.1]; all_goals omega
  | ⟨1, _⟩ => show win0_3.index t 1 * 2048 + 1 * k.val = k.val; rw [hi.2]; all_goals omega

theorem iblk4_apply (c : Dev nD) (t : Fin cfg0.N) (j : Fin 4) (r k : Fin 256) : (iblk m c 4 t : Vec Ideal S4x256x256 .bf16) (ix3 j r k) = wA m c (ix4 0 j r k) := by
  refine Eq.trans ?_ (V_v1 m c j r k)
  have hi := index4 t
  unfold iblk
  rw [View.read_apply]
  show V m c main_v1 _ = V m c main_v1 _
  congr 1
  funext a
  apply Fin.ext
  match a with
  | ⟨0, _⟩ => show win0_4.index t 0 * 4 + 1 * j.val = j.val; rw [hi.1]; all_goals omega
  | ⟨1, _⟩ => show win0_4.index t 1 * 256 + 1 * r.val = r.val; rw [hi.2.1]; all_goals omega
  | ⟨2, _⟩ => show win0_4.index t 2 * 256 + 1 * k.val = k.val; rw [hi.2.2]; all_goals omega

theorem iblk5_apply (c : Dev nD) (t : Fin cfg0.N) (k : Fin 1024) : (iblk m c 5 t : Vec Ideal S1x1024 .f32) (ix2 0 k) = scA m c (ix2 0 k) := by
  refine Eq.trans ?_ (V_v12 m c k)
  have hi := index5 t
  unfold iblk
  rw [View.read_apply]
  show V m c main_v12 _ = V m c main_v12 _
  congr 1
  funext a
  apply Fin.ext
  match a with
  | ⟨0, _⟩ => show win0_5.index t 0 * 1 + 1 * 0 = 0; rw [hi.1]; all_goals omega
  | ⟨1, _⟩ => show win0_5.index t 1 * 1024 + 1 * k.val = k.val; rw [hi.2]; all_goals omega

/-- The result array: the gated rows. -/
def G6 (c : Dev nD) : Buf (Elt Ideal) ((c : Thread nD τ).loc main_v13) := fun j : S32x2048.Idx => outOf (zA m c) (oA m c) (spA m c) (wA m c) (scA m c) (j 0) (j 1)

theorem block_apply (c : Dev nD) (t : Fin cfg0.N) (r : Fin 32) (C : Fin 2048) :
    blockAt (iblk m c 0 t) (iblk m c 1 t) (iblk m c 2 t) (iblk m c 3 t) (iblk m c 4 t) (iblk m c 5 t) r C = outOf (zA m c) (oA m c) (spA m c) (wA m c) (scA m c) r C := by
  unfold blockAt outOf
  by_cases h : C.val < 1024
  · rw [dif_pos h, dif_pos h, iblk2_apply, iblk3_apply]
  · rw [dif_neg h, dif_neg h, iblk3_apply, iblk5_apply]
    refine congrArg (fun t : EReal => t * _ * _) (Finset.sum_congr rfl fun x _ => ?_)
    rw [iblk0_apply, iblk4_apply]
    simp only [iblk1_apply]

theorem flushed6_eq (c : Dev nD) (t : Fin cfg0.N) (_ : (cfg0.win 6).flush t = true) :
    (dats m 0 c).flushed 6 t = ((cfg0.win 6).blk t).view.read (Elt Ideal) (G6 m c) := by
  have hi := index6 t
  have ho : ∀ y : S32x2048.Idx, (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) : Vec Ideal S32x2048 .bf16) y
      = outOf (zA m c) (oA m c) (spA m c) (wA m c) (scA m c) (y 0) (y 1) := fun y => by
    rw [out6_eq, canon_pieces _ _ _ _ _ _ y (cover_pieces _ _ _ _ _ _ y)]
    exact block_apply m c t (y 0) (y 1)
  rw [Value.flushed6_A]
  generalize out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) = o at ho
  funext j
  rw [View.read_apply]
  refine (ho j).trans ?_
  unfold G6
  refine congrArg₂ (outOf (zA m c) (oA m c) (spA m c) (wA m c) (scA m c)) (Fin.ext ?_) (Fin.ext ?_)
  · show (j 0).val = win0_6.index t 0 * 32 + 1 * (j 0).val; rw [hi.1]; omega
  · show (j 1).val = win0_6.index t 1 * 2048 + 1 * (j 1).val; rw [hi.2]; omega

theorem cover6 (i : S32x2048.Idx) : ∃ t : Fin cfg0.N, (cfg0.win 6).flush t = true ∧ i ∈ ((cfg0.win 6).blk t).view.set := by
  have h0 : (i 0 : Nat) < 32 := (i 0).isLt
  have h1 : (i 1 : Nat) < 2048 := (i 1).isLt
  have hi := index6 t0_0
  refine ⟨t0_0, flush0_6 t0_0, ?_⟩
  show i ∈ ((View.whole main_v13).slice (win0_6.rect t0_0)).set
  rw [View.set_slice_whole, Rect.mem_set_unit]
  intro a
  match a with
  | ⟨0, _⟩ => show win0_6.index t0_0 0 * 32 ≤ (i 0).val ∧ (i 0).val < win0_6.index t0_0 0 * 32 + 32; rw [hi.1]; omega
  | ⟨1, _⟩ => show win0_6.index t0_0 1 * 2048 ≤ (i 1).val ∧ (i 1).val < win0_6.index t0_0 1 * 2048 + 2048; rw [hi.2]; omega

theorem final6 (c : Dev nD) : (dats m 0 c).arrAt 6 cfg0.N = G6 m c := (dats m 0 c).arrAt_eq_of_cover 6 (G6 m c) (flushed6_eq m c) cover6

/-- The run, with both results named. -/
theorem kernel_run (g : Dev nD → PrngReg) : θ_run defs (onTc (τ := τ) (main (F := Ideal))) ⟨m, fun _ => 0, g⟩ fun r => ∀ c : Dev nD,
      r.2.mem ((c : Thread nD τ).loc main_v13) = G6 m c
      ∧ r.2.mem ((c : Thread nD τ).loc main_v9) = stateTerm (zA m c) (spA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(Value.post6 m r h c).trans (final6 m c),
      ((h c).2 main_v9 (Pipeline.mem_restRefs_of main_v9 (by decide) (by decide))).trans (V_v9 m c),
      Value.kept_main_arg0 m r h c,
      Value.kept_main_arg1 m r h c,
      Value.kept_main_arg2 m r h c,
      Value.kept_main_arg3 m r h c,
      Value.kept_main_arg4 m r h c⟩)
    (run_main m g)

end Cert.PoolRow
-- ==== Proof.PoolRow.Cumsum.lean ====
/-
  The reference's running sums over the sixteen rows, read at an element, and a window's sum as a difference of two of them.
-/
module

public import proofs.«01_k».proof.Proof.PoolRow.Array
public import proofs.«01_k».proof.Proof.Gen.Reference8Ideal.Read
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.PoolRow

/-- Row `k` of the sixteen rows the reference sums, at column `C`. -/
def rowOf (z : FVec Ideal ⟨2, ![32, 6144]⟩ .f32) (sp : FVec Ideal ⟨4, ![1, 32, 15, 1024]⟩ .f32) (R : Fin 32) (C : Fin 1024) (k : Nat) : EReal :=
  if h : k < 15 then sp (ix4 0 R ⟨k, h⟩ C) else z (ix2 R ⟨3072 + C.val, by omega⟩)

theorem foldl_add_eq {α : Type} (f : α → EReal) (g : EReal → α → EReal) (hg : ∀ a n, g a n = a + f n) (L : List α) (a : EReal) : L.foldl g a = a + (L.map f).sum := by
  induction L generalizing a with
  | nil => simp
  | cons x L ih => rw [List.foldl_cons, ih, hg, List.map_cons, List.sum_cons, add_assoc]

open Cert.Reference8Ideal Cert.Reference8Ideal.Read Cert.Reference8Ideal.Facts₀

theorem symm_row : ∀ n : Fin (⟨3, ![1, 16, 1]⟩ : Shape).numel, ((⟨3, ![1, 16, 1]⟩ : Shape).rowMajor.symm n 1).val = n.val ∧ ((⟨3, ![1, 16, 1]⟩ : Shape).rowMajor.symm n 0).val = 0 ∧ ((⟨3, ![1, 16, 1]⟩ : Shape).rowMajor.symm n 2).val = 0 := by
  decide +kernel

theorem window_sum (f : Nat → EReal) (j : Nat) (hj : j < 16) : (∑ n ∈ Finset.range 16, if 15 ≤ j + n then f (j + n - 15) else 0) = ∑ k ∈ Finset.range (j + 1), f k := by
  obtain ⟨d, hd⟩ : ∃ d, 16 = d + (j + 1) := ⟨15 - j, by omega⟩
  rw [hd, Finset.sum_range_add, Finset.sum_eq_zero, zero_add]
  · refine Finset.sum_congr rfl fun k hk => ?_
    have := Finset.mem_range.mp hk
    rw [if_pos (by omega)]
    exact congrArg f (by omega)
  · intro k hk
    have := Finset.mem_range.mp hk
    rw [if_neg (by omega)]

theorem rows_apply (z : Vec Ideal S32x6144 .f32) (sp : Vec Ideal S1x32x15x1024 .f32) (R : Fin 32) (k : Fin 16) (C : Fin 1024) :
    val_main_v7 (F := Ideal) z sp (ix3 R k C) = rowOf z sp R C k.val := by
  pointwise [val_main_v7, val_main_v4, val_main_v2, val_main_v1, val_main_v0, rowOf]

theorem cumsum_apply (z : Vec Ideal S32x6144 .f32) (sp : Vec Ideal S1x32x15x1024 .f32) (R : Fin 32) (j : Fin 16) (C : Fin 1024) :
    val_main_v8 (F := Ideal) z sp (ix3 R j C) = ∑ k ∈ Finset.range (j.val + 1), rowOf z sp R C k := by
  have hx := fun k : Fin 16 => rows_apply z sp R k C
  have h0 : val_main_call0_call0_v0 (F := Ideal) (Shape.Idx.first h_S_) = (0 : EReal) := Ideal.ofBits_zero_f32
  unfold val_main_v8
  generalize val_main_v7 (F := Ideal) z sp = x at hx
  show Host.reduceWindow (· + ·) ![1, 16, 1] ![1, 1, 1] ![0, 15, 0] ![0, 0, 0] x (fun _ : (⟨0, ![]⟩ : Shape).Idx => (val_main_call0_call0_v0 (F := Ideal) (Shape.Idx.first h_S_) : EReal)) reduceWindows_S32x16x1024_S32x16x1024_w1s1p0_0_w16s1p15_0_w1s1p0_0 (by decide) (ix3 R j C) = _
  rw [h0]
  unfold Host.reduceWindow
  refine (foldl_add_eq (fun n : Fin (⟨3, ![1, 16, 1]⟩ : Shape).numel => if 15 ≤ j.val + n.val then rowOf z sp R C (j.val + n.val - 15) else 0) _ (fun a n => ?_) _ _).trans ?_
  · obtain ⟨w1, w0, w2⟩ := symm_row n
    have hn : n.val < 16 := n.isLt
    have hj := j.isLt
    have hR := R.isLt
    have hC := C.isLt
    refine congrArg (a + ·) ?_
    split
    · next hin =>
      have h1 := hin 1
      change 15 ≤ j.val * 1 + ((⟨3, ![1, 16, 1]⟩ : Shape).rowMajor.symm n 1).val ∧ j.val * 1 + ((⟨3, ![1, 16, 1]⟩ : Shape).rowMajor.symm n 1).val - 15 < 16 at h1
      rw [w1] at h1
      rw [if_pos (by omega)]
      refine (congrArg x (funext fun a => Fin.ext ?_)).trans (hx ⟨j.val + n.val - 15, by omega⟩)
      match a with
      | ⟨0, _⟩ => show R.val * 1 + ((⟨3, ![1, 16, 1]⟩ : Shape).rowMajor.symm n 0).val - 0 = R.val; rw [w0]; omega
      | ⟨1, _⟩ => show j.val * 1 + ((⟨3, ![1, 16, 1]⟩ : Shape).rowMajor.symm n 1).val - 15 = j.val + n.val - 15; rw [w1]; omega
      | ⟨2, _⟩ => show C.val * 1 + ((⟨3, ![1, 16, 1]⟩ : Shape).rowMajor.symm n 2).val - 0 = C.val; rw [w2]; omega
    · next hin =>
      rw [if_neg]
      intro h15
      refine hin fun a => ?_
      match a with
      | ⟨0, _⟩ => show 0 ≤ R.val * 1 + ((⟨3, ![1, 16, 1]⟩ : Shape).rowMajor.symm n 0).val ∧ R.val * 1 + ((⟨3, ![1, 16, 1]⟩ : Shape).rowMajor.symm n 0).val - 0 < 32; rw [w0]; omega
      | ⟨1, _⟩ => show 15 ≤ j.val * 1 + ((⟨3, ![1, 16, 1]⟩ : Shape).rowMajor.symm n 1).val ∧ j.val * 1 + ((⟨3, ![1, 16, 1]⟩ : Shape).rowMajor.symm n 1).val - 15 < 16; rw [w1]; omega
      | ⟨2, _⟩ => show 0 ≤ C.val * 1 + ((⟨3, ![1, 16, 1]⟩ : Shape).rowMajor.symm n 2).val ∧ C.val * 1 + ((⟨3, ![1, 16, 1]⟩ : Shape).rowMajor.symm n 2).val - 0 < 1024; rw [w2]; omega
  · rw [zero_add, ← Fin.sum_univ_def, Fin.sum_univ_eq_sum_range (fun n => if 15 ≤ j.val + n then rowOf z sp R C (j.val + n - 15) else 0)]
    exact window_sum (rowOf z sp R C) j.val j.isLt

/-- The running sum of the first `n` rows. -/
theorem sums_apply (z : Vec Ideal S32x6144 .f32) (sp : Vec Ideal S1x32x15x1024 .f32) (R : Fin 32) (n : Fin 17) (C : Fin 1024) :
    val_main_v11 (F := Ideal) z sp (ix3 R n C) = ∑ k ∈ Finset.range n.val, rowOf z sp R C k := by
  have hc := fun j : Fin 16 => cumsum_apply z sp R j C
  have h10 : val_main_v10 (F := Ideal) (ix3 R 0 C) = (0 : EReal) := Ideal.ofBits_zero_f32
  unfold val_main_v11
  generalize val_main_v8 (F := Ideal) z sp = x at hc
  generalize val_main_v10 (F := Ideal) = y at h10
  pointwise
  by_cases h : n.val < 1
  · obtain rfl : n = 0 := Fin.ext (by show n.val = 0; omega)
    rw [dif_pos h]
    exact h10
  · rw [dif_neg h]
    refine (hc _).trans ?_
    dsimp only
    rw [Nat.sub_add_cancel (by omega)]

end Cert.PoolRow
-- ==== Proof.PoolRow.Window.lean ====
/-
  A window's sum as the difference of two running sums, over rows that are finite.
-/
module

public import proofs.«01_k».proof.Proof.PoolRow.Array
public import Idealize.ShloMosaic.Lib.KernelVsHost

@[expose] public section

noncomputable section

open Idealize.ShloMosaic Idealize.ShloMosaic.TcCoe Idealize.SL.Sem

namespace Cert.PoolRow

/-- A sum of finite values is finite. -/
theorem sum_finite (f : Nat → EReal) (hf : ∀ k, ∃ r : ℝ, f k = (r : EReal)) (n : Nat) : ∃ r : ℝ, ∑ k ∈ Finset.range n, f k = (r : EReal) := by
  induction n with
  | zero => exact ⟨0, by simp⟩
  | succ n ih =>
    obtain ⟨a, ha⟩ := ih
    obtain ⟨b, hb⟩ := hf n
    exact ⟨a + b, by rw [Finset.sum_range_succ, ha, hb, EReal.coe_add]⟩

/-- The kernel's accumulation is the sum of the last rows. -/
theorem accu_eq (f : Nat → EReal) (p : EReal) (q : Fin 15 → EReal) (hp : p = f 15) (hq : ∀ k : Fin 15, q k = f k.val) (b : Nat) (hb : b ≤ 15) :
    accu p q b = ∑ i ∈ Finset.range (b + 1), f (15 - b + i) := by
  induction b with
  | zero => simp [accu, hp]
  | succ b ih =>
    rw [Finset.sum_range_succ', accu, ih (by omega), hq]
    refine congrArg₂ (· + ·) (Finset.sum_congr rfl fun i _ => congrArg f ?_) (congrArg f ?_)
    · omega
    · show 14 - b = 15 - (b + 1) + 0
      omega

theorem diff_eq (f : Nat → EReal) (hf : ∀ k, ∃ r : ℝ, f k = (r : EReal)) (p : EReal) (q : Fin 15 → EReal) (hp : p = f 15) (hq : ∀ k : Fin 15, q k = f k.val) (b : Nat) (hb : b ≤ 15) :
    ∑ k ∈ Finset.range 16, f k - ∑ k ∈ Finset.range (15 - b), f k = accu p q b := by
  obtain ⟨r, hr⟩ := sum_finite f hf (15 - b)
  have h16 : 16 = 15 - b + (b + 1) := by omega
  rw [accu_eq f p q hp hq b hb, congrArg Finset.range h16, Finset.sum_range_add, hr, add_comm]
  exact EReal.add_sub_cancel_right

theorem inv_eq (gi : Nat) (n : BitVec 32) (hn : (gi = 0 ∧ n = 2#32) ∨ (gi = 1 ∧ n = 4#32) ∨ (gi = 2 ∧ n = 8#32) ∨ (gi = 3 ∧ n = 16#32)) (x : EReal) :
    Ideal.div x (FloatOps.sitofp (F := Ideal) FTy.f32 n) = x * Ideal.ofBits FTy.f32 (inv gi) := by
  have hs : (FloatOps.sitofp (F := Ideal) FTy.f32 n : EReal) = ((n.toInt : ℝ) : EReal) := rfl
  rw [hs]
  rcases hn with ⟨rfl, rfl⟩ | ⟨rfl, rfl⟩ | ⟨rfl, rfl⟩ | ⟨rfl, rfl⟩
  · rw [show ((2#32 : BitVec 32).toInt : ℝ) = 2 by norm_num [show (2#32 : BitVec 32).toInt = 2 from rfl], Ideal.div_coe (by norm_num)]
    refine congrArg (x * ·) ?_
    simp [inv, Ideal.ofBits, Ideal.ieee]
    norm_num
    rw [← EReal.coe_mul]
    norm_num
  · rw [show ((4#32 : BitVec 32).toInt : ℝ) = 4 by norm_num [show (4#32 : BitVec 32).toInt = 4 from rfl], Ideal.div_coe (by norm_num)]
    refine congrArg (x * ·) ?_
    simp [inv, Ideal.ofBits, Ideal.ieee]
    norm_num
    rw [← EReal.coe_mul]
    norm_num
  · rw [show ((8#32 : BitVec 32).toInt : ℝ) = 8 by norm_num [show (8#32 : BitVec 32).toInt = 8 from rfl], Ideal.div_coe (by norm_num)]
    refine congrArg (x * ·) ?_
    simp [inv, Ideal.ofBits, Ideal.ieee]
    norm_num
    rw [← EReal.coe_mul]
    norm_num
  · rw [show ((16#32 : BitVec 32).toInt : ℝ) = 16 by norm_num [show (16#32 : BitVec 32).toInt = 16 from rfl], Ideal.div_coe (by norm_num)]
    refine congrArg (x * ·) ?_
    simp [inv, Ideal.ofBits, Ideal.ieee]
    norm_num
    rw [← EReal.coe_mul]
    norm_num

/-- The mean of a window taken from two running sums, less the current row, is the kernel's pooled value. -/
theorem pooled_eq (gi : Nat) (n : BitVec 32) (hn : (gi = 0 ∧ n = 2#32) ∨ (gi = 1 ∧ n = 4#32) ∨ (gi = 2 ∧ n = 8#32) ∨ (gi = 3 ∧ n = 16#32))
    (f : Nat → EReal) (hf : ∀ k, ∃ r : ℝ, f k = (r : EReal)) (p : EReal) (q : Fin 15 → EReal) (hp : p = f 15) (hq : ∀ k : Fin 15, q k = f k.val) (d : Nat) (hd : d = 15 - back gi) (hb : back gi ≤ 15) :
    Ideal.div (∑ k ∈ Finset.range 16, f k - ∑ k ∈ Finset.range d, f k) (FloatOps.sitofp (F := Ideal) FTy.f32 n) - p = pooled gi p q := by
  rw [hd, diff_eq f hf p q hp hq (back gi) hb, inv_eq gi n hn]
  rfl

end Cert.PoolRow
-- ==== Proof.PoolRow.Ref.lean ====
/-
  The reference's results read at an element.
-/
module

public import proofs.«01_k».proof.Proof.PoolRow.Array
public import proofs.«01_k».proof.Proof.PoolRow.Cumsum
public import proofs.«01_k».proof.Proof.PoolRow.Window
public import proofs.«01_k».proof.Proof.Gen.Reference8Ideal.Read
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.PoolRow

open Cert.Reference8Ideal Cert.Reference8Ideal.Read

theorem row_last (z : FVec Ideal ⟨2, ![32, 6144]⟩ .f32) (sp : FVec Ideal ⟨4, ![1, 32, 15, 1024]⟩ .f32) (R : Fin 32) (C : Fin 1024) (K : Fin 6144) (hK : K.val = 3072 + C.val) :
    z (ix2 R K) = rowOf z sp R C 15 := by
  unfold rowOf
  rw [dif_neg (by decide)]
  exact congrArg (fun k => z (ix2 R k)) (Fin.ext hK)

theorem row_old (z : FVec Ideal ⟨2, ![32, 6144]⟩ .f32) (sp : FVec Ideal ⟨4, ![1, 32, 15, 1024]⟩ .f32) (R : Fin 32) (C : Fin 1024) (k : Fin 15) :
    sp (ix4 0 R k C) = rowOf z sp R C k.val := by
  unfold rowOf
  rw [dif_pos k.isLt]

theorem div_congr {a a' b b' n n' p p' : EReal} (ha : a = a') (hb : b = b') (hn : n = n') (hp : p = p') : Ideal.div (a - b) n - p = Ideal.div (a' - b') n' - p' := by
  rw [ha, hb, hn, hp]

variable (z : Vec Ideal S32x6144 .f32) (sp : Vec Ideal S1x32x15x1024 .f32) (hf : ∀ R C k, ∃ r : ℝ, rowOf z sp R C k = (r : EReal))
include hf

theorem group0_apply (R : Fin 32) (c : Fin 256) : val_main_v28 (F := Ideal) z sp (ix3 R 0 c)
    = pooled 0 (z (ix2 R ⟨3072 + c.val, by omega⟩)) (fun k => sp (ix4 0 R k ⟨c.val, by omega⟩)) := by
  have h16 := sums_apply z sp R 16 ⟨c.val, by omega⟩
  have hlo := sums_apply z sp R 14 ⟨c.val, by omega⟩
  have hp := pooled_eq 0 2#32 (by decide) (rowOf z sp R ⟨c.val, by omega⟩) (hf R _) (z (ix2 R ⟨3072 + c.val, by omega⟩)) (fun k => sp (ix4 0 R k ⟨c.val, by omega⟩)) (row_last z sp R _ _ rfl) (fun k => row_old z sp R _ k) 14 (by decide) (by decide)
  rw [← hp]
  generalize hx : val_main_v11 (F := Ideal) z sp = x at h16 hlo
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_c, val_main_c_0, val_main_c_1, val_main_v2, val_main_v1, val_main_v0]
  rw [hx]
  exact div_congr h16 hlo (congrArg (FloatOps.sitofp (F := Ideal) FTy.f32) (by decide)) rfl

theorem group1_apply (R : Fin 32) (c : Fin 256) : val_main_v41 (F := Ideal) z sp (ix3 R 0 c)
    = pooled 1 (z (ix2 R ⟨3072 + (256 + c.val), by omega⟩)) (fun k => sp (ix4 0 R k ⟨256 + c.val, by omega⟩)) := by
  have h16 := sums_apply z sp R 16 ⟨256 + c.val, by omega⟩
  have hlo := sums_apply z sp R 12 ⟨256 + c.val, by omega⟩
  have hp := pooled_eq 1 4#32 (by decide) (rowOf z sp R ⟨256 + c.val, by omega⟩) (hf R _) (z (ix2 R ⟨3072 + (256 + c.val), by omega⟩)) (fun k => sp (ix4 0 R k ⟨256 + c.val, by omega⟩)) (row_last z sp R _ _ rfl) (fun k => row_old z sp R _ k) 12 (by decide) (by decide)
  rw [← hp]
  generalize hx : val_main_v11 (F := Ideal) z sp = x at h16 hlo
  pointwise [val_main_v41, val_main_v40, val_main_v39, val_main_v38, val_main_v37, val_main_v36, val_main_v35, val_main_v34, val_main_v33, val_main_v32, val_main_v31, val_main_v30, val_main_v29, val_main_v15, val_main_v14, val_main_v13, val_main_v12, val_main_c, val_main_c_2, val_main_c_3, val_main_v2, val_main_v1, val_main_v0]
  rw [hx]
  exact div_congr h16 hlo (congrArg (FloatOps.sitofp (F := Ideal) FTy.f32) (by decide)) rfl

theorem group2_apply (R : Fin 32) (c : Fin 256) : val_main_v54 (F := Ideal) z sp (ix3 R 0 c)
    = pooled 2 (z (ix2 R ⟨3072 + (512 + c.val), by omega⟩)) (fun k => sp (ix4 0 R k ⟨512 + c.val, by omega⟩)) := by
  have h16 := sums_apply z sp R 16 ⟨512 + c.val, by omega⟩
  have hlo := sums_apply z sp R 8 ⟨512 + c.val, by omega⟩
  have hp := pooled_eq 2 8#32 (by decide) (rowOf z sp R ⟨512 + c.val, by omega⟩) (hf R _) (z (ix2 R ⟨3072 + (512 + c.val), by omega⟩)) (fun k => sp (ix4 0 R k ⟨512 + c.val, by omega⟩)) (row_last z sp R _ _ rfl) (fun k => row_old z sp R _ k) 8 (by decide) (by decide)
  rw [← hp]
  generalize hx : val_main_v11 (F := Ideal) z sp = x at h16 hlo
  pointwise [val_main_v54, val_main_v53, val_main_v52, val_main_v51, val_main_v50, val_main_v49, val_main_v48, val_main_v47, val_main_v46, val_main_v45, val_main_v44, val_main_v43, val_main_v42, val_main_v15, val_main_v14, val_main_v13, val_main_v12, val_main_c, val_main_c_4, val_main_c_5, val_main_v2, val_main_v1, val_main_v0]
  rw [hx]
  exact div_congr h16 hlo (congrArg (FloatOps.sitofp (F := Ideal) FTy.f32) (by decide)) rfl

theorem group3_apply (R : Fin 32) (c : Fin 256) : val_main_v67 (F := Ideal) z sp (ix3 R 0 c)
    = pooled 3 (z (ix2 R ⟨3072 + (768 + c.val), by omega⟩)) (fun k => sp (ix4 0 R k ⟨768 + c.val, by omega⟩)) := by
  have h16 := sums_apply z sp R 16 ⟨768 + c.val, by omega⟩
  have hlo := sums_apply z sp R 0 ⟨768 + c.val, by omega⟩
  have hp := pooled_eq 3 16#32 (by decide) (rowOf z sp R ⟨768 + c.val, by omega⟩) (hf R _) (z (ix2 R ⟨3072 + (768 + c.val), by omega⟩)) (fun k => sp (ix4 0 R k ⟨768 + c.val, by omega⟩)) (row_last z sp R _ _ rfl) (fun k => row_old z sp R _ k) 0 (by decide) (by decide)
  rw [← hp]
  generalize hx : val_main_v11 (F := Ideal) z sp = x at h16 hlo
  pointwise [val_main_v67, val_main_v66, val_main_v65, val_main_v64, val_main_v63, val_main_v62, val_main_v61, val_main_v60, val_main_v59, val_main_v58, val_main_v57, val_main_v56, val_main_v55, val_main_v15, val_main_v14, val_main_v13, val_main_v12, val_main_c, val_main_c_6, val_main_c_7, val_main_v2, val_main_v1, val_main_v0]
  rw [hx]
  exact div_congr h16 hlo (congrArg (FloatOps.sitofp (F := Ideal) FTy.f32) (by decide)) rfl

omit hf in
theorem pooled_at (gi : Nat) (R : Fin 32) (n n' : Nat) (h : n < 1024) (h' : n' < 1024) (e : n = n') :
    pooled gi (z (ix2 R ⟨3072 + n, by omega⟩)) (fun k => sp (ix4 0 R k ⟨n, h⟩)) = pooled gi (z (ix2 R ⟨3072 + n', by omega⟩)) (fun k => sp (ix4 0 R k ⟨n', h'⟩)) := by
  subst e
  rfl

theorem pooled_apply (R : Fin 32) (gi : Fin 4) (c : Fin 256) : val_main_v72 (F := Ideal) z sp (ix4 R 0 gi c)
    = pooled gi.val (z (ix2 R ⟨3072 + (gi.val * 256 + c.val), by omega⟩)) (fun k => sp (ix4 0 R k ⟨gi.val * 256 + c.val, by omega⟩)) := by
  have h0 := group0_apply z sp hf R c
  have h1 := group1_apply z sp hf R c
  have h2 := group2_apply z sp hf R c
  have h3 := group3_apply z sp hf R c
  pointwise [val_main_v72, val_main_v71, val_main_v70, val_main_v69, val_main_v68]
  rcases (by omega : gi = 0 ∨ gi = 1 ∨ gi = 2 ∨ gi = 3) with rfl | rfl | rfl | rfl
  · exact h0.trans (pooled_at z sp 0 R _ _ _ _ (by show c.val = 0 * 256 + c.val; omega))
  · exact h1.trans (pooled_at z sp 1 R _ _ _ _ (by show 256 + c.val = 1 * 256 + c.val; omega))
  · exact h2.trans (pooled_at z sp 2 R _ _ _ _ (by show 512 + c.val = 2 * 256 + c.val; omega))
  · exact h3.trans (pooled_at z sp 3 R _ _ _ _ (by show 768 + c.val = 3 * 256 + c.val; omega))

omit hf in
theorem mixed_apply (w : Vec Ideal S1x4x256x256 .f32) (R : Fin 32) (C : Fin 1024) : val_main_v75 (F := Ideal) z sp w (ix3 R 0 C)
    = ∑ x : Fin 256, val_main_v72 (F := Ideal) z sp (ix4 R 0 ⟨C.val / 256, by omega⟩ x) * w (ix4 0 ⟨C.val / 256, by omega⟩ x ⟨C.val % 256, by omega⟩) := by
  pointwise [val_main_v75, val_main_v74, val_main_v73, val_main_v5]
  exact Finset.sum_congr rfl fun x _ => mul_comm _ _

omit hf in
theorem gate_apply (R : Fin 32) (C : Fin 2048) : val_main_v82 (F := Ideal) z (ix3 R 0 C) = z (ix2 R ⟨4096 + C.val, by omega⟩) * Ideal.logistic (z (ix2 R ⟨4096 + C.val, by omega⟩)) := by
  pointwise [val_main_v82, val_main_call1_v5, val_main_call1_v4, val_main_call1_cst_0, val_main_call1_v3, val_main_call1_v2, val_main_call1_cst, val_main_call1_v1, val_main_call1_v0, val_main_v3, val_main_v1, val_main_v0, Ideal.logistic]
  exact congrArg (fun k => z (ix2 R k) * Ideal.div 1 (1 + Ideal.exp (-z (ix2 R k)))) (Fin.ext (by dsimp only; omega))

omit hf in
theorem state_apply (R : Fin 32) (k : Fin 15) (C : Fin 1024) : val_main_v86 (F := Ideal) z sp (ix4 0 R k C) = stateOf z sp R k C := by
  have h := rows_apply z sp R ⟨1 + k.val, by omega⟩ C
  generalize hy : val_main_v7 (F := Ideal) z sp = y at h
  pointwise [val_main_v86, val_main_v79]
  rw [hy]
  refine h.trans ?_
  unfold rowOf stateOf
  by_cases hk : k.val < 14
  · rw [dif_pos hk, dif_pos (by dsimp only; omega)]
    exact congrArg (fun j => sp (ix4 0 R j C)) (Fin.ext (Nat.add_comm 1 k.val))
  · rw [dif_neg hk, dif_neg (by dsimp only; omega)]

theorem out_apply (oa : Vec Ideal S32x1024 .f32) (w : Vec Ideal S1x4x256x256 .f32) (sc : Vec Ideal S1x1024 .f32) (R : Fin 32) (C : Fin 2048) :
    val_main_v85 (F := Ideal) z oa sp w sc (ix2 R C) = outOf z oa sp w sc R C := by
  have hm := fun C' => mixed_apply z sp w R C'
  have hg := gate_apply z R C
  generalize hy : val_main_v75 (F := Ideal) z sp w = y at hm
  generalize hu : val_main_v82 (F := Ideal) z = u at hg
  pointwise [val_main_v85, val_main_v84, val_main_v83, val_main_v81, val_main_v80, val_main_v78, val_main_v77, val_main_v76, val_main_v6]
  rw [hy, hu]
  unfold outOf
  by_cases hC : C.val < 1024
  · rw [dif_pos hC, dif_pos hC, hg]
  · rw [dif_neg hC, dif_neg hC, hg, hm]
    refine congrArg (fun t => t * _ * _) (Finset.sum_congr rfl fun x _ => ?_)
    rw [pooled_apply z sp hf]

end Cert.PoolRow
-- ==== Proof.PoolRow.Tie.lean ====
/-
  The sample's mixed sequences with their pooling: the reference's results are the kernel's, over finite rows.
-/
module

public import proofs.«01_k».proof.Defs
public import proofs.«01_k».proof.Proof.PoolRow.Ref
public import proofs.«01_k».proof.Proof.Gen.Reference8Ideal.Run
public import proofs.«01_k».proof.Proof.Gen.Pre_pool_rows_finite
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.PoolRow

/-- A value less in size than infinity is a real number. -/
theorem real_of_olt (x : EReal) (h : FloatOps.cmpf (F := Ideal) (φ := .f32) .olt (FloatOps.hostAbsf (F := Ideal) (φ := .f32) x) (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

theorem rows_finite (z : FVec Ideal ⟨2, ![32, 6144]⟩ .f32) (oa : FVec Ideal ⟨2, ![32, 1024]⟩ .f32) (sp : FVec Ideal ⟨4, ![1, 32, 15, 1024]⟩ .f32) (w : FVec Ideal ⟨4, ![1, 4, 256, 256]⟩ .f32) (sc : FVec Ideal ⟨2, ![1, 1024]⟩ .f32)
    (h : Cert.Pre_pool_rows_finite.fn (F := Ideal) z oa sp w sc = fun _ => 1#1) (R : Fin 32) (C : Fin 1024) (k : Nat) : ∃ r : ℝ, rowOf z sp R C k = (r : EReal) := by
  refine real_of_olt _ ?_
  have hk := congrFun h (ix3 R ⟨min k 15, by omega⟩ C)
  refine Eq.trans ?_ hk
  unfold Cert.Pre_pool_rows_finite.fn
  pointwise [rowOf]
  by_cases h15 : k < 15
  · rw [dif_pos h15, dif_pos (by omega)]
    exact congrArg (fun j => BitVec.ofBool (decide (FloatOps.absf (F := Ideal) (φ := FTy.f32) (sp (ix4 0 R j C)) < Ideal.ofBits FTy.f32 0x7F800000#32))) (Fin.ext (by dsimp only; omega))
  · rw [dif_neg h15, dif_neg (by omega)]

open Cert.Kernel8Ideal Cert.Kernel8Ideal.Gen

theorem algebraic : Cert.algebraic_Kernel8Ideal_Reference8Ideal_pre_pool_rows_finite := by
  intro m g m' g' hpre hagree
  refine ⟨fun c => G6 m c, fun c => stateTerm (zA m c) (spA m c), ?_, ?_⟩
  · exact kernel_run m g
  · refine (θ_run _ _ _).mono (fun r h c => ?_) (Cert.Reference8Ideal.Value.run (F := Ideal) m' g')
    obtain ⟨h6, h7, ha⟩ := h c
    obtain ⟨e0, e1, e2, e3, e4⟩ := hagree c
    have hf := rows_finite _ _ _ _ _ (hpre c)
    refine ⟨?_, ?_, ha⟩
    · funext i
      obtain ⟨R, C, rfl⟩ : ∃ (R : Fin 32) (C : Fin 2048), i = ix2 R C := ⟨i 0, i 1, eq_ix2 i⟩
      rw [h6, Cert.Reference8Ideal.Read.val_main_v85_eq, e0, e1, e2, e3, e4]
      exact out_apply _ _ hf _ _ _ R C
    · funext i
      obtain ⟨a, R, k, C, rfl⟩ : ∃ (a : Fin 1) (R : Fin 32) (k : Fin 15) (C : Fin 1024), i = ix4 a R k C := ⟨i 0, i 1, i 2, i 3, eq_ix4 i⟩
      obtain rfl : a = 0 := Subsingleton.elim _ _
      rw [h7, Cert.Reference8Ideal.Read.val_main_v86_eq, e0, e2]
      exact (state_apply _ _ R k C).trans (stateTerm_apply _ _ R k C).symm

end Cert.PoolRow
-- ==== Proof.lean ====
/-
  The proof of `Cert.Claim`: the frames of each kernel, of its ideal reading and of its reference, and the equality of
  the results of the two ideal programs of a call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_projected
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.On_projected_sample
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_pool_rows_finite
public import proofs.«01_k».proof.Proof.InProj.Tie
public import proofs.«01_k».proof.Proof.CInProj.Tie
public import proofs.«01_k».proof.Proof.OutProj.Value
public import proofs.«01_k».proof.Proof.Gate.Tie
public import proofs.«01_k».proof.Proof.GateRow.Tie
public import proofs.«01_k».proof.Proof.InProjRow.Tie
public import proofs.«01_k».proof.Proof.OutProjRow.Value
public import proofs.«01_k».proof.Proof.PoolRow.Tie
public import Idealize.ShloMosaic.Adequacy
public import Idealize.ShloMosaic.Init

@[expose] public section

noncomputable section

namespace Cert.Proof

open Idealize.ShloMosaic Idealize.SL.Sem Cert.Kernel

theorem frames : Cert.quiescent_Kernel ∧ Cert.quiescent_KernelIdeal :=
  ⟨fun m g _ => Cert.Kernel.Gen.frame m g, fun m g _ => Cert.KernelIdeal.Gen.frame m g⟩

theorem frame_ref : Cert.quiescent_ReferenceIdeal := by
  intro m g _
  exact (θ_run _ _ _).mono (fun r h => ⟨fun c => (h c).2.2, sem_eq_zero_of_no_sems (by decide) r.2⟩) (Cert.ReferenceIdeal.Value.run (F := Ideal) m g)

theorem algebraic : Cert.algebraic_KernelIdeal_ReferenceIdeal_on_projected := by
  intro m g m' g' _ hagree
  refine ⟨fun c => Cert.KernelIdeal.InProj.G4 m c, fun c => Cert.KernelIdeal.InProj.G5 m c, ?_, ?_⟩
  · refine (θ_run _ _ _).mono (fun r h c => ?_) (Cert.KernelIdeal.Value.run_blocks (F := Ideal) m g)
    obtain ⟨h4, h5, ha⟩ := h c
    exact ⟨fun i _ => by rw [h4, Cert.KernelIdeal.InProj.final4], fun i _ => by rw [h5, Cert.KernelIdeal.InProj.final5], ha⟩
  · refine (θ_run _ _ _).mono (fun r h c => ?_) (Cert.ReferenceIdeal.Value.run (F := Ideal) m' g')
    obtain ⟨h4, h5, ha⟩ := h c
    obtain ⟨e0, e1, e2, e3, e4⟩ := hagree c
    refine ⟨fun i _ => ?_, fun i hi => ?_, ha⟩
    · obtain ⟨R, C, rfl⟩ : ∃ (R : Fin 8192) (C : Fin 6144), i = ix2 R C := ⟨i 0, i 1, eq_ix2 i⟩
      rw [h4, Cert.ReferenceIdeal.Read.val_main_v57_eq, e0, e1, e2, e3, e4]
      refine (Cert.ReferenceIdeal.InProj.ref57 _ _ _ _ _ R C).trans ?_
      exact (Cert.InProj.out_tie m c R C).symm
    · obtain ⟨R, C, rfl⟩ : ∃ (R : Fin 8192) (C : Fin 4096), i = ix2 R C := ⟨i 0, i 1, eq_ix2 i⟩
      have hC := Cert.InProj.mask5 _ _ _ _ _ R C hi
      rw [h5, Cert.ReferenceIdeal.Read.val_main_v61_eq, e0, e1, e2, e3, e4]
      refine (Cert.ReferenceIdeal.InProj.ref61 _ _ _ _ _ R C hC).trans ?_
      exact (Cert.InProj.out_tie m c R _).symm.trans (Cert.KernelIdeal.InProj.G5_lt m c R C hC).symm

theorem frames2 : Cert.quiescent_Kernel2 ∧ Cert.quiescent_Kernel2Ideal :=
  ⟨fun m g _ => Cert.Kernel2.Gen.frame m g, fun m g _ => Cert.Kernel2Ideal.Gen.frame m g⟩

theorem frame_ref2 : Cert.quiescent_Reference2Ideal := by
  intro m g _
  exact (θ_run _ _ _).mono (fun r h => ⟨fun c => (h c).2, sem_eq_zero_of_no_sems (by decide) r.2⟩) (Cert.Reference2Ideal.Value.run (F := Ideal) m g)

theorem frames3 : Cert.quiescent_Kernel3 ∧ Cert.quiescent_Kernel3Ideal :=
  ⟨fun m g _ => Cert.Kernel3.Gen.frame m g, fun m g _ => Cert.Kernel3Ideal.Gen.frame m g⟩

theorem frame_ref3 : Cert.quiescent_Reference3Ideal := by
  intro m g _
  exact (θ_run _ _ _).mono (fun r h => ⟨fun c => (h c).2, sem_eq_zero_of_no_sems (by decide) r.2⟩) (Cert.Reference3Ideal.Value.run (F := Ideal) m g)

theorem frames4 : Cert.quiescent_Kernel4 ∧ Cert.quiescent_Kernel4Ideal :=
  ⟨fun m g _ => Cert.Kernel4.Gen.frame m g, fun m g _ => Cert.Kernel4Ideal.Gen.frame m g⟩

theorem frame_ref4 : Cert.quiescent_Reference4Ideal := by
  intro m g _
  exact (θ_run _ _ _).mono (fun r h => ⟨fun c => (h c).2.2, sem_eq_zero_of_no_sems (by decide) r.2⟩) (Cert.Reference4Ideal.Value.run (F := Ideal) m g)

theorem frames5 : Cert.quiescent_Kernel5 ∧ Cert.quiescent_Kernel5Ideal :=
  ⟨fun m g _ => Cert.Kernel5.Gen.frame m g, fun m g _ => Cert.Kernel5Ideal.Gen.frame m g⟩

theorem frame_ref5 : Cert.quiescent_Reference5Ideal := by
  intro m g _
  exact (θ_run _ _ _).mono (fun r h => ⟨fun c => (h c).2.2, sem_eq_zero_of_no_sems (by decide) r.2⟩) (Cert.Reference5Ideal.Value.run (F := Ideal) m g)

theorem frames6 : Cert.quiescent_Kernel6 ∧ Cert.quiescent_Kernel6Ideal :=
  ⟨fun m g _ => Cert.Kernel6.Gen.frame m g, fun m g _ => Cert.Kernel6Ideal.Gen.frame m g⟩

theorem frame_ref6 : Cert.quiescent_Reference6Ideal := by
  intro m g _
  exact (θ_run _ _ _).mono (fun r h => ⟨fun c => (h c).2.2.2, sem_eq_zero_of_no_sems (by decide) r.2⟩) (Cert.Reference6Ideal.Value.run (F := Ideal) m g)

theorem frames7 : Cert.quiescent_Kernel7 ∧ Cert.quiescent_Kernel7Ideal :=
  ⟨fun m g _ => Cert.Kernel7.Gen.frame m g, fun m g _ => Cert.Kernel7Ideal.Gen.frame m g⟩

theorem frame_ref7 : Cert.quiescent_Reference7Ideal := by
  intro m g _
  exact (θ_run _ _ _).mono (fun r h => ⟨fun c => (h c).2.2, sem_eq_zero_of_no_sems (by decide) r.2⟩) (Cert.Reference7Ideal.Value.run (F := Ideal) m g)

theorem frames8 : Cert.quiescent_Kernel8 ∧ Cert.quiescent_Kernel8Ideal ∧ Cert.quiescent_Kernel8Ideal_pre_pool_rows_finite :=
  ⟨fun m g _ => Cert.Kernel8.Gen.frame m g, fun m g _ => Cert.Kernel8Ideal.Gen.frame m g, fun m g _ => Cert.Kernel8Ideal.Gen.frame m g⟩

theorem frame_ref8 : Cert.quiescent_Reference8Ideal := by
  intro m g _
  exact (θ_run _ _ _).mono (fun r h => ⟨fun c => (h c).2.2, sem_eq_zero_of_no_sems (by decide) r.2⟩) (Cert.Reference8Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_pool_rows_finite.Gen.facts,
  Cert.On_projected.Gen.facts, Cert.On_projected_sample.Gen.facts,
  frames.1, frames.2, frame_ref, frames2.1, frames2.2, frame_ref2, frames3.1, frames3.2, frame_ref3, frames4.1, frames4.2, frame_ref4,
  frames5.1, frames5.2, frame_ref5, frames6.1, frames6.2, frame_ref6, frames7.1, frames7.2, frame_ref7,
  frames8.1, frames8.2.1, frames8.2.2, frame_ref8, fun m g _ => frame_ref8 m g trivial,
  trivial, algebraic, trivial, Cert.CInProj.algebraic, trivial, Cert.OutProj.algebraic, trivial, Cert.Gate.algebraic,
  trivial, Cert.GateRow.algebraic, trivial, Cert.InProjRow.algebraic, trivial, Cert.OutProjRow.algebraic,
  trivial, Cert.PoolRow.algebraic⟩

end Cert.Proof

end
